-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelRet (m : (ℓ : Loc Cert.KernelRet.nD Cert.KernelRet.τ Cert.KernelRet.sig) → Buf (Elt Bits) ℓ) : Prop :=
  True

def Pre_KernelRetIdeal (m : (ℓ : Loc Cert.KernelRetIdeal.nD Cert.KernelRetIdeal.τ Cert.KernelRetIdeal.sig) → Buf (Elt Ideal) ℓ) : Prop :=
  True

def Pre_KernelRetIdeal_finite_ret [hPre_finite_ret : Cert.Pre_finite_ret.Facts] (m : (ℓ : Loc Cert.KernelRetIdeal.nD Cert.KernelRetIdeal.τ Cert.KernelRetIdeal.sig) → Buf (Elt Ideal) ℓ) : Prop :=
  ∀ c : Dev Cert.KernelRetIdeal.nD,
    (Cert.Pre_finite_ret.fn (F := Ideal) (m ((c.tc : Thread Cert.KernelRetIdeal.nD Cert.KernelRetIdeal.τ).loc Cert.KernelRetIdeal.main_arg0)) (m ((c.tc : Thread Cert.KernelRetIdeal.nD Cert.KernelRetIdeal.τ).loc Cert.KernelRetIdeal.main_arg1)) (m ((c.tc : Thread Cert.KernelRetIdeal.nD Cert.KernelRetIdeal.τ).loc Cert.KernelRetIdeal.main_arg2)) (m ((c.tc : Thread Cert.KernelRetIdeal.nD Cert.KernelRetIdeal.τ).loc Cert.KernelRetIdeal.main_arg3)) (m ((c.tc : Thread Cert.KernelRetIdeal.nD Cert.KernelRetIdeal.τ).loc Cert.KernelRetIdeal.main_arg4))) = (fun _ => 1#1)

def Pre_ReferenceRetIdeal (m : (ℓ : Loc Cert.ReferenceRetIdeal.nD Cert.ReferenceRetIdeal.τ Cert.ReferenceRetIdeal.sig) → Buf (Elt Ideal) ℓ) : Prop :=
  True

def Pre_ReferenceRetIdeal_finite_ret [hPre_finite_ret : Cert.Pre_finite_ret.Facts] (m : (ℓ : Loc Cert.ReferenceRetIdeal.nD Cert.ReferenceRetIdeal.τ Cert.ReferenceRetIdeal.sig) → Buf (Elt Ideal) ℓ) : Prop :=
  ∀ c : Dev Cert.ReferenceRetIdeal.nD,
    (Cert.Pre_finite_ret.fn (F := Ideal) (m ((c.tc : Thread Cert.ReferenceRetIdeal.nD Cert.ReferenceRetIdeal.τ).loc Cert.ReferenceRetIdeal.main_arg0)) (m ((c.tc : Thread Cert.ReferenceRetIdeal.nD Cert.ReferenceRetIdeal.τ).loc Cert.ReferenceRetIdeal.main_arg1)) (m ((c.tc : Thread Cert.ReferenceRetIdeal.nD Cert.ReferenceRetIdeal.τ).loc Cert.ReferenceRetIdeal.main_arg2)) (m ((c.tc : Thread Cert.ReferenceRetIdeal.nD Cert.ReferenceRetIdeal.τ).loc Cert.ReferenceRetIdeal.main_arg3)) (m ((c.tc : Thread Cert.ReferenceRetIdeal.nD Cert.ReferenceRetIdeal.τ).loc Cert.ReferenceRetIdeal.main_arg4))) = (fun _ => 1#1)

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelRet [hKernelRet : Cert.KernelRet.Facts] : Prop :=
  ∀ (m : (ℓ : Loc Cert.KernelRet.nD Cert.KernelRet.τ Cert.KernelRet.sig) → Buf (Elt Bits) ℓ) (g : Dev Cert.KernelRet.nD → PrngReg), Pre_KernelRet m →
    θ_run (Cert.KernelRet.defs (F := Bits)) (onTc (τ := Cert.KernelRet.τ) (Cert.KernelRet.main (F := Bits))) ⟨m, fun _ => 0, g⟩ (fun r => (∀ c : Dev Cert.KernelRet.nD,
      r.2.mem ((c.tc : Thread Cert.KernelRet.nD Cert.KernelRet.τ).loc Cert.KernelRet.main_arg0) = m ((c.tc : Thread Cert.KernelRet.nD Cert.KernelRet.τ).loc Cert.KernelRet.main_arg0)
      ∧ r.2.mem ((c.tc : Thread Cert.KernelRet.nD Cert.KernelRet.τ).loc Cert.KernelRet.main_arg1) = m ((c.tc : Thread Cert.KernelRet.nD Cert.KernelRet.τ).loc Cert.KernelRet.main_arg1)
      ∧ r.2.mem ((c.tc : Thread Cert.KernelRet.nD Cert.KernelRet.τ).loc Cert.KernelRet.main_arg2) = m ((c.tc : Thread Cert.KernelRet.nD Cert.KernelRet.τ).loc Cert.KernelRet.main_arg2)
      ∧ r.2.mem ((c.tc : Thread Cert.KernelRet.nD Cert.KernelRet.τ).loc Cert.KernelRet.main_arg3) = m ((c.tc : Thread Cert.KernelRet.nD Cert.KernelRet.τ).loc Cert.KernelRet.main_arg3)
      ∧ r.2.mem ((c.tc : Thread Cert.KernelRet.nD Cert.KernelRet.τ).loc Cert.KernelRet.main_arg4) = m ((c.tc : Thread Cert.KernelRet.nD Cert.KernelRet.τ).loc Cert.KernelRet.main_arg4))
      ∧ r.2.sem = fun _ => 0)

def quiescent_KernelRetIdeal [hKernelRetIdeal : Cert.KernelRetIdeal.Facts] : Prop :=
  ∀ (m : (ℓ : Loc Cert.KernelRetIdeal.nD Cert.KernelRetIdeal.τ Cert.KernelRetIdeal.sig) → Buf (Elt Ideal) ℓ) (g : Dev Cert.KernelRetIdeal.nD → PrngReg), Pre_KernelRetIdeal m →
    θ_run (Cert.KernelRetIdeal.defs (F := Ideal)) (onTc (τ := Cert.KernelRetIdeal.τ) (Cert.KernelRetIdeal.main (F := Ideal))) ⟨m, fun _ => 0, g⟩ (fun r => (∀ c : Dev Cert.KernelRetIdeal.nD,
      r.2.mem ((c.tc : Thread Cert.KernelRetIdeal.nD Cert.KernelRetIdeal.τ).loc Cert.KernelRetIdeal.main_arg0) = m ((c.tc : Thread Cert.KernelRetIdeal.nD Cert.KernelRetIdeal.τ).loc Cert.KernelRetIdeal.main_arg0)
      ∧ r.2.mem ((c.tc : Thread Cert.KernelRetIdeal.nD Cert.KernelRetIdeal.τ).loc Cert.KernelRetIdeal.main_arg1) = m ((c.tc : Thread Cert.KernelRetIdeal.nD Cert.KernelRetIdeal.τ).loc Cert.KernelRetIdeal.main_arg1)
      ∧ r.2.mem ((c.tc : Thread Cert.KernelRetIdeal.nD Cert.KernelRetIdeal.τ).loc Cert.KernelRetIdeal.main_arg2) = m ((c.tc : Thread Cert.KernelRetIdeal.nD Cert.KernelRetIdeal.τ).loc Cert.KernelRetIdeal.main_arg2)
      ∧ r.2.mem ((c.tc : Thread Cert.KernelRetIdeal.nD Cert.KernelRetIdeal.τ).loc Cert.KernelRetIdeal.main_arg3) = m ((c.tc : Thread Cert.KernelRetIdeal.nD Cert.KernelRetIdeal.τ).loc Cert.KernelRetIdeal.main_arg3)
      ∧ r.2.mem ((c.tc : Thread Cert.KernelRetIdeal.nD Cert.KernelRetIdeal.τ).loc Cert.KernelRetIdeal.main_arg4) = m ((c.tc : Thread Cert.KernelRetIdeal.nD Cert.KernelRetIdeal.τ).loc Cert.KernelRetIdeal.main_arg4))
      ∧ r.2.sem = fun _ => 0)

def quiescent_KernelRetIdeal_pre_finite_ret [hKernelRetIdeal : Cert.KernelRetIdeal.Facts] [hPre_finite_ret : Cert.Pre_finite_ret.Facts] : Prop :=
  ∀ (m : (ℓ : Loc Cert.KernelRetIdeal.nD Cert.KernelRetIdeal.τ Cert.KernelRetIdeal.sig) → Buf (Elt Ideal) ℓ) (g : Dev Cert.KernelRetIdeal.nD → PrngReg), Pre_KernelRetIdeal_finite_ret m →
    θ_run (Cert.KernelRetIdeal.defs (F := Ideal)) (onTc (τ := Cert.KernelRetIdeal.τ) (Cert.KernelRetIdeal.main (F := Ideal))) ⟨m, fun _ => 0, g⟩ (fun r => (∀ c : Dev Cert.KernelRetIdeal.nD,
      r.2.mem ((c.tc : Thread Cert.KernelRetIdeal.nD Cert.KernelRetIdeal.τ).loc Cert.KernelRetIdeal.main_arg0) = m ((c.tc : Thread Cert.KernelRetIdeal.nD Cert.KernelRetIdeal.τ).loc Cert.KernelRetIdeal.main_arg0)
      ∧ r.2.mem ((c.tc : Thread Cert.KernelRetIdeal.nD Cert.KernelRetIdeal.τ).loc Cert.KernelRetIdeal.main_arg1) = m ((c.tc : Thread Cert.KernelRetIdeal.nD Cert.KernelRetIdeal.τ).loc Cert.KernelRetIdeal.main_arg1)
      ∧ r.2.mem ((c.tc : Thread Cert.KernelRetIdeal.nD Cert.KernelRetIdeal.τ).loc Cert.KernelRetIdeal.main_arg2) = m ((c.tc : Thread Cert.KernelRetIdeal.nD Cert.KernelRetIdeal.τ).loc Cert.KernelRetIdeal.main_arg2)
      ∧ r.2.mem ((c.tc : Thread Cert.KernelRetIdeal.nD Cert.KernelRetIdeal.τ).loc Cert.KernelRetIdeal.main_arg3) = m ((c.tc : Thread Cert.KernelRetIdeal.nD Cert.KernelRetIdeal.τ).loc Cert.KernelRetIdeal.main_arg3)
      ∧ r.2.mem ((c.tc : Thread Cert.KernelRetIdeal.nD Cert.KernelRetIdeal.τ).loc Cert.KernelRetIdeal.main_arg4) = m ((c.tc : Thread Cert.KernelRetIdeal.nD Cert.KernelRetIdeal.τ).loc Cert.KernelRetIdeal.main_arg4))
      ∧ r.2.sem = fun _ => 0)

def quiescent_ReferenceRetIdeal [hReferenceRetIdeal : Cert.ReferenceRetIdeal.Facts] : Prop :=
  ∀ (m : (ℓ : Loc Cert.ReferenceRetIdeal.nD Cert.ReferenceRetIdeal.τ Cert.ReferenceRetIdeal.sig) → Buf (Elt Ideal) ℓ) (g : Dev Cert.ReferenceRetIdeal.nD → PrngReg), Pre_ReferenceRetIdeal m →
    θ_run (Cert.ReferenceRetIdeal.defs (F := Ideal)) (onTc (τ := Cert.ReferenceRetIdeal.τ) (Cert.ReferenceRetIdeal.main (F := Ideal))) ⟨m, fun _ => 0, g⟩ (fun r => (∀ c : Dev Cert.ReferenceRetIdeal.nD,
      r.2.mem ((c.tc : Thread Cert.ReferenceRetIdeal.nD Cert.ReferenceRetIdeal.τ).loc Cert.ReferenceRetIdeal.main_arg0) = m ((c.tc : Thread Cert.ReferenceRetIdeal.nD Cert.ReferenceRetIdeal.τ).loc Cert.ReferenceRetIdeal.main_arg0)
      ∧ r.2.mem ((c.tc : Thread Cert.ReferenceRetIdeal.nD Cert.ReferenceRetIdeal.τ).loc Cert.ReferenceRetIdeal.main_arg1) = m ((c.tc : Thread Cert.ReferenceRetIdeal.nD Cert.ReferenceRetIdeal.τ).loc Cert.ReferenceRetIdeal.main_arg1)
      ∧ r.2.mem ((c.tc : Thread Cert.ReferenceRetIdeal.nD Cert.ReferenceRetIdeal.τ).loc Cert.ReferenceRetIdeal.main_arg2) = m ((c.tc : Thread Cert.ReferenceRetIdeal.nD Cert.ReferenceRetIdeal.τ).loc Cert.ReferenceRetIdeal.main_arg2)
      ∧ r.2.mem ((c.tc : Thread Cert.ReferenceRetIdeal.nD Cert.ReferenceRetIdeal.τ).loc Cert.ReferenceRetIdeal.main_arg3) = m ((c.tc : Thread Cert.ReferenceRetIdeal.nD Cert.ReferenceRetIdeal.τ).loc Cert.ReferenceRetIdeal.main_arg3)
      ∧ r.2.mem ((c.tc : Thread Cert.ReferenceRetIdeal.nD Cert.ReferenceRetIdeal.τ).loc Cert.ReferenceRetIdeal.main_arg4) = m ((c.tc : Thread Cert.ReferenceRetIdeal.nD Cert.ReferenceRetIdeal.τ).loc Cert.ReferenceRetIdeal.main_arg4))
      ∧ r.2.sem = fun _ => 0)

def quiescent_ReferenceRetIdeal_pre_finite_ret [hReferenceRetIdeal : Cert.ReferenceRetIdeal.Facts] [hPre_finite_ret : Cert.Pre_finite_ret.Facts] : Prop :=
  ∀ (m : (ℓ : Loc Cert.ReferenceRetIdeal.nD Cert.ReferenceRetIdeal.τ Cert.ReferenceRetIdeal.sig) → Buf (Elt Ideal) ℓ) (g : Dev Cert.ReferenceRetIdeal.nD → PrngReg), Pre_ReferenceRetIdeal_finite_ret m →
    θ_run (Cert.ReferenceRetIdeal.defs (F := Ideal)) (onTc (τ := Cert.ReferenceRetIdeal.τ) (Cert.ReferenceRetIdeal.main (F := Ideal))) ⟨m, fun _ => 0, g⟩ (fun r => (∀ c : Dev Cert.ReferenceRetIdeal.nD,
      r.2.mem ((c.tc : Thread Cert.ReferenceRetIdeal.nD Cert.ReferenceRetIdeal.τ).loc Cert.ReferenceRetIdeal.main_arg0) = m ((c.tc : Thread Cert.ReferenceRetIdeal.nD Cert.ReferenceRetIdeal.τ).loc Cert.ReferenceRetIdeal.main_arg0)
      ∧ r.2.mem ((c.tc : Thread Cert.ReferenceRetIdeal.nD Cert.ReferenceRetIdeal.τ).loc Cert.ReferenceRetIdeal.main_arg1) = m ((c.tc : Thread Cert.ReferenceRetIdeal.nD Cert.ReferenceRetIdeal.τ).loc Cert.ReferenceRetIdeal.main_arg1)
      ∧ r.2.mem ((c.tc : Thread Cert.ReferenceRetIdeal.nD Cert.ReferenceRetIdeal.τ).loc Cert.ReferenceRetIdeal.main_arg2) = m ((c.tc : Thread Cert.ReferenceRetIdeal.nD Cert.ReferenceRetIdeal.τ).loc Cert.ReferenceRetIdeal.main_arg2)
      ∧ r.2.mem ((c.tc : Thread Cert.ReferenceRetIdeal.nD Cert.ReferenceRetIdeal.τ).loc Cert.ReferenceRetIdeal.main_arg3) = m ((c.tc : Thread Cert.ReferenceRetIdeal.nD Cert.ReferenceRetIdeal.τ).loc Cert.ReferenceRetIdeal.main_arg3)
      ∧ r.2.mem ((c.tc : Thread Cert.ReferenceRetIdeal.nD Cert.ReferenceRetIdeal.τ).loc Cert.ReferenceRetIdeal.main_arg4) = m ((c.tc : Thread Cert.ReferenceRetIdeal.nD Cert.ReferenceRetIdeal.τ).loc Cert.ReferenceRetIdeal.main_arg4))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2)
      ∧ r.2.mem ((c.tc : Thread Cert.KernelProj.nD Cert.KernelProj.τ).loc Cert.KernelProj.main_arg3) = m ((c.tc : Thread Cert.KernelProj.nD Cert.KernelProj.τ).loc Cert.KernelProj.main_arg3))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v71_0)) (v1 : (c : Dev Cert.KernelIdeal.nD) → Buf (Elt Ideal) ((c.tc : Thread Cert.KernelIdeal.nD Cert.KernelIdeal.τ).loc Cert.KernelIdeal.main_v74)) (v2 : (c : Dev Cert.KernelIdeal.nD) → Buf (Elt Ideal) ((c.tc : Thread Cert.KernelIdeal.nD Cert.KernelIdeal.τ).loc Cert.KernelIdeal.main_v71_2)) (v3 : (c : Dev Cert.KernelIdeal.nD) → Buf (Elt Ideal) ((c.tc : Thread Cert.KernelIdeal.nD Cert.KernelIdeal.τ).loc Cert.KernelIdeal.main_v75)) (v4 : (c : Dev Cert.KernelIdeal.nD) → Buf (Elt Ideal) ((c.tc : Thread Cert.KernelIdeal.nD Cert.KernelIdeal.τ).loc Cert.KernelIdeal.main_v76)) (v5 : (c : Dev Cert.KernelIdeal.nD) → Buf (Elt Ideal) ((c.tc : Thread Cert.KernelIdeal.nD Cert.KernelIdeal.τ).loc Cert.KernelIdeal.main_v79)) (v6 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71_0) = v0 c
          ∧ r.2.mem ((c.tc : Thread Cert.KernelIdeal.nD Cert.KernelIdeal.τ).loc Cert.KernelIdeal.main_v74) = v1 c
          ∧ r.2.mem ((c.tc : Thread Cert.KernelIdeal.nD Cert.KernelIdeal.τ).loc Cert.KernelIdeal.main_v71_2) = v2 c
          ∧ r.2.mem ((c.tc : Thread Cert.KernelIdeal.nD Cert.KernelIdeal.τ).loc Cert.KernelIdeal.main_v75) = v3 c
          ∧ r.2.mem ((c.tc : Thread Cert.KernelIdeal.nD Cert.KernelIdeal.τ).loc Cert.KernelIdeal.main_v76) = v4 c
          ∧ r.2.mem ((c.tc : Thread Cert.KernelIdeal.nD Cert.KernelIdeal.τ).loc Cert.KernelIdeal.main_v79) = v5 c
          ∧ r.2.mem ((c.tc : Thread Cert.KernelIdeal.nD Cert.KernelIdeal.τ).loc Cert.KernelIdeal.main_v81) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_v147) = v1 c
          ∧ r.2.mem ((c.tc : Thread Cert.ReferenceIdeal.nD Cert.ReferenceIdeal.τ).loc Cert.ReferenceIdeal.main_v148) = v2 c
          ∧ r.2.mem ((c.tc : Thread Cert.ReferenceIdeal.nD Cert.ReferenceIdeal.τ).loc Cert.ReferenceIdeal.main_v131) = v3 c
          ∧ r.2.mem ((c.tc : Thread Cert.ReferenceIdeal.nD Cert.ReferenceIdeal.τ).loc Cert.ReferenceIdeal.main_v69) = v4 c
          ∧ r.2.mem ((c.tc : Thread Cert.ReferenceIdeal.nD Cert.ReferenceIdeal.τ).loc Cert.ReferenceIdeal.main_v120) = v5 c
          ∧ r.2.mem ((c.tc : Thread Cert.ReferenceIdeal.nD Cert.ReferenceIdeal.τ).loc Cert.ReferenceIdeal.main_v111) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v5_0)) (v1 : (c : Dev Cert.KernelUpIdeal.nD) → Buf (Elt Ideal) ((c.tc : Thread Cert.KernelUpIdeal.nD Cert.KernelUpIdeal.τ).loc Cert.KernelUpIdeal.main_v5_1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v5_0) = v0 c
          ∧ r.2.mem ((c.tc : Thread Cert.KernelUpIdeal.nD Cert.KernelUpIdeal.τ).loc Cert.KernelUpIdeal.main_v5_1) = v1 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v5) = v0 c
          ∧ r.2.mem ((c.tc : Thread Cert.ReferenceUpIdeal.nD Cert.ReferenceUpIdeal.τ).loc Cert.ReferenceUpIdeal.main_v6) = v1 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v2_0)) (v1 : (c : Dev Cert.KernelDownIdeal.nD) → Buf (Elt Ideal) ((c.tc : Thread Cert.KernelDownIdeal.nD Cert.KernelDownIdeal.τ).loc Cert.KernelDownIdeal.main_v2_1)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v2_0) = v0 c
          ∧ r.2.mem ((c.tc : Thread Cert.KernelDownIdeal.nD Cert.KernelDownIdeal.τ).loc Cert.KernelDownIdeal.main_v2_1) = v1 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v4) = v0 c
          ∧ r.2.mem ((c.tc : Thread Cert.ReferenceDownIdeal.nD Cert.ReferenceDownIdeal.τ).loc Cert.ReferenceDownIdeal.main_v5) = v1 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v2_0)) (v1 : (c : Dev Cert.KernelInIdeal.nD) → Buf (Elt Ideal) ((c.tc : Thread Cert.KernelInIdeal.nD Cert.KernelInIdeal.τ).loc Cert.KernelInIdeal.main_v2_1)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v2_0) = v0 c
          ∧ r.2.mem ((c.tc : Thread Cert.KernelInIdeal.nD Cert.KernelInIdeal.τ).loc Cert.KernelInIdeal.main_v2_1) = v1 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v5) = v0 c
          ∧ r.2.mem ((c.tc : Thread Cert.ReferenceInIdeal.nD Cert.ReferenceInIdeal.τ).loc Cert.ReferenceInIdeal.main_v6) = v1 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v2_0)) (v1 : (c : Dev Cert.KernelOutIdeal.nD) → Buf (Elt Ideal) ((c.tc : Thread Cert.KernelOutIdeal.nD Cert.KernelOutIdeal.τ).loc Cert.KernelOutIdeal.main_v2_1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v2_0) = v0 c
          ∧ r.2.mem ((c.tc : Thread Cert.KernelOutIdeal.nD Cert.KernelOutIdeal.τ).loc Cert.KernelOutIdeal.main_v2_1) = v1 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v4) = v0 c
          ∧ r.2.mem ((c.tc : Thread Cert.ReferenceOutIdeal.nD Cert.ReferenceOutIdeal.τ).loc Cert.ReferenceOutIdeal.main_v5) = v1 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelRet_KernelRetIdeal : Prop :=
  True

def algebraic_KernelRetIdeal_ReferenceRetIdeal_pre_finite_ret [hKernelRetIdeal : Cert.KernelRetIdeal.Facts] [hReferenceRetIdeal : Cert.ReferenceRetIdeal.Facts] [hPre_finite_ret : Cert.Pre_finite_ret.Facts] : Prop :=
  ∀ (m : (ℓ : Loc Cert.KernelRetIdeal.nD Cert.KernelRetIdeal.τ Cert.KernelRetIdeal.sig) → Buf (Elt Ideal) ℓ) (g : Dev Cert.KernelRetIdeal.nD → PrngReg)
    (m' : (ℓ : Loc Cert.ReferenceRetIdeal.nD Cert.ReferenceRetIdeal.τ Cert.ReferenceRetIdeal.sig) → Buf (Elt Ideal) ℓ) (g' : Dev Cert.ReferenceRetIdeal.nD → PrngReg), Pre_KernelRetIdeal_finite_ret m →
    (∀ c : Dev Cert.KernelRetIdeal.nD,
      m' ((c.tc : Thread Cert.ReferenceRetIdeal.nD Cert.ReferenceRetIdeal.τ).loc Cert.ReferenceRetIdeal.main_arg0) = m ((c.tc : Thread Cert.KernelRetIdeal.nD Cert.KernelRetIdeal.τ).loc Cert.KernelRetIdeal.main_arg0)
      ∧ m' ((c.tc : Thread Cert.ReferenceRetIdeal.nD Cert.ReferenceRetIdeal.τ).loc Cert.ReferenceRetIdeal.main_arg1) = m ((c.tc : Thread Cert.KernelRetIdeal.nD Cert.KernelRetIdeal.τ).loc Cert.KernelRetIdeal.main_arg1)
      ∧ m' ((c.tc : Thread Cert.ReferenceRetIdeal.nD Cert.ReferenceRetIdeal.τ).loc Cert.ReferenceRetIdeal.main_arg2) = m ((c.tc : Thread Cert.KernelRetIdeal.nD Cert.KernelRetIdeal.τ).loc Cert.KernelRetIdeal.main_arg2)
      ∧ m' ((c.tc : Thread Cert.ReferenceRetIdeal.nD Cert.ReferenceRetIdeal.τ).loc Cert.ReferenceRetIdeal.main_arg3) = m ((c.tc : Thread Cert.KernelRetIdeal.nD Cert.KernelRetIdeal.τ).loc Cert.KernelRetIdeal.main_arg3)
      ∧ m' ((c.tc : Thread Cert.ReferenceRetIdeal.nD Cert.ReferenceRetIdeal.τ).loc Cert.ReferenceRetIdeal.main_arg4) = m ((c.tc : Thread Cert.KernelRetIdeal.nD Cert.KernelRetIdeal.τ).loc Cert.KernelRetIdeal.main_arg4)) →
    ∃ (v0 : (c : Dev Cert.KernelRetIdeal.nD) → Buf (Elt Ideal) ((c.tc : Thread Cert.KernelRetIdeal.nD Cert.KernelRetIdeal.τ).loc Cert.KernelRetIdeal.main_v6_0)) (v1 : (c : Dev Cert.KernelRetIdeal.nD) → Buf (Elt Ideal) ((c.tc : Thread Cert.KernelRetIdeal.nD Cert.KernelRetIdeal.τ).loc Cert.KernelRetIdeal.main_v6_1)),
      θ_run (Cert.KernelRetIdeal.defs (F := Ideal)) (onTc (τ := Cert.KernelRetIdeal.τ) (Cert.KernelRetIdeal.main (F := Ideal))) ⟨m, fun _ => 0, g⟩ (fun r => ∀ c : Dev Cert.KernelRetIdeal.nD,
          r.2.mem ((c.tc : Thread Cert.KernelRetIdeal.nD Cert.KernelRetIdeal.τ).loc Cert.KernelRetIdeal.main_v6_0) = v0 c
          ∧ r.2.mem ((c.tc : Thread Cert.KernelRetIdeal.nD Cert.KernelRetIdeal.τ).loc Cert.KernelRetIdeal.main_v6_1) = v1 c
          ∧ r.2.mem ((c.tc : Thread Cert.KernelRetIdeal.nD Cert.KernelRetIdeal.τ).loc Cert.KernelRetIdeal.main_arg0) = m ((c.tc : Thread Cert.KernelRetIdeal.nD Cert.KernelRetIdeal.τ).loc Cert.KernelRetIdeal.main_arg0)
          ∧ r.2.mem ((c.tc : Thread Cert.KernelRetIdeal.nD Cert.KernelRetIdeal.τ).loc Cert.KernelRetIdeal.main_arg1) = m ((c.tc : Thread Cert.KernelRetIdeal.nD Cert.KernelRetIdeal.τ).loc Cert.KernelRetIdeal.main_arg1)
          ∧ r.2.mem ((c.tc : Thread Cert.KernelRetIdeal.nD Cert.KernelRetIdeal.τ).loc Cert.KernelRetIdeal.main_arg2) = m ((c.tc : Thread Cert.KernelRetIdeal.nD Cert.KernelRetIdeal.τ).loc Cert.KernelRetIdeal.main_arg2)
          ∧ r.2.mem ((c.tc : Thread Cert.KernelRetIdeal.nD Cert.KernelRetIdeal.τ).loc Cert.KernelRetIdeal.main_arg3) = m ((c.tc : Thread Cert.KernelRetIdeal.nD Cert.KernelRetIdeal.τ).loc Cert.KernelRetIdeal.main_arg3)
          ∧ r.2.mem ((c.tc : Thread Cert.KernelRetIdeal.nD Cert.KernelRetIdeal.τ).loc Cert.KernelRetIdeal.main_arg4) = m ((c.tc : Thread Cert.KernelRetIdeal.nD Cert.KernelRetIdeal.τ).loc Cert.KernelRetIdeal.main_arg4))
      ∧ θ_run (Cert.ReferenceRetIdeal.defs (F := Ideal)) (onTc (τ := Cert.ReferenceRetIdeal.τ) (Cert.ReferenceRetIdeal.main (F := Ideal))) ⟨m', fun _ => 0, g'⟩ (fun r => ∀ c : Dev Cert.ReferenceRetIdeal.nD,
          r.2.mem ((c.tc : Thread Cert.ReferenceRetIdeal.nD Cert.ReferenceRetIdeal.τ).loc Cert.ReferenceRetIdeal.main_v38) = v0 c
          ∧ r.2.mem ((c.tc : Thread Cert.ReferenceRetIdeal.nD Cert.ReferenceRetIdeal.τ).loc Cert.ReferenceRetIdeal.main_v39) = v1 c
          ∧ r.2.mem ((c.tc : Thread Cert.ReferenceRetIdeal.nD Cert.ReferenceRetIdeal.τ).loc Cert.ReferenceRetIdeal.main_arg0) = m' ((c.tc : Thread Cert.ReferenceRetIdeal.nD Cert.ReferenceRetIdeal.τ).loc Cert.ReferenceRetIdeal.main_arg0)
          ∧ r.2.mem ((c.tc : Thread Cert.ReferenceRetIdeal.nD Cert.ReferenceRetIdeal.τ).loc Cert.ReferenceRetIdeal.main_arg1) = m' ((c.tc : Thread Cert.ReferenceRetIdeal.nD Cert.ReferenceRetIdeal.τ).loc Cert.ReferenceRetIdeal.main_arg1)
          ∧ r.2.mem ((c.tc : Thread Cert.ReferenceRetIdeal.nD Cert.ReferenceRetIdeal.τ).loc Cert.ReferenceRetIdeal.main_arg2) = m' ((c.tc : Thread Cert.ReferenceRetIdeal.nD Cert.ReferenceRetIdeal.τ).loc Cert.ReferenceRetIdeal.main_arg2)
          ∧ r.2.mem ((c.tc : Thread Cert.ReferenceRetIdeal.nD Cert.ReferenceRetIdeal.τ).loc Cert.ReferenceRetIdeal.main_arg3) = m' ((c.tc : Thread Cert.ReferenceRetIdeal.nD Cert.ReferenceRetIdeal.τ).loc Cert.ReferenceRetIdeal.main_arg3)
          ∧ r.2.mem ((c.tc : Thread Cert.ReferenceRetIdeal.nD Cert.ReferenceRetIdeal.τ).loc Cert.ReferenceRetIdeal.main_arg4) = m' ((c.tc : Thread Cert.ReferenceRetIdeal.nD Cert.ReferenceRetIdeal.τ).loc Cert.ReferenceRetIdeal.main_arg4))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)
      ∧ m' ((c.tc : Thread Cert.ReferenceProjIdeal.nD Cert.ReferenceProjIdeal.τ).loc Cert.ReferenceProjIdeal.main_arg3) = m ((c.tc : Thread Cert.KernelProjIdeal.nD Cert.KernelProjIdeal.τ).loc Cert.KernelProjIdeal.main_arg3)) →
    ∃ (v0 : (c : Dev Cert.KernelProjIdeal.nD) → Buf (Elt Ideal) ((c.tc : Thread Cert.KernelProjIdeal.nD Cert.KernelProjIdeal.τ).loc Cert.KernelProjIdeal.main_v22_0)) (v1 : (c : Dev Cert.KernelProjIdeal.nD) → Buf (Elt Ideal) ((c.tc : Thread Cert.KernelProjIdeal.nD Cert.KernelProjIdeal.τ).loc Cert.KernelProjIdeal.main_v22_1)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v22_0) = v0 c
          ∧ r.2.mem ((c.tc : Thread Cert.KernelProjIdeal.nD Cert.KernelProjIdeal.τ).loc Cert.KernelProjIdeal.main_v22_1) = v1 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
          ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v91) = v0 c
          ∧ r.2.mem ((c.tc : Thread Cert.ReferenceProjIdeal.nD Cert.ReferenceProjIdeal.τ).loc Cert.ReferenceProjIdeal.main_v92) = v1 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2)
          ∧ r.2.mem ((c.tc : Thread Cert.ReferenceProjIdeal.nD Cert.ReferenceProjIdeal.τ).loc Cert.ReferenceProjIdeal.main_arg3) = m' ((c.tc : Thread Cert.ReferenceProjIdeal.nD Cert.ReferenceProjIdeal.τ).loc Cert.ReferenceProjIdeal.main_arg3))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelRet : Cert.KernelRet.Facts) (hKernelRetIdeal : Cert.KernelRetIdeal.Facts) (hReferenceRetIdeal : Cert.ReferenceRetIdeal.Facts) (hKernelProj : Cert.KernelProj.Facts) (hKernelProjIdeal : Cert.KernelProjIdeal.Facts) (hReferenceProjIdeal : Cert.ReferenceProjIdeal.Facts) (hPre_finite : Cert.Pre_finite.Facts) (hPre_finite_ret : Cert.Pre_finite_ret.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelRet (hKernelRet := hKernelRet)
    ∧ quiescent_KernelRetIdeal (hKernelRetIdeal := hKernelRetIdeal)
    ∧ quiescent_KernelRetIdeal_pre_finite_ret (hKernelRetIdeal := hKernelRetIdeal) (hPre_finite_ret := hPre_finite_ret)
    ∧ quiescent_ReferenceRetIdeal (hReferenceRetIdeal := hReferenceRetIdeal)
    ∧ quiescent_ReferenceRetIdeal_pre_finite_ret (hReferenceRetIdeal := hReferenceRetIdeal) (hPre_finite_ret := hPre_finite_ret)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
    ∧ preserves_KernelRet_KernelRetIdeal
    ∧ algebraic_KernelRetIdeal_ReferenceRetIdeal_pre_finite_ret (hKernelRetIdeal := hKernelRetIdeal) (hReferenceRetIdeal := hReferenceRetIdeal) (hPre_finite_ret := hPre_finite_ret)
    ∧ preserves_KernelProj_KernelProjIdeal
    ∧ algebraic_KernelProjIdeal_ReferenceProjIdeal (hKernelProjIdeal := hKernelProjIdeal) (hReferenceProjIdeal := hReferenceProjIdeal)
-- ==== Pre_finite.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S5632 : S_.BroadcastsInDim S5632 (![] : Fin 0 → Fin S5632.rank)
  reducesTo_S5632_S_d0 : S5632.ReducesTo [0] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg7 : FVec F S2816x1024 .f32) (main_v33 : IVec S_ 1) : IVec S_ 1 :=
  let main_v34 : FVec F S2816x1024 .f32 := Host.absf main_arg7
  let main_cst_12 : FVec F S_ .f32 := constant S_ .f32 0x7F800000#32
  let main_v35 : FVec F S2816x1024 .f32 := broadcastInDim S2816x1024 ![] bcast_S_S2816x1024 main_cst_12
  let main_v36 : IVec S2816x1024 1 := cmpf .olt main_v34 main_v35
  let main_c_13 : IVec S_ 1 := constantI S_ 1 1#1
  let main_v37 : IVec S_ 1 := (fun x v => Host.reduce IntOp.andi x v reducesTo_S2816x1024_S_d0_1 h_S_) main_v36 main_c_13
  let main_v38 : IVec S_ 1 := andi main_v33 main_v37
  main_v38

def fn_part1 {F : FTy → Type} [FloatOps F] (main_arg4 : FVec F S1024x5632 .f32) (main_arg5 : FVec F S3x5632 .f32) (main_arg6 : FVec F S5632 .f32) (main_arg7 : FVec F S2816x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x5632 .f32 := Host.absf main_arg4
  let main_cst_6 : FVec F S_ .f32 := constant S_ .f32 0x7F800000#32
  let main_v20 : FVec F S1024x5632 .f32 := broadcastInDim S1024x5632 ![] bcast_S_S1024x5632 main_cst_6
  let main_v21 : IVec S1024x5632 1 := cmpf .olt main_v19 main_v20
  let main_c_7 : IVec S_ 1 := constantI S_ 1 1#1
  let main_v22 : IVec S_ 1 := (fun x v => Host.reduce IntOp.andi x v reducesTo_S1024x5632_S_d0_1 h_S_) main_v21 main_c_7
  let main_v23 : IVec S_ 1 := andi main_v18 main_v22
  let main_v24 : FVec F S3x5632 .f32 := Host.absf main_arg5
  let main_cst_8 : FVec F S_ .f32 := constant S_ .f32 0x7F800000#32
  let main_v25 : FVec F S3x5632 .f32 := broadcastInDim S3x5632 ![] bcast_S_S3x5632 main_cst_8
  let main_v26 : IVec S3x5632 1 := cmpf .olt main_v24 main_v25
  let main_c_9 : IVec S_ 1 := constantI S_ 1 1#1
  let main_v27 : IVec S_ 1 := (fun x v => Host.reduce IntOp.andi x v reducesTo_S3x5632_S_d0_1 h_S_) main_v26 main_c_9
  let main_v28 : IVec S_ 1 := andi main_v23 main_v27
  let main_v29 : FVec F S5632 .f32 := Host.absf main_arg6
  let main_cst_10 : FVec F S_ .f32 := constant S_ .f32 0x7F800000#32
  let main_v30 : FVec F S5632 .f32 := broadcastInDim S5632 ![] bcast_S_S5632 main_cst_10
  let main_v31 : IVec S5632 1 := cmpf .olt main_v29 main_v30
  let main_c_11 : IVec S_ 1 := constantI S_ 1 1#1
  let main_v32 : IVec S_ 1 := (fun x v => Host.reduce IntOp.andi x v reducesTo_S5632_S_d0 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S8192x1024 .f32) (main_arg2 : FVec F S1024 .f32) (main_arg3 : FVec F S1024 .f32) (main_arg4 : FVec F S1024x5632 .f32) (main_arg5 : FVec F S3x5632 .f32) (main_arg6 : FVec F S5632 .f32) (main_arg7 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Pre_finite_ret.lean ====
abbrev S8192x6144 : Shape := ⟨2, ![8192, 6144]⟩
abbrev S8192x1024 : Shape := ⟨2, ![8192, 1024]⟩
abbrev S1024 : Shape := ⟨1, ![1024]⟩
abbrev S1024x6144 : Shape := ⟨2, ![1024, 6144]⟩
abbrev S_ : Shape := ⟨0, ![]⟩

class Facts : Prop where
  bcast_S_S8192x6144 : S_.BroadcastsInDim S8192x6144 (![] : Fin 0 → Fin S8192x6144.rank)
  reducesTo_S8192x6144_S_d0_1 : S8192x6144.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_
  bcast_S_S1024x6144 : S_.BroadcastsInDim S1024x6144 (![] : Fin 0 → Fin S1024x6144.rank)
  reducesTo_S1024x6144_S_d0_1 : S1024x6144.ReducesTo [0, 1] S_

variable [Facts]

def fn_part1 {F : FTy → Type} [FloatOps F] (main_arg4 : FVec F S1024x6144 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x6144 .f32 := Host.absf main_arg4
  let main_cst_6 : FVec F S_ .f32 := constant S_ .f32 0x7F800000#32
  let main_v20 : FVec F S1024x6144 .f32 := broadcastInDim S1024x6144 ![] bcast_S_S1024x6144 main_cst_6
  let main_v21 : IVec S1024x6144 1 := cmpf .olt main_v19 main_v20
  let main_c_7 : IVec S_ 1 := constantI S_ 1 1#1
  let main_v22 : IVec S_ 1 := (fun x v => Host.reduce IntOp.andi x v reducesTo_S1024x6144_S_d0_1 h_S_) main_v21 main_c_7
  let main_v23 : IVec S_ 1 := andi main_v18 main_v22
  main_v23

def fn {F : FTy → Type} [FloatOps F] (main_arg0 : FVec F S8192x6144 .f32) (main_arg1 : FVec F S8192x1024 .f32) (main_arg2 : FVec F S8192x1024 .f32) (main_arg3 : FVec F S1024 .f32) (main_arg4 : FVec F S1024x6144 .f32) : IVec S_ 1 :=
  let main_v0 : FVec F S8192x6144 .f32 := Host.absf main_arg0
  let main_cst : FVec F S_ .f32 := constant S_ .f32 0x7F800000#32
  let main_v1 : FVec F S8192x6144 .f32 := broadcastInDim S8192x6144 ![] bcast_S_S8192x6144 main_cst
  let main_v2 : IVec S8192x6144 1 := cmpf .olt main_v0 main_v1
  let main_c : IVec S_ 1 := constantI S_ 1 1#1
  let main_v3 : IVec S_ 1 := (fun x v => Host.reduce IntOp.andi x v reducesTo_S8192x6144_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8194x5632 : Shape := ⟨2, ![8194, 5632]⟩
abbrev S1x5632 : Shape := ⟨2, ![1, 5632]⟩
abbrev S8192x2816 : Shape := ⟨2, ![8192, 2816]⟩
abbrev S8192x2x2x1408 : Shape := ⟨4, ![8192, 2, 2, 1408]⟩
abbrev S1024x4x1408 : Shape := ⟨3, ![1024, 4, 1408]⟩
abbrev S4x1024x1408 : Shape := ⟨3, ![4, 1024, 1408]⟩
abbrev S3x4x1408 : Shape := ⟨3, ![3, 4, 1408]⟩
abbrev S4x3x1408 : Shape := ⟨3, ![4, 3, 1408]⟩
abbrev S8x1024 : Shape := ⟨2, ![8, 1024]⟩
abbrev S4x3x8x1408 : Shape := ⟨4, ![4, 3, 8, 1408]⟩
abbrev S4x8x1408 : Shape := ⟨3, ![4, 8, 1408]⟩
abbrev S256x1024 : Shape := ⟨2, ![256, 1024]⟩
abbrev S256x5632 : Shape := ⟨2, ![256, 5632]⟩
abbrev S2 : Shape := ⟨1, ![2]⟩
abbrev S1 : Shape := ⟨1, ![1]⟩
abbrev S256 : Shape := ⟨1, ![256]⟩
abbrev S256x1 : Shape := ⟨2, ![256, 1]⟩
abbrev S32x8x1024 : Shape := ⟨3, ![32, 8, 1024]⟩
abbrev S1408x1024 : Shape := ⟨2, ![1408, 1024]⟩
abbrev S256x1408 : Shape := ⟨2, ![256, 1408]⟩
abbrev S1x8x1408 : Shape := ⟨3, ![1, 8, 1408]⟩
abbrev S8x1408 : Shape := ⟨2, ![8, 1408]⟩
abbrev S264x1408 : Shape := ⟨2, ![264, 1408]⟩
abbrev S32x8x1408 : Shape := ⟨3, ![32, 8, 1408]⟩
abbrev S1x1x8x1408 : Shape := ⟨4, ![1, 1, 8, 1408]⟩
abbrev S1x1x1408 : Shape := ⟨3, ![1, 1, 1408]⟩
abbrev S1x1408 : Shape := ⟨2, ![1, 1408]⟩
abbrev S1x1024x1408 : Shape := ⟨3, ![1, 1024, 1408]⟩
abbrev S1024x1408 : Shape := ⟨2, ![1024, 1408]⟩
abbrev S4x1408 : Shape := ⟨2, ![4, 1408]⟩

abbrev nBuf : Space → Nat
  | .hbm => 108
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x5632, .f32⟩
  | .hbm, ⟨25, _⟩ => ⟨S_, .i32⟩
  | .hbm, ⟨26, _⟩ => ⟨S_, .f32⟩
  | .hbm, ⟨27, _⟩ => ⟨S8194x5632, .f32⟩
  | .hbm, ⟨28, _⟩ => ⟨S8192x5632, .f32⟩
  | .hbm, ⟨29, _⟩ => ⟨S1x5632, .f32⟩
  | .hbm, ⟨30, _⟩ => ⟨S5632, .f32⟩
  | .hbm, ⟨31, _⟩ => ⟨S1x5632, .f32⟩
  | .hbm, ⟨32, _⟩ => ⟨S8192x5632, .f32⟩
  | .hbm, ⟨33, _⟩ => ⟨S8192x5632, .f32⟩
  | .hbm, ⟨34, _⟩ => ⟨S1x5632, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S1x5632, .f32⟩
  | .hbm, ⟨39, _⟩ => ⟨S5632, .f32⟩
  | .hbm, ⟨40, _⟩ => ⟨S1x5632, .f32⟩
  | .hbm, ⟨41, _⟩ => ⟨S8192x5632, .f32⟩
  | .hbm, ⟨42, _⟩ => ⟨S8192x5632, .f32⟩
  | .hbm, ⟨43, _⟩ => ⟨S8192x5632, .f32⟩
  | .hbm, ⟨44, _⟩ => ⟨S8192x5632, .f32⟩
  | .hbm, ⟨45, _⟩ => ⟨S1x5632, .f32⟩
  | .hbm, ⟨46, _⟩ => ⟨S5632, .f32⟩
  | .hbm, ⟨47, _⟩ => ⟨S1x5632, .f32⟩
  | .hbm, ⟨48, _⟩ => ⟨S8192x5632, .f32⟩
  | .hbm, ⟨49, _⟩ => ⟨S8192x5632, .f32⟩
  | .hbm, ⟨50, _⟩ => ⟨S8192x5632, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S_, .f32⟩
  | .hbm, ⟨56, _⟩ => ⟨S8192x2816, .f32⟩
  | .hbm, ⟨57, _⟩ => ⟨S8192x2816, .f32⟩
  | .hbm, ⟨58, _⟩ => ⟨S_, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S_, .f32⟩
  | .hbm, ⟨63, _⟩ => ⟨S8192x2816, .f32⟩
  | .hbm, ⟨64, _⟩ => ⟨S8192x2816, .f32⟩
  | .hbm, ⟨65, _⟩ => ⟨S8192x2816, .f32⟩
  | .hbm, ⟨66, _⟩ => ⟨S8192x2816, .f32⟩
  | .hbm, ⟨67, _⟩ => ⟨S8192x2816, .f32⟩
  | .hbm, ⟨68, _⟩ => ⟨S8192x2816, .f32⟩
  | .hbm, ⟨69, _⟩ => ⟨S8192x1024, .f32⟩
  | .hbm, ⟨70, _⟩ => ⟨S8192x2x2x1408, .f32⟩
  | .hbm, ⟨71, _⟩ => ⟨S8192x2x2x1408, .f32⟩
  | .hbm, ⟨72, _⟩ => ⟨S8192x5632, .f32⟩
  | .hbm, ⟨73, _⟩ => ⟨S8192x5632, .bf16⟩
  | .hbm, ⟨74, _⟩ => ⟨S8192x5632, .f32⟩
  | .hbm, ⟨75, _⟩ => ⟨S8192x2x2x1408, .f32⟩
  | .hbm, ⟨76, _⟩ => ⟨S8192x2x2x1408, .f32⟩
  | .hbm, ⟨77, _⟩ => ⟨S8192x5632, .f32⟩
  | .hbm, ⟨78, _⟩ => ⟨S8192x5632, .bf16⟩
  | .hbm, ⟨79, _⟩ => ⟨S1024x4x1408, .f32⟩
  | .hbm, ⟨80, _⟩ => ⟨S4x1024x1408, .f32⟩
  | .hbm, ⟨81, _⟩ => ⟨S4x1024x1408, .bf16⟩
  | .hbm, ⟨82, _⟩ => ⟨S2816x1024, .bf16⟩
  | .hbm, ⟨83, _⟩ => ⟨S3x4x1408, .f32⟩
  | .hbm, ⟨84, _⟩ => ⟨S4x3x1408, .f32⟩
  | .hbm, ⟨85, _⟩ => ⟨S1x1024, .f32⟩
  | .hbm, ⟨86, _⟩ => ⟨S1x1024, .f32⟩
  | .hbm, ⟨87, _⟩ => ⟨S8192x1024, .f32⟩
  | .hbm, ⟨88, _⟩ => ⟨S8192x5632, .bf16⟩
  | .hbm, ⟨89, _⟩ => ⟨S8192x1024, .bf16⟩
  | .hbm, ⟨90, _⟩ => ⟨S8x1024, .f32⟩
  | .hbm, ⟨91, _⟩ => ⟨S8x1024, .f32⟩
  | .hbm, ⟨92, _⟩ => ⟨S4x3x8x1408, .f32⟩
  | .hbm, ⟨93, _⟩ => ⟨S4x8x1408, .f32⟩
  | .hbm, ⟨94, _⟩ => ⟨S8192x2x2x1408, .bf16⟩
  | .hbm, ⟨95, _⟩ => ⟨S8192x2x2x1408, .bf16⟩
  | .hbm, ⟨96, _⟩ => ⟨S8192x5632, .bf16⟩
  | .hbm, ⟨97, _⟩ => ⟨S_, .f32⟩
  | .hbm, ⟨98, _⟩ => ⟨S1024, .f32⟩
  | .hbm, ⟨99, _⟩ => ⟨S_, .f32⟩
  | .hbm, ⟨100, _⟩ => ⟨S1024, .f32⟩
  | .hbm, ⟨101, _⟩ => ⟨S_, .f32⟩
  | .hbm, ⟨102, _⟩ => ⟨S4x3x1408, .f32⟩
  | .hbm, ⟨103, _⟩ => ⟨S3x4x1408, .f32⟩
  | .hbm, ⟨104, _⟩ => ⟨S3x5632, .f32⟩
  | .hbm, ⟨105, _⟩ => ⟨S_, .f32⟩
  | .hbm, ⟨106, _⟩ => ⟨S4x1408, .f32⟩
  | .hbm, ⟨107, _⟩ => ⟨S5632, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x5632, .bf16⟩
  | .local _ .vmem, ⟨7, _⟩ => ⟨S256x5632, .bf16⟩
  | .local _ .vmem, ⟨8, _⟩ => ⟨S256x5632, .bf16⟩
  | .local _ .vmem, ⟨9, _⟩ => ⟨S256x5632, .bf16⟩
  | .local _ .vmem, ⟨10, _⟩ => ⟨S1x1024, .f32⟩
  | .local _ .vmem, ⟨11, _⟩ => ⟨S1x1024, .f32⟩
  | .local _ .vmem, ⟨12, _⟩ => ⟨S4x3x1408, .f32⟩
  | .local _ .vmem, ⟨13, _⟩ => ⟨S256x1024, .f32⟩
  | .local _ .vmem, ⟨14, _⟩ => ⟨S256x1024, .f32⟩
  | .local _ .vmem, ⟨15, _⟩ => ⟨S256x5632, .bf16⟩
  | .local _ .vmem, ⟨16, _⟩ => ⟨S256x5632, .bf16⟩
  | .local _ .vmem, ⟨17, _⟩ => ⟨S256x1024, .bf16⟩
  | .local _ .vmem, ⟨18, _⟩ => ⟨S256x1024, .bf16⟩
  | .local _ .vmem, ⟨19, _⟩ => ⟨S8x1024, .f32⟩
  | .local _ .vmem, ⟨20, _⟩ => ⟨S8x1024, .f32⟩
  | .local _ .vmem, ⟨21, _⟩ => ⟨S4x3x8x1408, .f32⟩
  | .local _ .vmem, ⟨22, _⟩ => ⟨S4x8x1408, .f32⟩
  | .local _ .vmem, ⟨23, _⟩ => ⟨S4x1024x1408, .bf16⟩
  | .local _ .vmem, ⟨24, _⟩ => ⟨S2816x1024, .bf16⟩
  | .local _ .vmem, ⟨25, _⟩ => ⟨S4x8x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_call0_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_2 : Ref sig .tc := ⟨.hbm, 55, rfl⟩
abbrev main_v42 : Ref sig .tc := ⟨.hbm, 56, rfl⟩
abbrev main_v43 : Ref sig .tc := ⟨.hbm, 57, rfl⟩
abbrev main_cst_3 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_4 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71_0 : Ref sig .tc := ⟨.hbm, 87, rfl⟩
abbrev main_v71_1 : Ref sig .tc := ⟨.hbm, 88, rfl⟩
abbrev main_v71_2 : Ref sig .tc := ⟨.hbm, 89, rfl⟩
abbrev main_v71_3 : Ref sig .tc := ⟨.hbm, 90, rfl⟩
abbrev main_v71_4 : Ref sig .tc := ⟨.hbm, 91, rfl⟩
abbrev main_v71_5 : Ref sig .tc := ⟨.hbm, 92, rfl⟩
abbrev main_v71_6 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_5 : Ref sig .tc := ⟨.hbm, 97, rfl⟩
abbrev main_v75 : Ref sig .tc := ⟨.hbm, 98, rfl⟩
abbrev main_cst_6 : Ref sig .tc := ⟨.hbm, 99, rfl⟩
abbrev main_v76 : Ref sig .tc := ⟨.hbm, 100, rfl⟩
abbrev main_cst_7 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_8 : Ref sig .tc := ⟨.hbm, 105, rfl⟩
abbrev main_v80 : Ref sig .tc := ⟨.hbm, 106, rfl⟩
abbrev main_v81 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21
abbrev cc0_sem14_0 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x3x1408 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x3x8x1408 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x8x1408 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S2x5632 : Shape := ⟨2, ![2, 5632]⟩
abbrev S8194x5632 : Shape := ⟨2, ![8194, 5632]⟩
abbrev S1x5632 : Shape := ⟨2, ![1, 5632]⟩
abbrev S8192x2816 : Shape := ⟨2, ![8192, 2816]⟩

abbrev nBuf : Space → Nat
  | .hbm => 206
  | .vmem => 0
  | .smem => 0
  | _ => 0

abbrev hbmTy0_0 (i : Nat) : BufTy := match i % 128 with
  | 0 => ⟨S8192x1024, .f32⟩
  | 1 => ⟨S8192x1024, .f32⟩
  | 2 => ⟨S1024, .f32⟩
  | 3 => ⟨S1024, .f32⟩
  | 4 => ⟨S1024x5632, .f32⟩
  | 5 => ⟨S3x5632, .f32⟩
  | 6 => ⟨S5632, .f32⟩
  | 7 => ⟨S2816x1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S8192x5632, .f32⟩
  | 29 => ⟨S_, .f32⟩
  | 30 => ⟨S2x5632, .f32⟩
  | 31 => ⟨S8194x5632, .f32⟩
  | 32 => ⟨S_, .f32⟩
  | 33 => ⟨S2x5632, .f32⟩
  | 34 => ⟨S8192x5632, .f32⟩
  | 35 => ⟨S1x5632, .f32⟩
  | 36 => ⟨S5632, .f32⟩
  | 37 => ⟨S1x5632, .f32⟩
  | 38 => ⟨S8192x5632, .f32⟩
  | 39 => ⟨S8192x5632, .f32⟩
  | 40 => ⟨S1x5632, .f32⟩
  | 41 => ⟨S8192x5632, .f32⟩
  | 42 => ⟨S8192x5632, .f32⟩
  | 43 => ⟨S8192x5632, .f32⟩
  | 44 => ⟨S1x5632, .f32⟩
  | 45 => ⟨S5632, .f32⟩
  | 46 => ⟨S1x5632, .f32⟩
  | 47 => ⟨S8192x5632, .f32⟩
  | 48 => ⟨S8192x5632, .f32⟩
  | 49 => ⟨S8192x5632, .f32⟩
  | 50 => ⟨S8192x5632, .f32⟩
  | 51 => ⟨S1x5632, .f32⟩
  | 52 => ⟨S5632, .f32⟩
  | 53 => ⟨S1x5632, .f32⟩
  | 54 => ⟨S8192x5632, .f32⟩
  | 55 => ⟨S8192x5632, .f32⟩
  | 56 => ⟨S8192x5632, .f32⟩
  | 57 => ⟨S8192x2816, .f32⟩
  | 58 => ⟨S8192x2816, .f32⟩
  | 59 => ⟨S8192x2816, .f32⟩
  | 60 => ⟨S8192x2816, .f32⟩
  | 61 => ⟨S_, .f32⟩
  | 62 => ⟨S8192x2816, .f32⟩
  | 63 => ⟨S8192x2816, .f32⟩
  | 64 => ⟨S_, .f32⟩
  | 65 => ⟨S8192x2816, .f32⟩
  | 66 => ⟨S8192x2816, .f32⟩
  | 67 => ⟨S_, .f32⟩
  | 68 => ⟨S8192x2816, .f32⟩
  | 69 => ⟨S8192x2816, .f32⟩
  | 70 => ⟨S8192x2816, .f32⟩
  | 71 => ⟨S8192x2816, .f32⟩
  | 72 => ⟨S8192x2816, .f32⟩
  | 73 => ⟨S8192x1024, .f32⟩
  | 74 => ⟨S8192x1024, .f32⟩
  | 75 => ⟨S_, .f32⟩
  | 76 => ⟨S8192, .f32⟩
  | 77 => ⟨S8192x1, .f32⟩
  | 78 => ⟨S_, .f32⟩
  | 79 => ⟨S8192x1, .f32⟩
  | 80 => ⟨S8192x1, .f32⟩
  | 81 => ⟨S_, .f32⟩
  | 82 => ⟨S8192x1, .f32⟩
  | 83 => ⟨S8192x1, .f32⟩
  | 84 => ⟨S8192x1, .f32⟩
  | 85 => ⟨S8192x1, .f32⟩
  | 86 => ⟨S_, .f32⟩
  | 87 => ⟨S8192x1, .f32⟩
  | 88 => ⟨S8192x1, .f32⟩
  | 89 => ⟨S8192x1024, .f32⟩
  | 90 => ⟨S8192x1024, .f32⟩
  | 91 => ⟨S1x1024, .f32⟩
  | 92 => ⟨S8192x1024, .f32⟩
  | 93 => ⟨S8192x1024, .f32⟩
  | 94 => ⟨S8192x1024, .f32⟩
  | 95 => ⟨S_, .f32⟩
  | 96 => ⟨S1024, .f32⟩
  | 97 => ⟨S1x1024, .f32⟩
  | 98 => ⟨S8192x1024, .f32⟩
  | 99 => ⟨S8192x1024, .f32⟩
  | 100 => ⟨S_, .f32⟩
  | 101 => ⟨S1024, .f32⟩
  | 102 => ⟨S8192x1024, .f32⟩
  | 103 => ⟨S_, .f32⟩
  | 104 => ⟨S8192, .f32⟩
  | 105 => ⟨S8192x1, .f32⟩
  | 106 => ⟨S8192x1024, .f32⟩
  | 107 => ⟨S8192x1024, .f32⟩
  | 108 => ⟨S8192x1, .f32⟩
  | 109 => ⟨S_, .f32⟩
  | 110 => ⟨S8192x1, .f32⟩
  | 111 => ⟨S8192x1, .f32⟩
  | 112 => ⟨S_, .f32⟩
  | 113 => ⟨S8192, .f32⟩
  | 114 => ⟨S8192x1024, .f32⟩
  | 115 => ⟨S8192x1024, .f32⟩
  | 116 => ⟨S8192x1024, .f32⟩
  | 117 => ⟨S8192x1024, .f32⟩
  | 118 => ⟨S8192x1024, .f32⟩
  | 119 => ⟨S8192x2816, .f32⟩
  | 120 => ⟨S8192x2816, .f32⟩
  | 121 => ⟨S8192x2816, .f32⟩
  | 122 => ⟨S8192x2816, .f32⟩
  | 123 => ⟨S8192x2816, .f32⟩
  | 124 => ⟨S8192x2816, .f32⟩
  | 125 => ⟨S8192x2816, .f32⟩
  | 126 => ⟨S8192x5632, .f32⟩
  | 127 => ⟨S8192x5632, .f32⟩
  | _ => ⟨S8192x1024, .f32⟩

abbrev hbmTy0_1 (i : Nat) : BufTy := match i % 128 with
  | 0 => ⟨S_, .f32⟩
  | 1 => ⟨S5632, .f32⟩
  | 2 => ⟨S1x5632, .f32⟩
  | 3 => ⟨S8192x5632, .f32⟩
  | 4 => ⟨S8192x5632, .f32⟩
  | 5 => ⟨S_, .f32⟩
  | 6 => ⟨S5632, .f32⟩
  | 7 => ⟨S1x5632, .f32⟩
  | 8 => ⟨S_, .f32⟩
  | 9 => ⟨S3x5632, .f32⟩
  | 10 => ⟨S_, .f32⟩
  | 11 => ⟨S8194x5632, .f32⟩
  | 12 => ⟨S8192x5632, .f32⟩
  | 13 => ⟨S_, .f32⟩
  | 14 => ⟨S5632, .f32⟩
  | 15 => ⟨S1x5632, .f32⟩
  | 16 => ⟨S8192x5632, .f32⟩
  | 17 => ⟨S8192x5632, .f32⟩
  | 18 => ⟨S_, .f32⟩
  | 19 => ⟨S5632, .f32⟩
  | 20 => ⟨S1x5632, .f32⟩
  | 21 => ⟨S_, .f32⟩
  | 22 => ⟨S3x5632, .f32⟩
  | 23 => ⟨S3x5632, .f32⟩
  | 24 => ⟨S_, .f32⟩
  | 25 => ⟨S8194x5632, .f32⟩
  | 26 => ⟨S8194x5632, .f32⟩
  | 27 => ⟨S_, .f32⟩
  | 28 => ⟨S5632, .f32⟩
  | 29 => ⟨S1x5632, .f32⟩
  | 30 => ⟨S_, .f32⟩
  | 31 => ⟨S5632, .f32⟩
  | 32 => ⟨S8192x5632, .f32⟩
  | 33 => ⟨S_, .f32⟩
  | 34 => ⟨S5632, .f32⟩
  | 35 => ⟨S1x5632, .f32⟩
  | 36 => ⟨S8192x5632, .f32⟩
  | 37 => ⟨S8192x5632, .f32⟩
  | 38 => ⟨S_, .f32⟩
  | 39 => ⟨S5632, .f32⟩
  | 40 => ⟨S1x5632, .f32⟩
  | 41 => ⟨S_, .f32⟩
  | 42 => ⟨S3x5632, .f32⟩
  | 43 => ⟨S3x5632, .f32⟩
  | 44 => ⟨S_, .f32⟩
  | 45 => ⟨S8194x5632, .f32⟩
  | 46 => ⟨S8194x5632, .f32⟩
  | 47 => ⟨S2x5632, .f32⟩
  | 48 => ⟨S8192x5632, .f32⟩
  | 49 => ⟨S8192x1024, .f32⟩
  | 50 => ⟨S8192x1024, .f32⟩
  | 51 => ⟨S_, .f32⟩
  | 52 => ⟨S1024, .f32⟩
  | 53 => ⟨S1x1024, .f32⟩
  | 54 => ⟨S8192x1024, .f32⟩
  | 55 => ⟨S8192x1024, .f32⟩
  | 56 => ⟨S_, .f32⟩
  | 57 => ⟨S1024, .f32⟩
  | 58 => ⟨S8192x1024, .f32⟩
  | 59 => ⟨S_, .f32⟩
  | 60 => ⟨S8192, .f32⟩
  | 61 => ⟨S8192x1, .f32⟩
  | 62 => ⟨S8192x1024, .f32⟩
  | 63 => ⟨S8192x1024, .f32⟩
  | 64 => ⟨S8192x1, .f32⟩
  | 65 => ⟨S_, .f32⟩
  | 66 => ⟨S8192x1, .f32⟩
  | 67 => ⟨S8192x1, .f32⟩
  | 68 => ⟨S_, .f32⟩
  | 69 => ⟨S8192, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S8192x5632, .bf16⟩
  | 77 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_v45_2 : Ref sig .tc := ⟨.hbm, 66, rfl⟩
abbrev main_call0_cst_1 : Ref sig .tc := ⟨.hbm, 67, rfl⟩
abbrev main_call0_v6 : Ref sig .tc := ⟨.hbm, 68, rfl⟩
abbrev main_call0_v7 : Ref sig .tc := ⟨.hbm, 69, rfl⟩
abbrev main_v45_1 : Ref sig .tc := ⟨.hbm, 70, rfl⟩
abbrev main_v45_0 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_5 : Ref sig .tc := ⟨.hbm, 75, rfl⟩
abbrev main_v49 : Ref sig .tc := ⟨.hbm, 76, rfl⟩
abbrev main_v50 : Ref sig .tc := ⟨.hbm, 77, rfl⟩
abbrev main_cst_6 : Ref sig .tc := ⟨.hbm, 78, rfl⟩
abbrev main_v51 : Ref sig .tc := ⟨.hbm, 79, rfl⟩
abbrev main_v52 : Ref sig .tc := ⟨.hbm, 80, rfl⟩
abbrev main_cst_7 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_8 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_9 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_10 : Ref sig .tc := ⟨.hbm, 100, rfl⟩
abbrev main_v69 : Ref sig .tc := ⟨.hbm, 101, rfl⟩
abbrev main_v70 : Ref sig .tc := ⟨.hbm, 102, rfl⟩
abbrev main_cst_11 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_12 : Ref sig .tc := ⟨.hbm, 109, rfl⟩
abbrev main_v76 : Ref sig .tc := ⟨.hbm, 110, rfl⟩
abbrev main_v77 : Ref sig .tc := ⟨.hbm, 111, rfl⟩
abbrev main_cst_13 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_call1_v0 : Ref sig .tc := ⟨.hbm, 122, rfl⟩
abbrev main_call1_v1 : Ref sig .tc := ⟨.hbm, 123, rfl⟩
abbrev main_call1_v2 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_14 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_15 : Ref sig .tc := ⟨.hbm, 133, rfl⟩
abbrev main_v94 : Ref sig .tc := ⟨.hbm, 134, rfl⟩
abbrev main_v95 : Ref sig .tc := ⟨.hbm, 135, rfl⟩
abbrev main_cst_16 : Ref sig .tc := ⟨.hbm, 136, rfl⟩
abbrev main_v96 : Ref sig .tc := ⟨.hbm, 137, rfl⟩
abbrev main_cst_17 : Ref sig .tc := ⟨.hbm, 138, rfl⟩
abbrev main_v97 : Ref sig .tc := ⟨.hbm, 139, rfl⟩
abbrev main_v98 : Ref sig .tc := ⟨.hbm, 140, rfl⟩
abbrev main_cst_18 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_cst_19 : Ref sig .tc := ⟨.hbm, 146, rfl⟩
abbrev main_v103 : Ref sig .tc := ⟨.hbm, 147, rfl⟩
abbrev main_v104 : Ref sig .tc := ⟨.hbm, 148, rfl⟩
abbrev main_cst_20 : Ref sig .tc := ⟨.hbm, 149, rfl⟩
abbrev main_v105 : Ref sig .tc := ⟨.hbm, 150, rfl⟩
abbrev main_v106 : Ref sig .tc := ⟨.hbm, 151, rfl⟩
abbrev main_cst_21 : Ref sig .tc := ⟨.hbm, 152, rfl⟩
abbrev main_v107 : Ref sig .tc := ⟨.hbm, 153, rfl⟩
abbrev main_v108 : Ref sig .tc := ⟨.hbm, 154, rfl⟩
abbrev main_cst_22 : Ref sig .tc := ⟨.hbm, 155, rfl⟩
abbrev main_v109 : Ref sig .tc := ⟨.hbm, 156, rfl⟩
abbrev main_v110 : Ref sig .tc := ⟨.hbm, 157, rfl⟩
abbrev main_cst_23 : Ref sig .tc := ⟨.hbm, 158, rfl⟩
abbrev main_v111 : Ref sig .tc := ⟨.hbm, 159, rfl⟩
abbrev main_v112 : Ref sig .tc := ⟨.hbm, 160, rfl⟩
abbrev main_cst_24 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_cst_25 : Ref sig .tc := ⟨.hbm, 166, rfl⟩
abbrev main_v117 : Ref sig .tc := ⟨.hbm, 167, rfl⟩
abbrev main_v118 : Ref sig .tc := ⟨.hbm, 168, rfl⟩
abbrev main_cst_26 : Ref sig .tc := ⟨.hbm, 169, rfl⟩
abbrev main_v119 : Ref sig .tc := ⟨.hbm, 170, rfl⟩
abbrev main_v120 : Ref sig .tc := ⟨.hbm, 171, rfl⟩
abbrev main_cst_27 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_cst_28 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_cst_29 : Ref sig .tc := ⟨.hbm, 184, rfl⟩
abbrev main_v131 : Ref sig .tc := ⟨.hbm, 185, rfl⟩
abbrev main_v132 : Ref sig .tc := ⟨.hbm, 186, rfl⟩
abbrev main_cst_30 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_cst_31 : Ref sig .tc := ⟨.hbm, 193, rfl⟩
abbrev main_v138 : Ref sig .tc := ⟨.hbm, 194, rfl⟩
abbrev main_v139 : Ref sig .tc := ⟨.hbm, 195, rfl⟩
abbrev main_cst_32 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩

abbrev nD : Nat := 1
abbrev τ : Topo := Topo.v7x

variable {F : FTy → Type} [FloatOps F]
-- ==== KernelUp.lean ====
abbrev S8192x1024 : Shape := ⟨2, ![8192, 1024]⟩
abbrev S8192x5632 : Shape := ⟨2, ![8192, 5632]⟩
abbrev S8192x2x2x1408 : Shape := ⟨4, ![8192, 2, 2, 1408]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S8192x1024, .bf16⟩
  | .hbm, ⟨3, _⟩ => ⟨S8192x2x2x1408, .f32⟩
  | .hbm, ⟨4, _⟩ => ⟨S8192x2x2x1408, .f32⟩
  | .hbm, ⟨5, _⟩ => ⟨S8192x5632, .f32⟩
  | .hbm, ⟨6, _⟩ => ⟨S8192x5632, .bf16⟩
  | .hbm, ⟨7, _⟩ => ⟨S4x1024x1408, .f32⟩
  | .hbm, ⟨8, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1x1024x1408, .bf16⟩
  | .local _ .vmem, ⟨7, _⟩ => ⟨S1x1024x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.muli v9 c2_i32_3
  let c2_i32_4 : BitVec 32 := 2#32
  let v11 : BitVec 32 := Scalar.divsi arg0 c2_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi arg0 c2_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c0_i32_11 : BitVec 32 := 0#32
  let c0_i32_12 : BitVec 32 := 0#32
  ![v28.toNat, arg1.toNat, c0_i32_11.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.muli v9 c2_i32_3
  let c2_i32_4 : BitVec 32 := 2#32
  let v11 : BitVec 32 := Scalar.divsi arg0 c2_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi arg0 c2_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c0_i32_11 : BitVec 32 := 0#32
  let c0_i32_12 : BitVec 32 := 0#32
  ![v28.toNat, arg1.toNat, c0_i32_11.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceUpIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S_, .f32⟩
  | .hbm, ⟨3, _⟩ => ⟨S1024x5632, .f32⟩
  | .hbm, ⟨4, _⟩ => ⟨S8192x5632, .f32⟩
  | .hbm, ⟨5, _⟩ => ⟨S5632x1024, .f32⟩
  | .hbm, ⟨6, _⟩ => ⟨S1024x5632, .f32⟩
  | .hbm, ⟨7, _⟩ => ⟨S1024x4x1408, .f32⟩
  | .hbm, ⟨8, _⟩ => ⟨S4x1024x1408, .f32⟩
  | .hbm, ⟨9, _⟩ => ⟨S4x1024x1408, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDown.lean ====
abbrev S8192x2816 : Shape := ⟨2, ![8192, 2816]⟩
abbrev S8192x1024 : Shape := ⟨2, ![8192, 1024]⟩
abbrev S1x2816x1024 : Shape := ⟨3, ![1, 2816, 1024]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S1x2816x1024, .f32⟩
  | .hbm, ⟨5, _⟩ => ⟨S1x2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .f32⟩
  | .local _ .vmem, ⟨5, _⟩ => ⟨S1x1408x1024, .f32⟩
  | .local _ .vmem, ⟨6, _⟩ => ⟨S1x1408x1024, .bf16⟩
  | .local _ .vmem, ⟨7, _⟩ => ⟨S1x1408x1024, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDownIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S1x2816x1024, .f32⟩
  | .hbm, ⟨8, _⟩ => ⟨S1x2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelIn.lean ====
abbrev S8192x1024 : Shape := ⟨2, ![8192, 1024]⟩
abbrev S8192x6144 : Shape := ⟨2, ![8192, 6144]⟩
abbrev S4x1024x1536 : Shape := ⟨3, ![4, 1024, 1536]⟩
abbrev S2048x1024 : Shape := ⟨2, ![2048, 1024]⟩
abbrev S2048x1536 : Shape := ⟨2, ![2048, 1536]⟩
abbrev S1x1024x1536 : Shape := ⟨3, ![1, 1024, 1536]⟩
abbrev S1024x1536 : Shape := ⟨2, ![1024, 1536]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x6144, .f32⟩
  | .hbm, ⟨2, _⟩ => ⟨S8192x1024, .bf16⟩
  | .hbm, ⟨3, _⟩ => ⟨S8192x6144, .bf16⟩
  | .hbm, ⟨4, _⟩ => ⟨S4x1024x1536, .f32⟩
  | .hbm, ⟨5, _⟩ => ⟨S4x1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1x1024x1536, .f32⟩
  | .local _ .vmem, ⟨5, _⟩ => ⟨S1x1024x1536, .f32⟩
  | .local _ .vmem, ⟨6, _⟩ => ⟨S1x1024x1536, .bf16⟩
  | .local _ .vmem, ⟨7, _⟩ => ⟨S1x1024x1536, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceInIdeal.lean ====
abbrev S8192x1024 : Shape := ⟨2, ![8192, 1024]⟩
abbrev S8192x6144 : Shape := ⟨2, ![8192, 6144]⟩
abbrev S_ : Shape := ⟨0, ![]⟩
abbrev S1024x6144 : Shape := ⟨2, ![1024, 6144]⟩
abbrev S6144x1024 : Shape := ⟨2, ![6144, 1024]⟩
abbrev S1024x4x1536 : Shape := ⟨3, ![1024, 4, 1536]⟩
abbrev S4x1024x1536 : Shape := ⟨3, ![4, 1024, 1536]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x6144, .f32⟩
  | .hbm, ⟨2, _⟩ => ⟨S_, .f32⟩
  | .hbm, ⟨3, _⟩ => ⟨S1024x6144, .f32⟩
  | .hbm, ⟨4, _⟩ => ⟨S8192x6144, .f32⟩
  | .hbm, ⟨5, _⟩ => ⟨S6144x1024, .f32⟩
  | .hbm, ⟨6, _⟩ => ⟨S1024x6144, .f32⟩
  | .hbm, ⟨7, _⟩ => ⟨S1024x4x1536, .f32⟩
  | .hbm, ⟨8, _⟩ => ⟨S4x1024x1536, .f32⟩
  | .hbm, ⟨9, _⟩ => ⟨S4x1024x1536, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelOut.lean ====
abbrev S8192x2048 : Shape := ⟨2, ![8192, 2048]⟩
abbrev S8192x1024 : Shape := ⟨2, ![8192, 1024]⟩
abbrev S1x2048x1024 : Shape := ⟨3, ![1, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x2048, .bf16⟩
  | .hbm, ⟨3, _⟩ => ⟨S8192x1024, .bf16⟩
  | .hbm, ⟨4, _⟩ => ⟨S1x2048x1024, .f32⟩
  | .hbm, ⟨5, _⟩ => ⟨S1x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .bf16⟩
  | .local _ .vmem, ⟨7, _⟩ => ⟨S1x1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceOutIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩
abbrev S1x2048x1024 : Shape := ⟨3, ![1, 2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S_, .f32⟩
  | .hbm, ⟨3, _⟩ => ⟨S2048x1024, .f32⟩
  | .hbm, ⟨4, _⟩ => ⟨S8192x1024, .f32⟩
  | .hbm, ⟨5, _⟩ => ⟨S1024x2048, .f32⟩
  | .hbm, ⟨6, _⟩ => ⟨S2048x1024, .f32⟩
  | .hbm, ⟨7, _⟩ => ⟨S1x2048x1024, .f32⟩
  | .hbm, ⟨8, _⟩ => ⟨S1x2048x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelRet.lean ====
abbrev S8192x6144 : Shape := ⟨2, ![8192, 6144]⟩
abbrev S8192x1024 : Shape := ⟨2, ![8192, 1024]⟩
abbrev S1024 : Shape := ⟨1, ![1024]⟩
abbrev S1024x6144 : Shape := ⟨2, ![1024, 6144]⟩
abbrev S1024x4x1536 : Shape := ⟨3, ![1024, 4, 1536]⟩
abbrev S4x1024x1536 : Shape := ⟨3, ![4, 1024, 1536]⟩
abbrev S1x1024 : Shape := ⟨2, ![1, 1024]⟩
abbrev S_ : Shape := ⟨0, ![]⟩
abbrev S8x128 : Shape := ⟨2, ![8, 128]⟩
abbrev S512x6144 : Shape := ⟨2, ![512, 6144]⟩
abbrev S512x1024 : Shape := ⟨2, ![512, 1024]⟩
abbrev S512x1536 : Shape := ⟨2, ![512, 1536]⟩
abbrev S1x1024x1536 : Shape := ⟨3, ![1, 1024, 1536]⟩
abbrev S1024x1536 : Shape := ⟨2, ![1024, 1536]⟩
abbrev S512 : Shape := ⟨1, ![512]⟩
abbrev S512x1 : Shape := ⟨2, ![512, 1]⟩

abbrev nBuf : Space → Nat
  | .hbm => 14
  | .vmem => 11
  | .smem => 0
  | _ => 0

abbrev bufTy : (tb : Table) → Fin (tcTables nBuf tb) → BufTy
  | .hbm, ⟨0, _⟩ => ⟨S8192x6144, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1024x6144, .f32⟩
  | .hbm, ⟨5, _⟩ => ⟨S1024x4x1536, .f32⟩
  | .hbm, ⟨6, _⟩ => ⟨S4x1024x1536, .f32⟩
  | .hbm, ⟨7, _⟩ => ⟨S4x1024x1536, .bf16⟩
  | .hbm, ⟨8, _⟩ => ⟨S8192x6144, .bf16⟩
  | .hbm, ⟨9, _⟩ => ⟨S1x1024, .f32⟩
  | .hbm, ⟨10, _⟩ => ⟨S_, .f32⟩
  | .hbm, ⟨11, _⟩ => ⟨S8x128, .f32⟩
  | .hbm, ⟨12, _⟩ => ⟨S8192x1024, .f32⟩
  | .hbm, ⟨13, _⟩ => ⟨S1x1024, .f32⟩
  | .local _ .vmem, ⟨0, _⟩ => ⟨S512x6144, .bf16⟩
  | .local _ .vmem, ⟨1, _⟩ => ⟨S512x6144, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S4x1024x1536, .bf16⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceRetIdeal.lean ====
abbrev S8192x6144 : Shape := ⟨2, ![8192, 6144]⟩
abbrev S8192x1024 : Shape := ⟨2, ![8192, 1024]⟩
abbrev S1024 : Shape := ⟨1, ![1024]⟩
abbrev S1024x6144 : Shape := ⟨2, ![1024, 6144]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1024x6144, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x6144, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== KernelProj.lean ====
abbrev S8192x1024 : Shape := ⟨2, ![8192, 1024]⟩
abbrev S1024 : Shape := ⟨1, ![1024]⟩
abbrev S1024x6144 : Shape := ⟨2, ![1024, 6144]⟩
abbrev S8192 : Shape := ⟨1, ![8192]⟩
abbrev S128 : Shape := ⟨1, ![128]⟩
abbrev S_ : Shape := ⟨0, ![]⟩
abbrev S1x128 : Shape := ⟨2, ![1, 128]⟩
abbrev S8192x1 : Shape := ⟨2, ![8192, 1]⟩
abbrev S8192x128 : Shape := ⟨2, ![8192, 128]⟩
abbrev S1024x4x1536 : Shape := ⟨3, ![1024, 4, 1536]⟩
abbrev S4x1024x1536 : Shape := ⟨3, ![4, 1024, 1536]⟩
abbrev S1x1024 : Shape := ⟨2, ![1, 1024]⟩
abbrev S8192x6144 : Shape := ⟨2, ![8192, 6144]⟩
abbrev S512x1024 : Shape := ⟨2, ![512, 1024]⟩
abbrev S512x128 : Shape := ⟨2, ![512, 128]⟩
abbrev S512x6144 : Shape := ⟨2, ![512, 6144]⟩
abbrev S512 : Shape := ⟨1, ![512]⟩
abbrev S512x1 : Shape := ⟨2, ![512, 1]⟩
abbrev S1x1024x1536 : Shape := ⟨3, ![1, 1024, 1536]⟩
abbrev S1024x1536 : Shape := ⟨2, ![1024, 1536]⟩
abbrev S512x1536 : Shape := ⟨2, ![512, 1536]⟩
abbrev S512x256 : Shape := ⟨2, ![512, 256]⟩

abbrev nBuf : Space → Nat
  | .hbm => 32
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x6144, .f32⟩
  | .hbm, ⟨3, _⟩ => ⟨S8192, .i32⟩
  | .hbm, ⟨4, _⟩ => ⟨S128, .f32⟩
  | .hbm, ⟨5, _⟩ => ⟨S_, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S1x128, .f32⟩
  | .hbm, ⟨19, _⟩ => ⟨S8192, .f32⟩
  | .hbm, ⟨20, _⟩ => ⟨S8192x1, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S1024x4x1536, .f32⟩
  | .hbm, ⟨25, _⟩ => ⟨S4x1024x1536, .f32⟩
  | .hbm, ⟨26, _⟩ => ⟨S4x1024x1536, .bf16⟩
  | .hbm, ⟨27, _⟩ => ⟨S1x1024, .f32⟩
  | .hbm, ⟨28, _⟩ => ⟨S8192x128, .f32⟩
  | .hbm, ⟨29, _⟩ => ⟨S8192x128, .f32⟩
  | .hbm, ⟨30, _⟩ => ⟨S8192x6144, .bf16⟩
  | .hbm, ⟨31, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x6144, .bf16⟩
  | .local _ .vmem, ⟨8, _⟩ => ⟨S512x6144, .bf16⟩
  | .local _ .vmem, ⟨9, _⟩ => ⟨S512x1024, .bf16⟩
  | .local _ .vmem, ⟨10, _⟩ => ⟨S512x1024, .bf16⟩
  | .local _ .vmem, ⟨11, _⟩ => ⟨S4x1024x1536, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22_0 : Ref sig .tc := ⟨.hbm, 30, rfl⟩
abbrev main_v22_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x6144 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceProjIdeal.lean ====
abbrev S8192x1024 : Shape := ⟨2, ![8192, 1024]⟩
abbrev S1024 : Shape := ⟨1, ![1024]⟩
abbrev S1024x6144 : Shape := ⟨2, ![1024, 6144]⟩
abbrev S8192 : Shape := ⟨1, ![8192]⟩
abbrev S_ : Shape := ⟨0, ![]⟩
abbrev S8192x1 : Shape := ⟨2, ![8192, 1]⟩
abbrev S1x1024 : Shape := ⟨2, ![1, 1024]⟩
abbrev S8192x6144 : Shape := ⟨2, ![8192, 6144]⟩
abbrev S8192x2048 : Shape := ⟨2, ![8192, 2048]⟩
abbrev S8192x4x256 : Shape := ⟨3, ![8192, 4, 256]⟩
abbrev S128 : Shape := ⟨1, ![128]⟩
abbrev S1x128 : Shape := ⟨2, ![1, 128]⟩
abbrev S8192x128 : Shape := ⟨2, ![8192, 128]⟩
abbrev S8192x1x128 : Shape := ⟨3, ![8192, 1, 128]⟩
abbrev S8192x4x128 : Shape := ⟨3, ![8192, 4, 128]⟩

abbrev nBuf : Space → Nat
  | .hbm => 109
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x6144, .f32⟩
  | .hbm, ⟨3, _⟩ => ⟨S8192, .i32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x6144, .f32⟩
  | .hbm, ⟨21, _⟩ => ⟨S8192x1024, .f32⟩
  | .hbm, ⟨22, _⟩ => ⟨S8192x1024, .f32⟩
  | .hbm, ⟨23, _⟩ => ⟨S8192x2048, .f32⟩
  | .hbm, ⟨24, _⟩ => ⟨S8192x2048, .f32⟩
  | .hbm, ⟨25, _⟩ => ⟨S8192x4x256, .f32⟩
  | .hbm, ⟨26, _⟩ => ⟨S128, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S128, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S8192, .f32⟩
  | .hbm, ⟨41, _⟩ => ⟨S8192x1, .f32⟩
  | .hbm, ⟨42, _⟩ => ⟨S1x128, .f32⟩
  | .hbm, ⟨43, _⟩ => ⟨S8192x128, .f32⟩
  | .hbm, ⟨44, _⟩ => ⟨S8192x128, .f32⟩
  | .hbm, ⟨45, _⟩ => ⟨S8192x128, .f32⟩
  | .hbm, ⟨46, _⟩ => ⟨S8192x128, .f32⟩
  | .hbm, ⟨47, _⟩ => ⟨S8192x1x128, .f32⟩
  | .hbm, ⟨48, _⟩ => ⟨S8192x128, .f32⟩
  | .hbm, ⟨49, _⟩ => ⟨S8192x1x128, .f32⟩
  | .hbm, ⟨50, _⟩ => ⟨S8192x4x128, .f32⟩
  | .hbm, ⟨51, _⟩ => ⟨S8192x4x128, .f32⟩
  | .hbm, ⟨52, _⟩ => ⟨S8192x4x128, .f32⟩
  | .hbm, ⟨53, _⟩ => ⟨S8192x4x128, .f32⟩
  | .hbm, ⟨54, _⟩ => ⟨S8192x4x128, .f32⟩
  | .hbm, ⟨55, _⟩ => ⟨S8192x4x128, .f32⟩
  | .hbm, ⟨56, _⟩ => ⟨S8192x4x128, .f32⟩
  | .hbm, ⟨57, _⟩ => ⟨S8192x4x128, .f32⟩
  | .hbm, ⟨58, _⟩ => ⟨S8192x4x128, .f32⟩
  | .hbm, ⟨59, _⟩ => ⟨S8192x4x128, .f32⟩
  | .hbm, ⟨60, _⟩ => ⟨S8192x4x128, .f32⟩
  | .hbm, ⟨61, _⟩ => ⟨S8192x4x128, .f32⟩
  | .hbm, ⟨62, _⟩ => ⟨S8192x4x256, .f32⟩
  | .hbm, ⟨63, _⟩ => ⟨S_, .f32⟩
  | .hbm, ⟨64, _⟩ => ⟨S8192x4x256, .f32⟩
  | .hbm, ⟨65, _⟩ => ⟨S8192x4x256, .f32⟩
  | .hbm, ⟨66, _⟩ => ⟨S8192x4x256, .f32⟩
  | .hbm, ⟨67, _⟩ => ⟨S128, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S_, .f32⟩
  | .hbm, ⟨72, _⟩ => ⟨S128, .f32⟩
  | .hbm, ⟨73, _⟩ => ⟨S128, .f32⟩
  | .hbm, ⟨74, _⟩ => ⟨S128, .f32⟩
  | .hbm, ⟨75, _⟩ => ⟨S_, .f32⟩
  | .hbm, ⟨76, _⟩ => ⟨S128, .f32⟩
  | .hbm, ⟨77, _⟩ => ⟨S128, .f32⟩
  | .hbm, ⟨78, _⟩ => ⟨S_, .f32⟩
  | .hbm, ⟨79, _⟩ => ⟨S128, .f32⟩
  | .hbm, ⟨80, _⟩ => ⟨S128, .f32⟩
  | .hbm, ⟨81, _⟩ => ⟨S8192, .f32⟩
  | .hbm, ⟨82, _⟩ => ⟨S8192x1, .f32⟩
  | .hbm, ⟨83, _⟩ => ⟨S1x128, .f32⟩
  | .hbm, ⟨84, _⟩ => ⟨S8192x128, .f32⟩
  | .hbm, ⟨85, _⟩ => ⟨S8192x128, .f32⟩
  | .hbm, ⟨86, _⟩ => ⟨S8192x128, .f32⟩
  | .hbm, ⟨87, _⟩ => ⟨S8192x128, .f32⟩
  | .hbm, ⟨88, _⟩ => ⟨S8192x1x128, .f32⟩
  | .hbm, ⟨89, _⟩ => ⟨S8192x128, .f32⟩
  | .hbm, ⟨90, _⟩ => ⟨S8192x1x128, .f32⟩
  | .hbm, ⟨91, _⟩ => ⟨S8192x4x128, .f32⟩
  | .hbm, ⟨92, _⟩ => ⟨S8192x4x128, .f32⟩
  | .hbm, ⟨93, _⟩ => ⟨S8192x4x128, .f32⟩
  | .hbm, ⟨94, _⟩ => ⟨S8192x4x128, .f32⟩
  | .hbm, ⟨95, _⟩ => ⟨S8192x4x128, .f32⟩
  | .hbm, ⟨96, _⟩ => ⟨S8192x4x128, .f32⟩
  | .hbm, ⟨97, _⟩ => ⟨S8192x4x128, .f32⟩
  | .hbm, ⟨98, _⟩ => ⟨S8192x4x128, .f32⟩
  | .hbm, ⟨99, _⟩ => ⟨S8192x4x128, .f32⟩
  | .hbm, ⟨100, _⟩ => ⟨S8192x4x128, .f32⟩
  | .hbm, ⟨101, _⟩ => ⟨S8192x4x128, .f32⟩
  | .hbm, ⟨102, _⟩ => ⟨S8192x4x128, .f32⟩
  | .hbm, ⟨103, _⟩ => ⟨S8192x4x256, .f32⟩
  | .hbm, ⟨104, _⟩ => ⟨S8192x1024, .f32⟩
  | .hbm, ⟨105, _⟩ => ⟨S8192x1024, .f32⟩
  | .hbm, ⟨106, _⟩ => ⟨S8192x6144, .f32⟩
  | .hbm, ⟨107, _⟩ => ⟨S8192x6144, .bf16⟩
  | .hbm, ⟨108, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_6 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_7 : Ref sig .tc := ⟨.hbm, 68, rfl⟩
abbrev main_v56 : Ref sig .tc := ⟨.hbm, 69, rfl⟩
abbrev main_v57 : Ref sig .tc := ⟨.hbm, 70, rfl⟩
abbrev main_cst_8 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_9 : Ref sig .tc := ⟨.hbm, 75, rfl⟩
abbrev main_v61 : Ref sig .tc := ⟨.hbm, 76, rfl⟩
abbrev main_v62 : Ref sig .tc := ⟨.hbm, 77, rfl⟩
abbrev main_cst_10 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩

abbrev nD : Nat := 1
abbrev τ : Topo := Topo.v7x

variable {F : FTy → Type} [FloatOps F]
-- ==== Proof.Outs.lean ====
module

public import proofs.«01_k».proof.Proof.Gen.KernelIdeal.Frame.RunB
public import Idealize.ShloMosaic.Lib.Claim

/-!
What each output block and each carried scratch holds after the body ran, in either case of its condition: the
stores of the run read back, with the proofs that they cover the block.
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The contents of the output blocks and of the carried scratch, in order. -/
abbrev Outs (F : FTy → Type) [FloatOps F] : Type :=
  Vec F S256x1024 .f32 × Vec F S256x5632 .bf16 × Vec F S256x1024 .bf16 × Vec F S8x1024 .f32 × Vec F S8x1024 .f32 × Vec F S4x3x8x1408 .f32 × Vec F S4x8x1408 .f32 × Vec F S4x1024x1408 .bf16 × Vec F S2816x1024 .bf16 × Vec F S4x8x1408 .f32

section

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S256x5632 .bf16) (harg5 : arg5.IsWhole) (arg6 : Memref sig .tc .vmem S1x1024 .f32) (harg6 : arg6.IsWhole) (arg7 : Memref sig .tc .vmem S1x1024 .f32) (harg7 : arg7.IsWhole) (arg10 : Memref sig .tc .vmem S4x3x1408 .f32) (harg10 : arg10.IsWhole) (arg11 : Memref sig .tc .vmem S256x1024 .f32) (harg11 : arg11.IsWhole) (arg12 : Memref sig .tc .vmem S256x5632 .bf16) (harg12 : arg12.IsWhole) (arg13 : Memref sig .tc .vmem S256x1024 .bf16) (harg13 : arg13.IsWhole) (arg14 : Memref sig .tc .vmem S8x1024 .f32) (harg14 : arg14.IsWhole) (arg15 : Memref sig .tc .vmem S8x1024 .f32) (harg15 : arg15.IsWhole) (arg16 : Memref sig .tc .vmem S4x3x8x1408 .f32) (harg16 : arg16.IsWhole) (arg17 : Memref sig .tc .vmem S4x8x1408 .f32) (harg17 : arg17.IsWhole) (arg18 : Memref sig .tc .vmem S4x1024x1408 .bf16) (harg18 : arg18.IsWhole) (arg19 : Memref sig .tc .vmem S2816x1024 .bf16) (harg19 : arg19.IsWhole) (arg20 : Memref sig .tc .vmem S4x8x1408 .f32) (harg20 : arg20.IsWhole) (hc0 : cond0_0 i)
    (x0 : Vec F S256x1024 .f32) (x1 : Vec F S256x1024 .f32) (x2 : Vec F S256x1024 .f32) (x3 : Vec F S256x5632 .bf16) (x4 : Vec F S256x5632 .bf16) (x5 : Vec F S1x1024 .f32) (x6 : Vec F S1x1024 .f32) (x7 : Vec F S4x3x1408 .f32) (fh0 : HbBuf0 (F := F) c hbM0_0) (fh1 : HbBuf0 (F := F) c hbM0_1)

theorem cover0_A_8 (y : S256x1024.Idx) :
    ∃ pc ∈ (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).1, y ∈ pc.1.set :=
  View.cover_of_tiledL (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).1 S256x1024.size (by sl_kernel_rfl) y

def out0_A_8 : Vec F S256x1024 .f32 :=
  VO0_8.read (Elt F) (VO0_8.writes (Elt F) VO0_8.junk (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).1)

theorem cover0_A_9 (y : S256x5632.Idx) :
    ∃ pc ∈ (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).2.1, y ∈ pc.1.set :=
  View.cover_of_tiledL (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).2.1 S256x1408.size (by sl_kernel_rfl) y

def out0_A_9 : Vec F S256x5632 .bf16 :=
  VO0_9.read (Elt F) (VO0_9.writes (Elt F) VO0_9.junk (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).2.1)

theorem cover0_A_10 (y : S256x1024.Idx) :
    ∃ pc ∈ (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).2.2.1, y ∈ pc.1.set :=
  View.cover_of_tiledL (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).2.2.1 S256x1024.size (by sl_kernel_rfl) y

def out0_A_10 : Vec F S256x1024 .bf16 :=
  VO0_10.read (Elt F) (VO0_10.writes (Elt F) VO0_10.junk (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).2.2.1)

theorem cover0_A_11 (y : S8x1024.Idx) :
    ∃ pc ∈ (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).2.2.2.1, y ∈ pc.1.set :=
  View.cover_of_tiledL (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).2.2.2.1 S8x1024.size (by sl_kernel_rfl) y

def out0_A_11 : Vec F S8x1024 .f32 :=
  VO0_11.read (Elt F) (VO0_11.writes (Elt F) VO0_11.junk (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).2.2.2.1)

theorem cover0_A_12 (y : S8x1024.Idx) :
    ∃ pc ∈ (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).2.2.2.2.1, y ∈ pc.1.set :=
  View.cover_of_tiledL (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).2.2.2.2.1 S8x1024.size (by sl_kernel_rfl) y

def out0_A_12 : Vec F S8x1024 .f32 :=
  VO0_12.read (Elt F) (VO0_12.writes (Elt F) VO0_12.junk (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).2.2.2.2.1)

theorem cover0_A_13 (y : S4x3x8x1408.Idx) :
    ∃ pc ∈ (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).2.2.2.2.2.1, y ∈ pc.1.set :=
  View.cover_of_tiledBy (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).2.2.2.2.2.1 ![1, 1, 8, 1408] (by sl_kernel_rfl) y

def out0_A_13 : Vec F S4x3x8x1408 .f32 :=
  VO0_13.read (Elt F) (VO0_13.writes (Elt F) VO0_13.junk (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).2.2.2.2.2.1)

theorem cover0_A_14 (y : S4x8x1408.Idx) :
    ∃ pc ∈ (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).2.2.2.2.2.2.1, y ∈ pc.1.set :=
  View.cover_of_tiledBy (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).2.2.2.2.2.2.1 ![1, 8, 1408] (by sl_kernel_rfl) y

def out0_A_14 : Vec F S4x8x1408 .f32 :=
  VO0_14.read (Elt F) (VO0_14.writes (Elt F) VO0_14.junk (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).2.2.2.2.2.2.1)

theorem scover0_A_0 (y : S4x1024x1408.Idx) :
    ∃ pc ∈ (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).2.2.2.2.2.2.2.1, y ∈ pc.1.set :=
  View.cover_of_tiledL (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).2.2.2.2.2.2.2.1 S4x1024x1408.size (by sl_kernel_rfl) y

def sout0_A_0 : Vec F S4x1024x1408 .bf16 :=
  VS0_0.read (Elt F) (VS0_0.writes (Elt F) VS0_0.junk (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).2.2.2.2.2.2.2.1)

theorem scover0_A_1 (y : S2816x1024.Idx) :
    ∃ pc ∈ (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).2.2.2.2.2.2.2.2.1, y ∈ pc.1.set :=
  View.cover_of_tiledL (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).2.2.2.2.2.2.2.2.1 S2816x1024.size (by sl_kernel_rfl) y

def sout0_A_1 : Vec F S2816x1024 .bf16 :=
  VS0_1.read (Elt F) (VS0_1.writes (Elt F) VS0_1.junk (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).2.2.2.2.2.2.2.2.1)

theorem scover0_A_2 (y : S4x8x1408.Idx) :
    ∃ pc ∈ (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).2.2.2.2.2.2.2.2.2.1, y ∈ pc.1.set :=
  View.cover_of_wholeMem (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).2.2.2.2.2.2.2.2.2.1 (by sl_whole_mem) y

def sout0_A_2 : Vec F S4x8x1408 .f32 :=
  VS0_2.read (Elt F) (VS0_2.writes (Elt F) VS0_2.junk (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).2.2.2.2.2.2.2.2.2.1)

/-- Everything a point leaves in case A: the output blocks, then the carried scratch. -/
def outsA : Outs F :=
  (out0_A_8 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1,
    out0_A_9 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1,
    out0_A_10 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1,
    out0_A_11 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1,
    out0_A_12 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1,
    out0_A_13 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1,
    out0_A_14 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1,
    sout0_A_0 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1,
    sout0_A_1 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1,
    sout0_A_2 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1)

end

section

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S256x5632 .bf16) (harg5 : arg5.IsWhole) (arg6 : Memref sig .tc .vmem S1x1024 .f32) (harg6 : arg6.IsWhole) (arg7 : Memref sig .tc .vmem S1x1024 .f32) (harg7 : arg7.IsWhole) (arg10 : Memref sig .tc .vmem S4x3x1408 .f32) (harg10 : arg10.IsWhole) (arg11 : Memref sig .tc .vmem S256x1024 .f32) (harg11 : arg11.IsWhole) (arg12 : Memref sig .tc .vmem S256x5632 .bf16) (harg12 : arg12.IsWhole) (arg13 : Memref sig .tc .vmem S256x1024 .bf16) (harg13 : arg13.IsWhole) (arg14 : Memref sig .tc .vmem S8x1024 .f32) (harg14 : arg14.IsWhole) (arg15 : Memref sig .tc .vmem S8x1024 .f32) (harg15 : arg15.IsWhole) (arg16 : Memref sig .tc .vmem S4x3x8x1408 .f32) (harg16 : arg16.IsWhole) (arg17 : Memref sig .tc .vmem S4x8x1408 .f32) (harg17 : arg17.IsWhole) (arg18 : Memref sig .tc .vmem S4x1024x1408 .bf16) (harg18 : arg18.IsWhole) (arg19 : Memref sig .tc .vmem S2816x1024 .bf16) (harg19 : arg19.IsWhole) (arg20 : Memref sig .tc .vmem S4x8x1408 .f32) (harg20 : arg20.IsWhole) (hc0 : ¬cond0_0 i)
    (x0 : Vec F S256x1024 .f32) (x1 : Vec F S256x1024 .f32) (x2 : Vec F S256x1024 .f32) (x3 : Vec F S256x5632 .bf16) (x4 : Vec F S256x5632 .bf16) (x5 : Vec F S1x1024 .f32) (x6 : Vec F S1x1024 .f32) (x7 : Vec F S4x3x1408 .f32) (xo11 : Vec F S8x1024 .f32) (xo12 : Vec F S8x1024 .f32) (xo13 : Vec F S4x3x8x1408 .f32) (xo14 : Vec F S4x8x1408 .f32) (xs0 : Vec F S4x1024x1408 .bf16) (xs1 : Vec F S2816x1024 .bf16) (xs2 : Vec F S4x8x1408 .f32) (fh0 : HbBuf0 (F := F) c hbM0_0) (fh1 : HbBuf0 (F := F) c hbM0_1)

theorem cover0_B_8 (y : S256x1024.Idx) :
    ∃ pc ∈ (kernelRun0_B c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1).1, y ∈ pc.1.set :=
  View.cover_of_tiledL (kernelRun0_B c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1).1 S256x1024.size (by sl_kernel_rfl) y

def out0_B_8 : Vec F S256x1024 .f32 :=
  VO0_8.read (Elt F) (VO0_8.writes (Elt F) VO0_8.junk (kernelRun0_B c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1).1)

theorem cover0_B_9 (y : S256x5632.Idx) :
    ∃ pc ∈ (kernelRun0_B c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1).2.1, y ∈ pc.1.set :=
  View.cover_of_tiledL (kernelRun0_B c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1).2.1 S256x1408.size (by sl_kernel_rfl) y

def out0_B_9 : Vec F S256x5632 .bf16 :=
  VO0_9.read (Elt F) (VO0_9.writes (Elt F) VO0_9.junk (kernelRun0_B c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1).2.1)

theorem cover0_B_10 (y : S256x1024.Idx) :
    ∃ pc ∈ (kernelRun0_B c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1).2.2.1, y ∈ pc.1.set :=
  View.cover_of_tiledL (kernelRun0_B c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1).2.2.1 S256x1024.size (by sl_kernel_rfl) y

def out0_B_10 : Vec F S256x1024 .bf16 :=
  VO0_10.read (Elt F) (VO0_10.writes (Elt F) VO0_10.junk (kernelRun0_B c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1).2.2.1)

theorem cover0_B_11 (y : S8x1024.Idx) :
    ∃ pc ∈ (kernelRun0_B c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1).2.2.2.1, y ∈ pc.1.set :=
  View.cover_of_tiledL (kernelRun0_B c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1).2.2.2.1 S8x1024.size (by sl_kernel_rfl) y

def out0_B_11 : Vec F S8x1024 .f32 :=
  VO0_11.read (Elt F) (VO0_11.writes (Elt F) VO0_11.junk (kernelRun0_B c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1).2.2.2.1)

theorem cover0_B_12 (y : S8x1024.Idx) :
    ∃ pc ∈ (kernelRun0_B c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1).2.2.2.2.1, y ∈ pc.1.set :=
  View.cover_of_tiledL (kernelRun0_B c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1).2.2.2.2.1 S8x1024.size (by sl_kernel_rfl) y

def out0_B_12 : Vec F S8x1024 .f32 :=
  VO0_12.read (Elt F) (VO0_12.writes (Elt F) VO0_12.junk (kernelRun0_B c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1).2.2.2.2.1)

theorem cover0_B_13 (y : S4x3x8x1408.Idx) :
    ∃ pc ∈ (kernelRun0_B c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1).2.2.2.2.2.1, y ∈ pc.1.set :=
  View.cover_of_tiledL (kernelRun0_B c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1).2.2.2.2.2.1 S1x1x8x1408.size (by sl_kernel_rfl) y

def out0_B_13 : Vec F S4x3x8x1408 .f32 :=
  VO0_13.read (Elt F) (VO0_13.writes (Elt F) VO0_13.junk (kernelRun0_B c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1).2.2.2.2.2.1)

theorem cover0_B_14 (y : S4x8x1408.Idx) :
    ∃ pc ∈ (kernelRun0_B c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1).2.2.2.2.2.2.1, y ∈ pc.1.set :=
  View.cover_of_tiledL (kernelRun0_B c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1).2.2.2.2.2.2.1 S1x8x1408.size (by sl_kernel_rfl) y

def out0_B_14 : Vec F S4x8x1408 .f32 :=
  VO0_14.read (Elt F) (VO0_14.writes (Elt F) VO0_14.junk (kernelRun0_B c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1).2.2.2.2.2.2.1)

theorem scover0_B_2 (y : S4x8x1408.Idx) :
    ∃ pc ∈ (kernelRun0_B c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1).2.2.2.2.2.2.2.2.2.1, y ∈ pc.1.set :=
  View.cover_of_tiledL (kernelRun0_B c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1).2.2.2.2.2.2.2.2.2.1 S1x8x1408.size (by sl_kernel_rfl) y

def sout0_B_2 : Vec F S4x8x1408 .f32 :=
  VS0_2.read (Elt F) (VS0_2.writes (Elt F) VS0_2.junk (kernelRun0_B c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1).2.2.2.2.2.2.2.2.2.1)

/-- Everything a point leaves in case B: the output blocks, then the carried scratch. -/
def outsB : Outs F :=
  (out0_B_8 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1,
    out0_B_9 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1,
    out0_B_10 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1,
    out0_B_11 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1,
    out0_B_12 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1,
    out0_B_13 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1,
    out0_B_14 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1,
    xs0,
    xs1,
    sout0_B_2 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1)

end

end Cert.KernelIdeal.Gen

end
-- ==== Proof.Run.lean ====
module

public import proofs.«01_k».proof.Proof.Outs
public import Idealize.ShloMosaic.Lib.Claim

/-!
What the outputs hold after each grid point, the pipeline's proof data, the body's obligation and the run.
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the outputs hold after each point -/

/-- The first point's run at its blocks. -/
def stepA (c : Dev nD) (t : Fin cfg0.N) (h0 : t.val % 32 = 0) : Outs F :=
  outsA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (V m c main_v65) (V m c main_v66)

/-- A later point's run at its blocks, over what the point before left. -/
def stepB (c : Dev nD) (t : Fin cfg0.N) (h0 : ¬t.val % 32 = 0) (p : Outs F) : Outs F :=
  outsB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) p.2.2.2.1 p.2.2.2.2.1 p.2.2.2.2.2.1 p.2.2.2.2.2.2.1 p.2.2.2.2.2.2.2.1 p.2.2.2.2.2.2.2.2.1 p.2.2.2.2.2.2.2.2.2 (V m c main_v65) (V m c main_v66)

/-- What the output blocks and the carried scratch hold after the body at position `n`. -/
def outsAt0 (c : Dev nD) : (n : ℕ) → n < cfg0.N → Outs F
  | 0, hn => stepA m c ⟨0, hn⟩ rfl
  | n + 1, hn => if h0 : (n + 1) % 32 = 0 then stepA m c ⟨n + 1, hn⟩ h0
    else stepB m c ⟨n + 1, hn⟩ h0 (outsAt0 c n (by omega))

theorem outsAt0_A (c : Dev nD) (t : Fin cfg0.N) (h0 : t.val % 32 = 0) : outsAt0 m c t.val t.isLt = stepA m c t h0 := by
  obtain ⟨n, hn⟩ := t
  cases n with
  | zero => rw [outsAt0]
  | succ n => rw [outsAt0, dif_pos h0]

theorem outsAt0_B (c : Dev nD) (t : Fin cfg0.N) (h0 : ¬t.val % 32 = 0) :
    outsAt0 m c t.val t.isLt = stepB m c t h0 (outsAt0 m c (t.val - 1) (Nat.lt_of_le_of_lt (Nat.sub_le _ _) t.isLt)) := by
  obtain ⟨n, hn⟩ := t
  cases n with
  | zero => exact absurd (Nat.zero_mod _) h0
  | succ n => rw [outsAt0, dif_neg h0]; rfl

/-- The region invariant before position `n` with a scratch the kernel carries between points: before the first point the
    launch's invariant (`ΦD`: every scratch at anything, the own cells at zero, the HBM operands, the generator register); afterwards the same with each carried
    scratch at what the point before left in it (`outsAt0`'s scratch components), the others at anything. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.2.2.2.2.1) ∗ owns (c : Thread nD τ) scM0_1 fullShare ((outsAt0 m c n hn).2.2.2.2.2.2.2.2.1) ∗ owns (c : Thread nD τ) scM0_2 fullShare ((outsAt0 m c n hn).2.2.2.2.2.2.2.2.2)) ∗ (∃ r, prngReg c r) ∗ iprop(semVal ((c : Thread nD τ), SemLoc.dma 23) 0 ∗ semVal ((c : Thread nD τ), SemLoc.dma 24) 0) ∗ iprop(hbPt0 c hbM0_0 (V m c main_v65) ∗ hbPt0 c hbM0_1 (V m c main_v66)))

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2.1) ∗ owns (c : Thread nD τ) scM0_1 fullShare ((outsAt0 m c n hn).2.2.2.2.2.2.2.2.1) ∗ owns (c : Thread nD τ) scM0_2 fullShare ((outsAt0 m c n hn).2.2.2.2.2.2.2.2.2)) ∗ (∃ r, prngReg c r) ∗ iprop(semVal ((c : Thread nD τ), SemLoc.dma 23) 0 ∗ semVal ((c : Thread nD τ), SemLoc.dma 24) 0) ∗ iprop(hbPt0 c hbM0_0 (V m c main_v65) ∗ hbPt0 c hbM0_1 (V m c main_v66))) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.1) ∗ owns (c : Thread nD τ) scM0_1 fullShare ((outsAt0 m c (n - 1) (by omega)).2.2.2.2.2.2.2.2.1) ∗ owns (c : Thread nD τ) scM0_2 fullShare ((outsAt0 m c (n - 1) (by omega)).2.2.2.2.2.2.2.2.2)) ∗ (∃ r, prngReg c r) ∗ iprop(semVal ((c : Thread nD τ), SemLoc.dma 23) 0 ∗ semVal ((c : Thread nD τ), SemLoc.dma 24) 0) ∗ iprop(hbPt0 c hbM0_0 (V m c main_v65) ∗ hbPt0 c hbM0_1 (V m c main_v66))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (`ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
    | ⟨11, _⟩ => (outsAt0 m c t.val t.isLt).2.2.2.1
    | ⟨12, _⟩ => (outsAt0 m c t.val t.isLt).2.2.2.2.1
    | ⟨13, _⟩ => (outsAt0 m c t.val t.isLt).2.2.2.2.2.1
    | ⟨14, _⟩ => (outsAt0 m c t.val t.isLt).2.2.2.2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]
theorem after0_11 (c : Dev nD) (t : Fin cfg0.N) : (dats m 0 c).after 11 t = (outsAt0 m c t.val t.isLt).2.2.2.1 := by dsimp only [dats]
theorem after0_12 (c : Dev nD) (t : Fin cfg0.N) : (dats m 0 c).after 12 t = (outsAt0 m c t.val t.isLt).2.2.2.2.1 := by dsimp only [dats]
theorem after0_13 (c : Dev nD) (t : Fin cfg0.N) : (dats m 0 c).after 13 t = (outsAt0 m c t.val t.isLt).2.2.2.2.2.1 := by dsimp only [dats]
theorem after0_14 (c : Dev nD) (t : Fin cfg0.N) : (dats m 0 c).after 14 t = (outsAt0 m c t.val t.isLt).2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
/-- At a point of case B output 11's current staging buffer holds what the body left at the point before: the point is
    not the first, the buffer was not written back between (`flush0_11`), the window is live and uncut (`Dat.before_out_kept`). -/
theorem before0_11_B (c : Dev nD) (t : Fin cfg0.N) (h0 : ¬t.val % 32 = 0) (d) :
    (dats m 0 c).before 11 t d = (outsAt0 m c (t.val - 1) (Nat.lt_of_le_of_lt (Nat.sub_le _ _) t.isLt)).2.2.2.1 := by
  have hN : t.val < 32 := lt_of_lt_of_eq t.isLt (show cfg0.N = 32 from N_0)
  rw [Dat.before_out_kept _ 11 rfl t (by omega) (Bool.eq_false_iff.mpr fun h => by have := (flush0_11 _).mp h; dsimp only at this; omega)
    (fun _ => rfl) (fun _ _ => rfl)]
  dsimp only [dats]
/-- At a point of case B output 12's current staging buffer holds what the body left at the point before: the point is
    not the first, the buffer was not written back between (`flush0_12`), the window is live and uncut (`Dat.before_out_kept`). -/
theorem before0_12_B (c : Dev nD) (t : Fin cfg0.N) (h0 : ¬t.val % 32 = 0) (d) :
    (dats m 0 c).before 12 t d = (outsAt0 m c (t.val - 1) (Nat.lt_of_le_of_lt (Nat.sub_le _ _) t.isLt)).2.2.2.2.1 := by
  have hN : t.val < 32 := lt_of_lt_of_eq t.isLt (show cfg0.N = 32 from N_0)
  rw [Dat.before_out_kept _ 12 rfl t (by omega) (Bool.eq_false_iff.mpr fun h => by have := (flush0_12 _).mp h; dsimp only at this; omega)
    (fun _ => rfl) (fun _ _ => rfl)]
  dsimp only [dats]
/-- At a point of case B output 13's current staging buffer holds what the body left at the point before: the point is
    not the first, the buffer was not written back between (`flush0_13`), the window is live and uncut (`Dat.before_out_kept`). -/
theorem before0_13_B (c : Dev nD) (t : Fin cfg0.N) (h0 : ¬t.val % 32 = 0) (d) :
    (dats m 0 c).before 13 t d = (outsAt0 m c (t.val - 1) (Nat.lt_of_le_of_lt (Nat.sub_le _ _) t.isLt)).2.2.2.2.2.1 := by
  have hN : t.val < 32 := lt_of_lt_of_eq t.isLt (show cfg0.N = 32 from N_0)
  rw [Dat.before_out_kept _ 13 rfl t (by omega) (Bool.eq_false_iff.mpr fun h => by have := (flush0_13 _).mp h; dsimp only at this; omega)
    (fun _ => rfl) (fun _ _ => rfl)]
  dsimp only [dats]
/-- At a point of case B output 14's current staging buffer holds what the body left at the point before: the point is
    not the first, the buffer was not written back between (`flush0_14`), the window is live and uncut (`Dat.before_out_kept`). -/
theorem before0_14_B (c : Dev nD) (t : Fin cfg0.N) (h0 : ¬t.val % 32 = 0) (d) :
    (dats m 0 c).before 14 t d = (outsAt0 m c (t.val - 1) (Nat.lt_of_le_of_lt (Nat.sub_le _ _) t.isLt)).2.2.2.2.2.2.1 := by
  have hN : t.val < 32 := lt_of_lt_of_eq t.isLt (show cfg0.N = 32 from N_0)
  rw [Dat.before_out_kept _ 14 rfl t (by omega) (Bool.eq_false_iff.mpr fun h => by have := (flush0_14 _).mp h; dsimp only at this; omega)
    (fun _ => rfl) (fun _ _ => rfl)]
  dsimp only [dats]

/-! ## The body obligation, at a generic point -/

/-- What the body is called with at point `t` (`BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`, the rest of `ΦD` opened by `PhiD0_eq`), the other scratch at anything, the register, its DMA cells at zero and the HBM operands, and takes the carried scratch back at this point's contents (`PhiS_succ`, by `scoverK_κ_N`), the cells and operands as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = PhiS m c (t.val + 1) t.isLt from rfl, PhiS_succ,
    after0_0, after0_1, after0_2, after0_3, after0_4, after0_5, after0_6, after0_7, after0_8, after0_9, after0_10, after0_11, after0_12, after0_13, after0_14]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases h0 : t.val % 32 = 0
  · by_cases hz : t.val = 0
    · rw [PhiS_castSucc m c t, PhiS_zero m c _ _ hz, PhiD0_eq]
      rw [outsAt0_A m c t h0]
      unfold stepA outsA out0_A_8 out0_A_9 out0_A_10 out0_A_11 out0_A_12 out0_A_13 out0_A_14 sout0_A_0 sout0_A_1 sout0_A_2; dsimp only
      iintro ⟨⟨⟨HS0, HS1, HS2⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun0_A c (grid0.coords t) _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (V m c main_v65) (V m c main_v66)).2.2.2.2.2.2.2.2.2.2 W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [HS0]; · iexact HS0
      isplitl [HS1]; · iexact HS1
      isplitl [HS2]; · iexact HS2
      isplitl [Hq0]; · iexact Hq0
      isplitl [Hq1]; · iexact Hq1
      isplitl [Hh0]; · iexact Hh0
      isplitl [Hh1]; · iexact Hh1
      isplitl [HW]; · iexact HW
      iintro ⟨H0, H1, H2, H3, H4, H5, H6, H7, ⟨%e8, H8⟩, ⟨%e9, H9⟩, ⟨%e10, H10⟩, ⟨%e11, H11⟩, ⟨%e12, H12⟩, ⟨%e13, H13⟩, ⟨%e14, H14⟩, ⟨%es0, HS0⟩, ⟨%es1, HS1⟩, ⟨%es2, HS2⟩, Hq0, Hq1, Hh0, Hh1, ⟨%W', HW'⟩⟩
      isplitl [HS0 HS1 HS2 Hg Hq0 Hq1 Hh0 Hh1]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _)
        isplitl [Hg]
        · iexact Hg
        isplitl [Hq0 Hq1]
        · isplitl [Hq0]; · iexact Hq0
          iexact Hq1
        isplitl [Hh0]; · iexact Hh0
        iexact Hh1
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _)
      unfold owns; iexists _; isplitr
      swap; · iexact H14
      ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _)
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      simp only [before0_11_B m c t h0, before0_12_B m c t h0, before0_13_B m c t h0, before0_14_B m c t h0]
      unfold stepB outsB out0_B_8 out0_B_9 out0_B_10 out0_B_11 out0_B_12 out0_B_13 out0_B_14 sout0_B_2; dsimp only
      iintro ⟨⟨⟨HS0, HS1, HS2⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun0_B c (grid0.coords t) _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _ _ _ _ _ _ _ (V m c main_v65) (V m c main_v66)).2.2.2.2.2.2.2.2.2.2 W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexact H11
      isplitl [H12]; · iexact H12
      isplitl [H13]; · iexact H13
      isplitl [H14]; · iexact H14
      isplitl [HS0]; · iexact HS0
      isplitl [HS1]; · iexact HS1
      isplitl [HS2]; · iexact HS2
      isplitl [Hq0]; · iexact Hq0
      isplitl [Hq1]; · iexact Hq1
      isplitl [Hh0]; · iexact Hh0
      isplitl [Hh1]; · iexact Hh1
      isplitl [HW]; · iexact HW
      iintro ⟨H0, H1, H2, H3, H4, H5, H6, H7, ⟨%e8, H8⟩, ⟨%e9, H9⟩, ⟨%e10, H10⟩, ⟨%e11, H11⟩, ⟨%e12, H12⟩, ⟨%e13, H13⟩, ⟨%e14, H14⟩, HS0, HS1, ⟨%es2, HS2⟩, Hq0, Hq1, Hh0, Hh1, ⟨%W', HW'⟩⟩
      isplitl [HS0 HS1 HS2 Hg Hq0 Hq1 Hh0 Hh1]
      · isplitl [HS0 HS1 HS2]
        · isplitl [HS0]; · iexact HS0
          isplitl [HS1]; · iexact HS1
          unfold owns; iexists _; isplitr
          swap; · iexact HS2
          ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _ _ _)
        isplitl [Hg]
        · iexact Hg
        isplitl [Hq0 Hq1]
        · isplitl [Hq0]; · iexact Hq0
          iexact Hq1
        isplitl [Hh0]; · iexact Hh0
        iexact Hh1
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H14
      ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (`triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2⟩, Hg, ⟨Hq0, Hq1⟩, ⟨Hh0, Hh1⟩⟩
  isplitl [HS0 HS1 HS2]
  · isplitl [HS0]
    · iexists _; iexact HS0
    isplitl [HS1]
    · iexists _; iexact HS1
    iexists _; iexact HS2
  isplitl [Hg]; · iexact Hg
  isplitl [Hq0 Hq1]
  · isplitl [Hq0]; · iexact Hq0
    iexact Hq1
  isplitl [Hh0]; · iexact Hh0
  iexact Hh1

/-- The same after the last point. -/
theorem hout (c : Dev nD) : (dats m 0 c).Φ (Fin.last cfg0.N) ⊢ Pipeline.ΦD osem0 spec0 H0 (V m) c :=
  Phi_out m c _ (by rw [Fin.val_last]; have : cfg0.N = 32 := N_0; omega)

/-! ## The run and the frame -/

-- The launch theorem's conclusion is this one with its definitions unfolded.
set_option backward.isDefEq.respectTransparency.types false in
set_option maxHeartbeats 800000 in
/-- The launch: `run_main`'s statement, and every semaphore counter at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (`FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame, over any floats: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Gen

end
-- ==== Proof.Printed.lean ====
module

public import proofs.«01_k».proof.Defs
public import proofs.«01_k».proof.Proof.Gen.Kernel
public import proofs.«01_k».proof.Proof.Run

/-!
The kernel over the machine's floats. Its text is that of the kernel over the reals, so that the one run gives both
frames.
-/

@[expose] public section

set_option maxRecDepth 16384
set_option maxHeartbeats 4000000

noncomputable section

namespace Cert.Mlp

open Idealize.ShloMosaic Idealize.ShloMosaic.TcCoe Idealize.SL.Sem

theorem bodies_eq : Cert.Kernel.defs₀ (F := Bits) = Cert.KernelIdeal.defs₀ (F := Bits) := by
  refine congrArg Defs.onTc (funext fun l => funext fun a => ?_)
  match l, a with
  | 0, (t, s) => rfl

theorem table_eq : Cert.Kernel.defs (F := Bits) = Cert.KernelIdeal.defs (F := Bits) :=
  congrArg (Pipeline.defs (Cert.Kernel.pcfgs (F := Bits))) bodies_eq

theorem frame_kernel : Cert.quiescent_Kernel := fun m ρ _ =>
  Eq.mpr (congrArg (fun d => θ_run d (onTc (τ := Cert.Kernel.τ) (Cert.Kernel.main (F := Bits))) ⟨m, fun _ => 0, ρ⟩ _) table_eq)
    (Cert.KernelIdeal.Gen.frame (F := Bits) m ρ)

end Cert.Mlp
-- ==== Proof.Calc.lean ====
module

public import proofs.«01_k».proof.Proof.Gen.KernelIdeal.Skeleton
public import Idealize.ShloMosaic.Lib.Pointwise
public import Idealize.ShloMosaic.PureOps.Ideal.Laws

/-!
Arrays of real numbers. `R1 v X` … `R4 v X` say that an array of extended reals holds the real numbers `X`,
a function of natural coordinates. Each operation the programs use takes such arrays to such arrays.
-/

@[expose] public section

set_option maxRecDepth 16384

noncomputable section

namespace Cert.Mlp

open Idealize.ShloMosaic

abbrev R1 {a : ℕ} (v : (⟨1, ![a]⟩ : Shape).Idx → EReal) (X : ℕ → ℝ) : Prop :=
  ∀ i : Fin a, v (ix1 i) = ((X i.val : ℝ) : EReal)

abbrev R2 {a b : ℕ} (v : (⟨2, ![a, b]⟩ : Shape).Idx → EReal) (X : ℕ → ℕ → ℝ) : Prop :=
  ∀ (i : Fin a) (j : Fin b), v (ix2 i j) = ((X i.val j.val : ℝ) : EReal)

abbrev R3 {a b c : ℕ} (v : (⟨3, ![a, b, c]⟩ : Shape).Idx → EReal) (X : ℕ → ℕ → ℕ → ℝ) : Prop :=
  ∀ (i : Fin a) (j : Fin b) (k : Fin c), v (ix3 i j k) = ((X i.val j.val k.val : ℝ) : EReal)

abbrev R4 {a b c d : ℕ} (v : (⟨4, ![a, b, c, d]⟩ : Shape).Idx → EReal) (X : ℕ → ℕ → ℕ → ℕ → ℝ) : Prop :=
  ∀ (i : Fin a) (j : Fin b) (k : Fin c) (l : Fin d), v (ix4 i j k l) = ((X i.val j.val k.val l.val : ℝ) : EReal)

theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s h ih => rw [Finset.sum_insert h, Finset.sum_insert h, ih, EReal.coe_add]

/-- The small constant a mean square is increased by. -/
def eps : ℝ := 8796093 / 2 ^ 43

theorem eps_pos : 0 < eps := by unfold eps; norm_num

theorem bits_eps : Ideal.ofBits .f32 0x358637BD#32 = ((eps : ℝ) : EReal) := by
  simp [Ideal.ofBits, Ideal.ieee, -EReal.coe_mul, eps]; norm_num

theorem bits_1024 : Ideal.ofBits .f32 0x44800000#32 = ((1024 : ℝ) : EReal) := by
  simp [Ideal.ofBits, Ideal.ieee, -EReal.coe_mul]; norm_num

theorem bits_neghalf : Ideal.ofBits .f32 0xBF000000#32 = ((-(1 / 2) : ℝ) : EReal) := by
  simp [Ideal.ofBits, Ideal.ieee, -EReal.coe_mul]; norm_num

theorem div_1024 (x : ℝ) : Ideal.div (x : EReal) ((1024 : ℝ) : EReal) = ((x * (1 / 1024) : ℝ) : EReal) := by
  rw [Ideal.div_coe (by norm_num), EReal.coe_mul]

/-- The reciprocal root mean square of one row. -/
def rs (y : ℕ → ℝ) : ℝ := (Real.sqrt ((∑ k : Fin 1024, y k * y k) * (1 / 1024) + eps))⁻¹

theorem ms_pos (y : ℕ → ℝ) : 0 < (∑ k : Fin 1024, y k * y k) * (1 / 1024) + eps :=
  add_pos_of_nonneg_of_pos (mul_nonneg (Finset.sum_nonneg fun k _ => mul_self_nonneg (y k)) (by norm_num)) eps_pos

theorem rs_coe (y : ℕ → ℝ) :
    Ideal.rsqrt (((∑ k : Fin 1024, y k * y k) * (1 / 1024) + eps : ℝ) : EReal) = ((rs y : ℝ) : EReal) := by
  have h := ms_pos y
  rw [Ideal.rsqrt_coe, if_neg (not_lt.mpr h.le), if_neg h.ne']
  rfl

/-- The gradient of a normalised and scaled row with respect to the row. -/
def rmsb (y dy g : ℕ → ℝ) (j : ℕ) : ℝ :=
  rs y * (dy j * g j - y j * rs y * ((∑ k : Fin 1024, dy k * g k * (y k * rs y)) * (1 / 1024)))

end Cert.Mlp
-- ==== Proof.Payload.lean ====
module

public import proofs.«01_k».proof.Proof.Calc

/-!
The operations of the kernel's body on blocks of real numbers.
-/

@[expose] public section

set_option maxRecDepth 16384

noncomputable section

namespace Cert.Mlp

open Cert.KernelIdeal Cert.KernelIdeal.Gen Idealize.ShloMosaic Idealize.ShloMosaic.TcCoe

variable [Cert.KernelIdeal.Facts]

theorem pay9_R {v : Vec Ideal S256x1024 .f32} {Y : ℕ → ℕ → ℝ} (h : R2 v Y) : R2 (k0_pay9 v) (fun i _ => rs (Y i)) := by
  intro i j
  pointwise [k0_pay9, k0_pay8]
  simp only [h, ← EReal.coe_mul, coe_sum, bits_1024, bits_eps, div_1024, ← EReal.coe_add, rs_coe]

theorem pay10_R {v : Vec Ideal S256x1024 .f32} {Y : ℕ → ℕ → ℝ} (h : R2 v Y) :
    R2 (k0_pay10 v) (fun i j => Y i j * rs (Y i)) := by
  intro i j
  pointwise [k0_pay10, k0_pay8]
  simp only [h, pay9_R h, ← EReal.coe_mul]

theorem pay12_R {g : Vec Ideal S1x1024 .f32} {d f : Vec Ideal S256x1024 .f32} {G D Y : ℕ → ℕ → ℝ} (hg : R2 g G)
    (hd : R2 d D) (hf : R2 f Y) : R2 (k0_pay12 g d f) (fun i j => rmsb (Y i) (D i) (G 0) j) := by
  intro i j
  pointwise [k0_pay12]
  simp only [hg, hd, hf, pay9_R hf, pay10_R hf, ← EReal.coe_mul, coe_sum, bits_1024, div_1024, ← EReal.coe_sub]
  rfl

theorem matmulT_R {a : FVec Ideal S256x1024 .bf16} {b : FVec Ideal S1408x1024 .bf16} {A B : ℕ → ℕ → ℝ} (ha : R2 a A)
    (hb : R2 b B) : R2 (k0_pay14 a b) (fun i j => ∑ k : Fin 1024, A i k * B j k) := by
  intro i j
  pointwise [k0_pay14]
  simp only [ha, hb, ← EReal.coe_mul, coe_sum]

/-- The product of a block with the widened copy of another. -/
theorem scale_R {a : FVec Ideal S256x1408 .f32} {b : Vec Ideal S256x1408 .bf16} {A B : ℕ → ℕ → ℝ} (ha : R2 a A)
    (hb : R2 b B) : R2 (k0_pay28 a b) (fun i j => A i j * B i j) := by
  intro i j
  pointwise [k0_pay28]
  simp only [ha, hb, ← EReal.coe_mul]

theorem widen_R {b : Vec Ideal S256x1408 .bf16} {B : ℕ → ℕ → ℝ} (hb : R2 b B) : R2 (k0_pay16 b) B := by
  intro i j
  pointwise [k0_pay16]
  simp only [hb]

theorem head_R {a : FVec Ideal S256x1408 .f32} {b : Vec Ideal S256x1408 .bf16} {A : ℕ → ℕ → ℝ} (h : R2 (k0_pay28 a b) A) :
    R3 (k0_pay31 a b) (fun _ r q => A r q) := by
  intro u r q
  pointwise [k0_pay31]
  simp only [h]

/-- The rows below: the block laid before the first rows of the block under it, moved up by `n` rows. -/
theorem below1_R {a : FVec Ideal S256x1408 .f32} {b : Vec Ideal S256x1408 .bf16} {c : Vec Ideal S1x8x1408 .f32} {C : ℕ → ℕ → ℝ}
    {o : ℕ} (h : R2 (k0_pay28 a b) (fun i q => C (o + i) q)) (hc : R3 c (fun _ r q => C (o + 256 + r) q)) :
    R2 (k0_pay32 a b c) (fun i q => C (o + i + 1) q) := by
  intro i q
  pointwise [k0_pay32, k0_pay30]
  split
  · rename_i hlt
    simp only [h]
    rw [show o + (↑i + 264 - 263) % 264 = o + ↑i + 1 by omega]
  · rename_i hge
    simp only [hc]
    rw [show o + 256 + ((↑i + 264 - 263) % 264 - 256) = o + ↑i + 1 by omega]

theorem below2_R {a : FVec Ideal S256x1408 .f32} {b : Vec Ideal S256x1408 .bf16} {c : Vec Ideal S1x8x1408 .f32} {C : ℕ → ℕ → ℝ}
    {o : ℕ} (h : R2 (k0_pay28 a b) (fun i q => C (o + i) q)) (hc : R3 c (fun _ r q => C (o + 256 + r) q)) :
    R2 (k0_pay34 (k0_pay33 a b c)) (fun i q => C (o + i + 2) q) := by
  intro i q
  pointwise [k0_pay34, k0_pay33, k0_pay30]
  split
  · rename_i hlt
    simp only [h]
    rw [show o + (↑i + 264 - 262) % 264 = o + ↑i + 2 by omega]
  · rename_i hge
    simp only [hc]
    rw [show o + 256 + ((↑i + 264 - 262) % 264 - 256) = o + ↑i + 2 by omega]

theorem acc3_R {a : FVec Ideal S256x1408 .f32} {c : Vec Ideal S1x8x1408 .f32} {A : ℕ → ℕ → ℝ} {C : ℕ → ℕ → ℕ → ℝ}
    (ha : R2 a A) (hc : R3 c C) : R3 (k0_pay35 a c) (fun _ r q => C 0 r q + ∑ x : Fin 32, A (8 * x + r) q) := by
  intro u r q
  pointwise [k0_pay35]
  simp only [ha, hc, coe_sum, ← EReal.coe_add, Fin.val_zero, mul_comm]

theorem acc4_R {a b : FVec Ideal S256x1408 .f32} {c : Vec Ideal S1x1x8x1408 .f32} {A B : ℕ → ℕ → ℝ}
    {C : ℕ → ℕ → ℕ → ℕ → ℝ} (ha : R2 a A) (hb : R2 b B) (hc : R4 c C) :
    R4 (k0_pay36 a b c) (fun _ _ r q => C 0 0 r q + ∑ x : Fin 32, A (8 * x + r) q * B (8 * x + r) q) := by
  intro u u' r q
  pointwise [k0_pay36]
  simp only [ha, hb, hc, coe_sum, ← EReal.coe_mul, ← EReal.coe_add, Fin.val_zero, mul_comm (8 : ℕ)]

theorem acc2_R {a : FVec Ideal S256x1024 .f32} {c : FVec Ideal S8x1024 .f32} {A C : ℕ → ℕ → ℝ}
    (ha : R2 a A) (hc : R2 c C) : R2 (k0_pay1 c a) (fun r q => C r q + ∑ x : Fin 32, A (8 * x + r) q) := by
  intro r q
  pointwise [k0_pay1]
  simp only [ha, hc, coe_sum, ← EReal.coe_mul, ← EReal.coe_add, mul_comm (8 : ℕ)]

theorem acc2'_R {d f : Vec Ideal S256x1024 .f32} {c : Vec Ideal S8x1024 .f32} {D Y C : ℕ → ℕ → ℝ}
    (hd : R2 d D) (hf : R2 f Y) (hc : R2 c C) :
    R2 (k0_pay11 d f c) (fun r q => C r q + ∑ x : Fin 32, D (8 * x + r) q * (Y (8 * x + r) q * rs (Y (8 * x + r)))) := by
  intro r q
  pointwise [k0_pay11]
  simp only [hd, hc, pay10_R hf, coe_sum, ← EReal.coe_mul, ← EReal.coe_add, mul_comm (8 : ℕ)]

theorem taps_R {a b c : FVec Ideal S256x1408 .f32} {w w' w'' : Vec Ideal S1x1x1408 .f32} {A B C : ℕ → ℕ → ℝ}
    {W W' W'' : ℕ → ℕ → ℕ → ℝ} (ha : R2 a A) (hb : R2 b B) (hc : R2 c C) (hw : R3 w W) (hw' : R3 w' W') (hw'' : R3 w'' W'') :
    R2 (k0_pay39 a b c w w' w'') (fun i q => W 0 0 q * A i q + W' 0 0 q * B i q + W'' 0 0 q * C i q) := by
  intro i q
  pointwise [k0_pay39]
  simp only [ha, hb, hc, hw, hw', hw'', ← EReal.coe_mul, ← EReal.coe_add, Fin.val_zero]

theorem addmatmul_R {s : FVec Ideal S256x1024 .f32} {a b c : FVec Ideal S256x1408 .f32} {w w' w'' : Vec Ideal S1x1x1408 .f32}
    {v : Vec Ideal S1x1024x1408 .bf16} {S A : ℕ → ℕ → ℝ} {V : ℕ → ℕ → ℕ → ℝ} (hs : R2 s S)
    (h : R2 (k0_pay39 a b c w w' w'') A) (hv : R3 v V) :
    R2 (k0_pay40 s a b c w w' w'' v) (fun i d => S i d + ∑ q : Fin 1408, A i q * V 0 d q) := by
  intro i d
  pointwise [k0_pay40]
  simp only [hs, h, hv, ← EReal.coe_mul, coe_sum, ← EReal.coe_add, Fin.val_zero]

theorem zero13_R : R2 (k0_pay13 (F := Ideal)) (fun _ _ => 0) := by
  intro i d
  pointwise [k0_pay13]
  simp

theorem pay71_R {x : Vec Ideal S256x1024 .f32} {X : ℕ → ℕ → ℝ} (hx : R2 x X) : R2 (k0_pay71 x) (fun i _ => rs (X i)) := by
  intro i j
  pointwise [k0_pay71]
  simp only [hx, ← EReal.coe_mul, coe_sum, bits_1024, bits_eps, div_1024, ← EReal.coe_add, rs_coe]

theorem pay72_R {x : Vec Ideal S256x1024 .f32} {X : ℕ → ℕ → ℝ} (hx : R2 x X) :
    R2 (k0_pay72 x) (fun i j => X i j * rs (X i)) := by
  intro i j
  pointwise [k0_pay72]
  simp only [hx, pay71_R hx, ← EReal.coe_mul]

theorem mul_R {a b : FVec Ideal S256x1024 .f32} {A B : ℕ → ℕ → ℝ} (ha : R2 a A) (hb : R2 b B) :
    R2 (mulf a b) (fun i j => A i j * B i j) := by
  intro i j
  pointwise
  simp only [ha, hb, ← EReal.coe_mul]

/-! Reading part of a block. -/

theorem ld2_R {a b a' b' p q : ℕ} {v : Vec Ideal ⟨2, ![a, b]⟩ .f32} {X : ℕ → ℕ → ℝ}
    (inb : ∀ x, (![p, q] : Fin 2 → ℕ) x + (![a', b'] : Fin 2 → ℕ) x ≤ (![a, b] : Fin 2 → ℕ) x)
    (h : R2 v X) :
    R2 (a := a') (b := b') (View.ld (S := ⟨2, ![a, b]⟩) (Val := Elt Ideal) (e' := .f32) v (Rect.unit ![p, q] ![a', b'] inb))
      (fun i j => X (p + i) (q + j)) := by
  intro i j
  have e := h ⟨p + i, lt_of_lt_of_le (Nat.add_lt_add_left i.isLt p) (inb 0)⟩ ⟨q + j, lt_of_lt_of_le (Nat.add_lt_add_left j.isLt q) (inb 1)⟩
  refine Eq.trans ?_ e
  refine congrArg v (funext fun x => Fin.ext ?_)
  fin_cases x <;> exact congrArg (_ + ·) (Nat.one_mul _)

theorem ld3_R {a b c a' b' c' p q r : ℕ} {v : Vec Ideal ⟨3, ![a, b, c]⟩ .f32} {X : ℕ → ℕ → ℕ → ℝ}
    (inb : ∀ x, (![p, q, r] : Fin 3 → ℕ) x + (![a', b', c'] : Fin 3 → ℕ) x ≤ (![a, b, c] : Fin 3 → ℕ) x)
    (h : R3 v X) :
    R3 (a := a') (b := b') (c := c') (View.ld (S := ⟨3, ![a, b, c]⟩) (Val := Elt Ideal) (e' := .f32) v (Rect.unit ![p, q, r] ![a', b', c'] inb))
      (fun i j k => X (p + i) (q + j) (r + k)) := by
  intro i j k
  have e := h ⟨p + i, lt_of_lt_of_le (Nat.add_lt_add_left i.isLt p) (inb 0)⟩ ⟨q + j, lt_of_lt_of_le (Nat.add_lt_add_left j.isLt q) (inb 1)⟩ ⟨r + k, lt_of_lt_of_le (Nat.add_lt_add_left k.isLt r) (inb 2)⟩
  refine Eq.trans ?_ e
  refine congrArg v (funext fun x => Fin.ext ?_)
  fin_cases x <;> exact congrArg (_ + ·) (Nat.one_mul _)

theorem ld4_R {a b c d a' b' c' d' p q r s : ℕ} {v : Vec Ideal ⟨4, ![a, b, c, d]⟩ .f32} {X : ℕ → ℕ → ℕ → ℕ → ℝ}
    (inb : ∀ x, (![p, q, r, s] : Fin 4 → ℕ) x + (![a', b', c', d'] : Fin 4 → ℕ) x ≤ (![a, b, c, d] : Fin 4 → ℕ) x)
    (h : R4 v X) :
    R4 (a := a') (b := b') (c := c') (d := d') (View.ld (S := ⟨4, ![a, b, c, d]⟩) (Val := Elt Ideal) (e' := .f32) v (Rect.unit ![p, q, r, s] ![a', b', c', d'] inb))
      (fun i j k l => X (p + i) (q + j) (r + k) (s + l)) := by
  intro i j k l
  have e := h ⟨p + i, lt_of_lt_of_le (Nat.add_lt_add_left i.isLt p) (inb 0)⟩ ⟨q + j, lt_of_lt_of_le (Nat.add_lt_add_left j.isLt q) (inb 1)⟩ ⟨r + k, lt_of_lt_of_le (Nat.add_lt_add_left k.isLt r) (inb 2)⟩ ⟨s + l, lt_of_lt_of_le (Nat.add_lt_add_left l.isLt s) (inb 3)⟩
  refine Eq.trans ?_ e
  refine congrArg v (funext fun x => Fin.ext ?_)
  fin_cases x <;> exact congrArg (_ + ·) (Nat.one_mul _)

theorem ld2h_R {a b a' b' p q : ℕ} {v : Vec Ideal ⟨2, ![a, b]⟩ .bf16} {X : ℕ → ℕ → ℝ}
    (inb : ∀ x, (![p, q] : Fin 2 → ℕ) x + (![a', b'] : Fin 2 → ℕ) x ≤ (![a, b] : Fin 2 → ℕ) x)
    (h : R2 v X) :
    R2 (a := a') (b := b') (View.ld (S := ⟨2, ![a, b]⟩) (Val := Elt Ideal) (e' := .bf16) v (Rect.unit ![p, q] ![a', b'] inb))
      (fun i j => X (p + i) (q + j)) := by
  intro i j
  have e := h ⟨p + i, lt_of_lt_of_le (Nat.add_lt_add_left i.isLt p) (inb 0)⟩ ⟨q + j, lt_of_lt_of_le (Nat.add_lt_add_left j.isLt q) (inb 1)⟩
  refine Eq.trans ?_ e
  refine congrArg v (funext fun x => Fin.ext ?_)
  fin_cases x <;> exact congrArg (_ + ·) (Nat.one_mul _)

theorem ld3h_R {a b c a' b' c' p q r : ℕ} {v : Vec Ideal ⟨3, ![a, b, c]⟩ .bf16} {X : ℕ → ℕ → ℕ → ℝ}
    (inb : ∀ x, (![p, q, r] : Fin 3 → ℕ) x + (![a', b', c'] : Fin 3 → ℕ) x ≤ (![a, b, c] : Fin 3 → ℕ) x)
    (h : R3 v X) :
    R3 (a := a') (b := b') (c := c') (View.ld (S := ⟨3, ![a, b, c]⟩) (Val := Elt Ideal) (e' := .bf16) v (Rect.unit ![p, q, r] ![a', b', c'] inb))
      (fun i j k => X (p + i) (q + j) (r + k)) := by
  intro i j k
  have e := h ⟨p + i, lt_of_lt_of_le (Nat.add_lt_add_left i.isLt p) (inb 0)⟩ ⟨q + j, lt_of_lt_of_le (Nat.add_lt_add_left j.isLt q) (inb 1)⟩ ⟨r + k, lt_of_lt_of_le (Nat.add_lt_add_left k.isLt r) (inb 2)⟩
  refine Eq.trans ?_ e
  refine congrArg v (funext fun x => Fin.ext ?_)
  fin_cases x <;> exact congrArg (_ + ·) (Nat.one_mul _)

theorem dx_R {d x : Vec Ideal S256x1024 .f32} {h : FVec Ideal S256x1024 .f32} {g : Vec Ideal S1x1024 .f32} {D H X G : ℕ → ℕ → ℝ} (hd : R2 d D)
    (hh : R2 h H) (hg : R2 g G) (hx : R2 x X) :
    R2 (k0_pay2 d h (k0_pay70 g) (k0_pay71 x) (k0_pay72 x)) (fun i j => D i j + rmsb (X i) (H i) (G 0) j) := by
  intro i j
  pointwise [k0_pay2, k0_pay70]
  simp only [hg, hd, hh, pay71_R hx, pay72_R hx, ← EReal.coe_mul, coe_sum, bits_1024, div_1024, ← EReal.coe_sub, ← EReal.coe_add]
  rfl

end Cert.Mlp
-- ==== Proof.Data.lean ====
module

public import proofs.«01_k».proof.Proof.Payload

/-!
The mathematics of the call over the real numbers, in the kernel's layout: the hidden columns are cut into four
shards, shard `j` of a row is `1408` wide, and time runs down the rows.
-/

@[expose] public section

set_option maxRecDepth 16384

noncomputable section

namespace Cert.Mlp

/-- What the region reads: the incoming gradient, the saved rows, the weights. -/
structure Data where
  dxo : ℕ → ℕ → ℝ
  f : ℕ → ℕ → ℝ
  x : ℕ → ℕ → ℝ
  u : ℕ → ℕ → ℝ
  sp : ℕ → ℕ → ℝ
  g2 : ℕ → ℝ
  g3 : ℕ → ℝ
  cw : ℕ → ℕ → ℕ → ℝ
  wu : ℕ → ℕ → ℕ → ℝ
  wd : ℕ → ℕ → ℝ

/-- Where shard `j` lies among the rows of the down projection, -/
def kc (j : ℕ) : ℕ := 1408 * (j % 2)

/-- among the columns of the up projection, -/
def uc (j : ℕ) : ℕ := 1408 * (2 * (j % 2) + j / 2)

/-- and where the factor it is multiplied by lies. -/
def sc (j : ℕ) : ℕ := 1408 * (2 * (j % 2) + (1 - j / 2))

namespace Data

variable (K : Data)

def df (t j : ℕ) : ℝ := rmsb (K.f t) (K.dxo t) K.g3 j

/-- The gradient of the convolution's result; zero past the last row. -/
def dc (j t q : ℕ) : ℝ :=
  if t < 8192 then (∑ k : Fin 1024, K.df t k * K.wd (kc j + q) k) * K.sp t (sc j + q) else 0

def du (j t q : ℕ) : ℝ := K.cw j 2 q * K.dc j t q + K.cw j 1 q * K.dc j (t + 1) q + K.cw j 0 q * K.dc j (t + 2) q

/-- The same along the whole row: chunk `m` of the row is shard `m / 2 + 2 * (m % 2)`. -/
def duRow (t c : ℕ) : ℝ := K.du (c / 1408 / 2 + 2 * (c / 1408 % 2)) t (c % 1408)

theorem duRow_eq (m j : ℕ) (hj : m / 2 + 2 * (m % 2) = j) (t : ℕ) {q : ℕ} (hq : q < 1408) : K.duRow t (1408 * m + q) = K.du j t q := by
  rw [duRow, show (1408 * m + q) / 1408 = m by omega, show (1408 * m + q) % 1408 = q by omega, hj]

def dh (t d : ℕ) : ℝ :=
  0 + (∑ q : Fin 1408, K.du 0 t q * K.wu 0 d q) + (∑ q : Fin 1408, K.du 2 t q * K.wu 2 d q)
    + (∑ q : Fin 1408, K.du 1 t q * K.wu 1 d q) + (∑ q : Fin 1408, K.du 3 t q * K.wu 3 d q)

def dx (t j : ℕ) : ℝ := K.dxo t j + rmsb (K.x t) (K.dh t) K.g2 j

/-! One row's part of each sum over the rows. -/

def tg2 (t j : ℕ) : ℝ := K.dh t j * (K.x t j * rs (K.x t))

def tg3 (t j : ℕ) : ℝ := K.dxo t j * (K.f t j * rs (K.f t))

def tcw (j k t q : ℕ) : ℝ := K.dc j (t + (2 - k)) q * K.u t (uc j + q)

end Data

theorem R2.of {a b : ℕ} {v : (⟨2, ![a, b]⟩ : Idealize.ShloMosaic.Shape).Idx → EReal} {X Y : ℕ → ℕ → ℝ} (h : R2 v X)
    (e : ∀ i j, i < a → j < b → X i j = Y i j) : R2 v Y :=
  fun i j => (h i j).trans (congrArg _ (e _ _ i.isLt j.isLt))

theorem R3.of {a b c : ℕ} {v : (⟨3, ![a, b, c]⟩ : Idealize.ShloMosaic.Shape).Idx → EReal} {X Y : ℕ → ℕ → ℕ → ℝ} (h : R3 v X)
    (e : ∀ i j k, i < a → j < b → k < c → X i j k = Y i j k) : R3 v Y :=
  fun i j k => (h i j k).trans (congrArg _ (e _ _ _ i.isLt j.isLt k.isLt))

theorem R4.of {a b c d : ℕ} {v : (⟨4, ![a, b, c, d]⟩ : Idealize.ShloMosaic.Shape).Idx → EReal} {X Y : ℕ → ℕ → ℕ → ℕ → ℝ} (h : R4 v X)
    (e : ∀ i j k l, i < a → j < b → k < c → l < d → X i j k l = Y i j k l) : R4 v Y :=
  fun i j k l => (h i j k l).trans (congrArg _ (e _ _ _ _ i.isLt j.isLt k.isLt l.isLt))

open Cert.KernelIdeal Cert.KernelIdeal.Gen Idealize.ShloMosaic

variable [Cert.KernelIdeal.Facts]

/-! The same operations, shard by shard. -/

variable {F : FTy → Type} [FloatOps F]

section

variable (D : FVec F S256x1024 .bf16) (W : Vec F S1408x1024 .bf16) (A B C : FVec F S256x1408 .f32)
  (s u : Vec F S256x1408 .bf16) (c : Vec F S1x8x1408 .f32) (e : Vec F S1x1x8x1408 .f32)
  (w w' w'' : Vec F S1x1x1408 .f32)

theorem pay15_eq : k0_pay15 D W s = k0_pay28 (k0_pay14 D W) s := rfl
theorem pay18_eq : k0_pay18 D W s = k0_pay31 (k0_pay14 D W) s := rfl
theorem pay19_eq : k0_pay19 D W s c = k0_pay32 (k0_pay14 D W) s c := rfl
theorem pay20_eq : k0_pay20 D W s c = k0_pay34 (k0_pay33 (k0_pay14 D W) s c) := rfl
theorem pay21_eq : k0_pay21 D W s c = k0_pay35 (k0_pay28 (k0_pay14 D W) s) c := rfl
theorem pay22_eq : k0_pay22 A B e = k0_pay36 A B e := rfl
theorem pay23_eq : k0_pay23 A B e = k0_pay36 B A e := rfl
theorem pay24_eq : k0_pay24 A B e = k0_pay36 B A e := rfl
theorem pay26_eq : k0_pay26 A B C (k0_pay25 w) w' w'' = k0_pay39 A B C w w' w'' := rfl
theorem pay29_eq : k0_pay29 u = k0_pay16 u := rfl
theorem pay37_eq : k0_pay37 A B e = k0_pay36 B A e := rfl
theorem pay38_eq : k0_pay38 A B e = k0_pay36 B A e := rfl
theorem pay41_eq : k0_pay41 D W = k0_pay14 D W := rfl
theorem pay43_eq : k0_pay43 A (k0_pay42 s) = k0_pay28 A s := rfl
theorem pay44_eq : k0_pay44 u = k0_pay16 u := rfl
theorem pay46_eq : k0_pay46 A (k0_pay42 s) = k0_pay31 A s := rfl
theorem pay47_eq : k0_pay47 A (k0_pay42 s) c = k0_pay32 A s c := rfl
theorem pay48_eq : k0_pay48 A (k0_pay42 s) c = k0_pay34 (k0_pay33 A s c) := rfl
theorem pay49_eq : k0_pay49 A (k0_pay42 s) c = k0_pay35 (k0_pay28 A s) c := rfl
theorem pay50_eq : k0_pay50 A (k0_pay42 s) u e = k0_pay36 (k0_pay28 A s) (k0_pay16 u) e := rfl
theorem pay51_eq : k0_pay51 A B e = k0_pay36 B A e := rfl
theorem pay52_eq : k0_pay52 A B e = k0_pay36 B A e := rfl
theorem pay55_eq : k0_pay55 C (k0_pay53 A B w w') (k0_pay54 w'') = k0_pay39 A B C w w' w'' := rfl
theorem pay57_eq : k0_pay57 A s = k0_pay28 A s := rfl
theorem pay58_eq : k0_pay58 u = k0_pay16 u := rfl
theorem pay60_eq : k0_pay60 A s = k0_pay31 A s := rfl
theorem pay61_eq : k0_pay61 A s c = k0_pay32 A s c := rfl
theorem pay62_eq : k0_pay62 A s c = k0_pay34 (k0_pay33 A s c) := rfl
theorem pay64_eq : k0_pay64 (k0_pay63 A s c) = k0_pay35 (k0_pay28 A s) c := rfl
theorem pay65_eq : k0_pay65 A B e = k0_pay36 A B e := rfl
theorem pay66_eq : k0_pay66 A B e = k0_pay36 B A e := rfl
theorem pay67_eq : k0_pay67 A B e = k0_pay36 B A e := rfl
theorem pay68_eq : k0_pay68 A B C w w' w'' = k0_pay39 A B C w w' w'' := rfl

variable (S : FVec F S256x1024 .f32) (V : Vec F S1x1024x1408 .bf16) (X : Vec F S256x1024 .f32)

theorem pay27_eq : k0_pay27 S A B C (k0_pay25 w) w' w'' V = k0_pay40 S A B C w w' w'' V := rfl
theorem pay56_eq : k0_pay56 S C (k0_pay53 A B w w') (k0_pay54 w'') V = k0_pay40 S A B C w w' w'' V := rfl
theorem pay69_eq : k0_pay69 S A B C w w' w'' V = k0_pay40 S A B C w w' w'' V := rfl
theorem pay74_eq : k0_pay74 S A B C w w' w'' V X = mulf (k0_pay40 S A B C w w' w'' V) (k0_pay72 X) := rfl

end

theorem pay73_R {v : Vec Ideal S8x1024 .f32} {X : ℕ → ℕ → ℝ} (h : R2 v X) : R2 (k0_pay73 v) X := by
  intro i j
  pointwise [k0_pay73]
  exact h i j

end Cert.Mlp
-- ==== Proof.Block.lean ====
module

public import proofs.«01_k».proof.Proof.Data
public import Idealize.ShloMosaic.Lib.Pipeline.ReadBack

/-!
One block of 256 rows: what the body reads, and each quantity it forms of it.
-/

@[expose] public section

set_option maxRecDepth 16384

noncomputable section

namespace Cert.Mlp

open Cert.KernelIdeal Cert.KernelIdeal.Gen Idealize.ShloMosaic

variable [Cert.KernelIdeal.Facts]

/-! Arrays that hold real numbers everywhere, as functions of the index. -/

def G2 {a b : ℕ} (X : ℕ → ℕ → ℝ) : (⟨2, ![a, b]⟩ : Shape).Idx → EReal := fun y => ((X (y 0).val (y 1).val : ℝ) : EReal)

def G3 {a b c : ℕ} (X : ℕ → ℕ → ℕ → ℝ) : (⟨3, ![a, b, c]⟩ : Shape).Idx → EReal :=
  fun y => ((X (y 0).val (y 1).val (y 2).val : ℝ) : EReal)

def G4 {a b c d : ℕ} (X : ℕ → ℕ → ℕ → ℕ → ℝ) : (⟨4, ![a, b, c, d]⟩ : Shape).Idx → EReal :=
  fun y => ((X (y 0).val (y 1).val (y 2).val (y 3).val : ℝ) : EReal)

theorem piece2 {a b a' b' p q : ℕ} {v : (⟨2, ![a', b']⟩ : Shape).Idx → EReal} {Y X : ℕ → ℕ → ℝ}
    (inb : ∀ x, (![p, q] : Fin 2 → ℕ) x + (![a', b'] : Fin 2 → ℕ) x ≤ (![a, b] : Fin 2 → ℕ) x) (h : R2 v Y)
    (e : ∀ i j, i < a' → j < b' → Y i j = X (p + i) (q + j)) (x : (⟨2, ![a', b']⟩ : Shape).Idx) :
    v x = G2 (a := a) (b := b) X ((Rect.unit (s := ⟨2, ![a, b]⟩) ![p, q] ![a', b'] inb).emb x) := by
  refine (congrArg v (eq_ix2 x)).trans ((h.of e _ _).trans ?_)
  exact congrArg₂ (fun s t => ((X s t : ℝ) : EReal)) (congrArg (p + ·) (Nat.one_mul _).symm) (congrArg (q + ·) (Nat.one_mul _).symm)

theorem piece3 {a b c a' b' c' p q r : ℕ} {v : (⟨3, ![a', b', c']⟩ : Shape).Idx → EReal} {Y X : ℕ → ℕ → ℕ → ℝ}
    (inb : ∀ x, (![p, q, r] : Fin 3 → ℕ) x + (![a', b', c'] : Fin 3 → ℕ) x ≤ (![a, b, c] : Fin 3 → ℕ) x) (h : R3 v Y)
    (e : ∀ i j k, i < a' → j < b' → k < c' → Y i j k = X (p + i) (q + j) (r + k)) (x : (⟨3, ![a', b', c']⟩ : Shape).Idx) :
    v x = G3 (a := a) (b := b) (c := c) X ((Rect.unit (s := ⟨3, ![a, b, c]⟩) ![p, q, r] ![a', b', c'] inb).emb x) := by
  refine (congrArg v (eq_ix3 x)).trans ((h.of e _ _ _).trans ?_)
  unfold G3
  congr 2 <;> exact congrArg (_ + ·) (Nat.one_mul _).symm

theorem piece4 {a b c d a' b' c' d' p q r s : ℕ} {v : (⟨4, ![a', b', c', d']⟩ : Shape).Idx → EReal} {Y X : ℕ → ℕ → ℕ → ℕ → ℝ}
    (inb : ∀ x, (![p, q, r, s] : Fin 4 → ℕ) x + (![a', b', c', d'] : Fin 4 → ℕ) x ≤ (![a, b, c, d] : Fin 4 → ℕ) x) (h : R4 v Y)
    (e : ∀ i j k l, i < a' → j < b' → k < c' → l < d' → Y i j k l = X (p + i) (q + j) (r + k) (s + l))
    (x : (⟨4, ![a', b', c', d']⟩ : Shape).Idx) :
    v x = G4 (a := a) (b := b) (c := c) (d := d) X ((Rect.unit (s := ⟨4, ![a, b, c, d]⟩) ![p, q, r, s] ![a', b', c', d'] inb).emb x) := by
  refine (congrArg v (eq_ix4 x)).trans ((h.of e _ _ _ _).trans ?_)
  unfold G4
  congr 2 <;> exact congrArg (_ + ·) (Nat.one_mul _).symm

/-! One shard. -/

structure Shard (K : Data) (o j : ℕ) (D : FVec Ideal S256x1024 .bf16) (W : Vec Ideal S1408x1024 .bf16) (s : Vec Ideal S256x1408 .bf16)
    (c : Vec Ideal S1x8x1408 .f32) : Prop where
  ho : o + 256 ≤ 8192
  hD : R2 D (fun i k => K.df (o + i) k)
  hW : R2 W (fun i k => K.wd (kc j + i) k)
  hs : R2 s (fun i q => K.sp (o + i) (sc j + q))
  hc : R3 c (fun _ r q => K.dc j (o + 256 + r) q)

namespace Shard

variable {K : Data} {o j : ℕ} {D : FVec Ideal S256x1024 .bf16} {W : Vec Ideal S1408x1024 .bf16} {s : Vec Ideal S256x1408 .bf16}
  {c : Vec Ideal S1x8x1408 .f32}

theorem dc (h : Shard K o j D W s c) : R2 (k0_pay28 (k0_pay14 D W) s) (fun i q => K.dc j (o + i) q) :=
  (scale_R (matmulT_R h.hD h.hW) h.hs).of fun i q hi hq => by
    have := h.ho
    rw [Data.dc, if_pos (by omega)]

theorem carry (h : Shard K o j D W s c) : R3 (k0_pay31 (k0_pay14 D W) s) (fun _ r q => K.dc j (o + r) q) := head_R h.dc

theorem dc1 (h : Shard K o j D W s c) : R2 (k0_pay32 (k0_pay14 D W) s c) (fun i q => K.dc j (o + i + 1) q) := below1_R h.dc h.hc

theorem dc2 (h : Shard K o j D W s c) : R2 (k0_pay34 (k0_pay33 (k0_pay14 D W) s c)) (fun i q => K.dc j (o + i + 2) q) :=
  below2_R h.dc h.hc

theorem du (h : Shard K o j D W s c) {w w' w'' : Vec Ideal S1x1x1408 .f32} (hw : R3 w (fun _ _ q => K.cw j 2 q))
    (hw' : R3 w' (fun _ _ q => K.cw j 1 q)) (hw'' : R3 w'' (fun _ _ q => K.cw j 0 q)) :
    R2 (k0_pay39 (k0_pay28 (k0_pay14 D W) s) (k0_pay32 (k0_pay14 D W) s c) (k0_pay34 (k0_pay33 (k0_pay14 D W) s c)) w w' w'')
      (fun i q => K.du j (o + i) q) :=
  taps_R h.dc h.dc1 h.dc2 hw hw' hw''

theorem dh (h : Shard K o j D W s c) {w w' w'' : Vec Ideal S1x1x1408 .f32} (hw : R3 w (fun _ _ q => K.cw j 2 q))
    (hw' : R3 w' (fun _ _ q => K.cw j 1 q)) (hw'' : R3 w'' (fun _ _ q => K.cw j 0 q)) {S : FVec Ideal S256x1024 .f32}
    {A : ℕ → ℕ → ℝ} (hS : R2 S A) {V : Vec Ideal S1x1024x1408 .bf16} (hV : R3 V (fun _ d q => K.wu j d q)) :
    R2 (k0_pay40 S (k0_pay28 (k0_pay14 D W) s) (k0_pay32 (k0_pay14 D W) s c) (k0_pay34 (k0_pay33 (k0_pay14 D W) s c)) w w' w'' V)
      (fun i d => A i d + ∑ q : Fin 1408, K.du j (o + i) q * K.wu j d q) :=
  addmatmul_R hS (h.du hw hw' hw'') hV

theorem sum (h : Shard K o j D W s c) {e : Vec Ideal S1x8x1408 .f32} {A : ℕ → ℕ → ℕ → ℝ} (he : R3 e (fun _ r q => A j r q)) :
    R3 (k0_pay35 (k0_pay28 (k0_pay14 D W) s) e) (fun _ r q => A j r q + ∑ x : Fin 32, K.dc j (o + (8 * x + r)) q) :=
  acc3_R h.dc he

/-- The gradient of tap `k`, from the rows `2 - k` below. -/
theorem tap {k : ℕ} {B : FVec Ideal S256x1408 .f32} (hB : R2 B (fun i q => K.dc j (o + i + (2 - k)) q)) {u : Vec Ideal S256x1408 .bf16}
    (hu : R2 u (fun i q => K.u (o + i) (uc j + q))) {e : Vec Ideal S1x1x8x1408 .f32} {A : ℕ → ℕ → ℕ → ℕ → ℝ}
    (he : R4 e (fun _ _ r q => A j k r q)) :
    R4 (k0_pay36 B (k0_pay16 u) e) (fun _ _ r q => A j k r q + ∑ x : Fin 32, K.tcw j k (o + (8 * x + r)) q) :=
  acc4_R hB (widen_R hu) he

end Shard

/-- What the body reads at the block of rows that starts at row `o`. -/
structure Block (K : Data) (o : ℕ) (x0 x1 x2 : Vec Ideal S256x1024 .f32) (x3 x4 : Vec Ideal S256x5632 .bf16) (x5 x6 : Vec Ideal S1x1024 .f32)
    (x7 : Vec Ideal S4x3x1408 .f32) (xs0 : Vec Ideal S4x1024x1408 .bf16) (xs1 : Vec Ideal S2816x1024 .bf16) (xs2 : Vec Ideal S4x8x1408 .f32) :
    Prop where
  ho : o + 256 ≤ 8192
  h0 : R2 x0 (fun i j => K.dxo (o + i) j)
  h1 : R2 x1 (fun i j => K.f (o + i) j)
  h2 : R2 x2 (fun i j => K.x (o + i) j)
  h3 : R2 x3 (fun i j => K.u (o + i) j)
  h4 : R2 x4 (fun i j => K.sp (o + i) j)
  h5 : R2 x5 (fun _ j => K.g2 j)
  h6 : R2 x6 (fun _ j => K.g3 j)
  h7 : R3 x7 K.cw
  s0 : R3 xs0 K.wu
  s1 : R2 xs1 K.wd
  s2 : R3 xs2 (fun j r q => K.dc j (o + 256 + r) q)

namespace Block

variable {K : Data} {o : ℕ} {x0 x1 x2 : Vec Ideal S256x1024 .f32} {x3 x4 : Vec Ideal S256x5632 .bf16} {x5 x6 : Vec Ideal S1x1024 .f32}
  {x7 : Vec Ideal S4x3x1408 .f32} {xs0 : Vec Ideal S4x1024x1408 .bf16} {xs1 : Vec Ideal S2816x1024 .bf16} {xs2 : Vec Ideal S4x8x1408 .f32}

theorem df (h : Block K o x0 x1 x2 x3 x4 x5 x6 x7 xs0 xs1 xs2) (i6 i0 i1) :
    R2 (k0_pay12 (F := Ideal) (View.ld (S := S1x1024) (Val := Elt Ideal) (e' := .f32) x6 (Rect.unit ![0, 0] ![1, 1024] i6))
        (View.ld (S := S256x1024) (Val := Elt Ideal) (e' := .f32) x0 (Rect.unit ![0, 0] ![256, 1024] i0))
        (View.ld (S := S256x1024) (Val := Elt Ideal) (e' := .f32) x1 (Rect.unit ![0, 0] ![256, 1024] i1)))
      (fun i k => K.df (o + i) k) :=
  (pay12_R (ld2_R i6 h.h6) (ld2_R i0 h.h0) (ld2_R i1 h.h1)).of fun i k _ _ => by
    simp only [Nat.zero_add]; rfl

theorem shard (h : Block K o x0 x1 x2 x3 x4 x5 x6 x7 xs0 xs1 xs2) {j p s : ℕ} (hp : kc j = p) (hs : sc j = s) (i6 i0 i1 iw is ic) :
    Shard K o j
      (k0_pay12 (F := Ideal) (View.ld (S := S1x1024) (Val := Elt Ideal) (e' := .f32) x6 (Rect.unit ![0, 0] ![1, 1024] i6))
        (View.ld (S := S256x1024) (Val := Elt Ideal) (e' := .f32) x0 (Rect.unit ![0, 0] ![256, 1024] i0))
        (View.ld (S := S256x1024) (Val := Elt Ideal) (e' := .f32) x1 (Rect.unit ![0, 0] ![256, 1024] i1)))
      (View.ld (S := S2816x1024) (Val := Elt Ideal) (e' := .bf16) xs1 (Rect.unit ![p, 0] ![1408, 1024] iw))
      (View.ld (S := S256x5632) (Val := Elt Ideal) (e' := .bf16) x4 (Rect.unit ![0, s] ![256, 1408] is))
      (View.ld (S := S4x8x1408) (Val := Elt Ideal) (e' := .f32) xs2 (Rect.unit ![j, 0, 0] ![1, 8, 1408] ic)) where
  ho := h.ho
  hD := h.df i6 i0 i1
  hW := (ld2h_R iw h.s1).of fun i k _ _ => by rw [hp, Nat.zero_add]
  hs := (ld2h_R is h.h4).of fun i q _ _ => by rw [hs, Nat.zero_add]
  hc := (ld3_R ic h.s2).of fun i r q hi _ _ => by rw [Nat.zero_add, Nat.zero_add, show i = 0 by omega, Nat.add_zero]

theorem cw (h : Block K o x0 x1 x2 x3 x4 x5 x6 x7 xs0 xs1 xs2) {j k : ℕ} (inb) :
    R3 (a := 1) (b := 1) (c := 1408) (View.ld (S := S4x3x1408) (Val := Elt Ideal) (e' := .f32) x7 (Rect.unit ![j, k, 0] ![1, 1, 1408] inb)) (fun _ _ q => K.cw j k q) :=
  (ld3_R inb h.h7).of fun i r q hi hr _ => by rw [Nat.zero_add, show i = 0 by omega, show r = 0 by omega]; rfl

theorem wu (h : Block K o x0 x1 x2 x3 x4 x5 x6 x7 xs0 xs1 xs2) {j : ℕ} (inb) :
    R3 (a := 1) (b := 1024) (c := 1408) (View.ld (S := S4x1024x1408) (Val := Elt Ideal) (e' := .bf16) xs0 (Rect.unit ![j, 0, 0] ![1, 1024, 1408] inb)) (fun _ d q => K.wu j d q) :=
  (ld3h_R inb h.s0).of fun i r q hi hr _ => by rw [Nat.zero_add, Nat.zero_add, show i = 0 by omega]; rfl

theorem u (h : Block K o x0 x1 x2 x3 x4 x5 x6 x7 xs0 xs1 xs2) {j p : ℕ} (hp : uc j = p) (inb) :
    R2 (a := 256) (b := 1408) (View.ld (S := S256x5632) (Val := Elt Ideal) (e' := .bf16) x3 (Rect.unit ![0, p] ![256, 1408] inb)) (fun i q => K.u (o + i) (uc j + q)) :=
  (ld2h_R inb h.h3).of fun i q _ _ => by rw [hp, Nat.zero_add]

end Block

/-! Reading back part of what is being summed. -/

theorem ldA3_R {j : ℕ} {v : Vec Ideal S4x8x1408 .f32} {A : ℕ → ℕ → ℕ → ℝ} (h : R3 v A) (inb) :
    R3 (a := 1) (b := 8) (c := 1408) (View.ld (S := S4x8x1408) (Val := Elt Ideal) (e' := .f32) v (Rect.unit ![j, 0, 0] ![1, 8, 1408] inb)) (fun _ r q => A j r q) :=
  (ld3_R inb h).of fun i r q hi _ _ => by rw [Nat.zero_add, Nat.zero_add, show i = 0 by omega, Nat.add_zero]

theorem ldA4_R {j k : ℕ} {v : Vec Ideal S4x3x8x1408 .f32} {A : ℕ → ℕ → ℕ → ℕ → ℝ} (h : R4 v A) (inb) :
    R4 (a := 1) (b := 1) (c := 8) (d := 1408) (View.ld (S := S4x3x8x1408) (Val := Elt Ideal) (e' := .f32) v (Rect.unit ![j, k, 0, 0] ![1, 1, 8, 1408] inb)) (fun _ _ r q => A j k r q) :=
  (ld4_R inb h).of fun i i' r q hi hi' _ _ => by
    rw [Nat.zero_add, Nat.zero_add, show i = 0 by omega, show i' = 0 by omega, Nat.add_zero, Nat.add_zero]

end Cert.Mlp
-- ==== Proof.Body.lean ====
module

public import proofs.«01_k».proof.Proof.Outs
public import proofs.«01_k».proof.Proof.Block

/-!
What a point leaves of the block it reads: each list of stores is a list of blocks of one array of real numbers.
-/

@[expose] public section

set_option maxRecDepth 16384

noncomputable section

namespace Cert.Mlp

open Cert.KernelIdeal Cert.KernelIdeal.Gen Idealize.ShloMosaic Idealize.ShloMosaic.TcCoe Idealize.ShloMosaic.Tactic

variable [Cert.KernelIdeal.Facts]

section

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S256x5632 .bf16) (harg5 : arg5.IsWhole) (arg6 : Memref sig .tc .vmem S1x1024 .f32) (harg6 : arg6.IsWhole) (arg7 : Memref sig .tc .vmem S1x1024 .f32) (harg7 : arg7.IsWhole) (arg10 : Memref sig .tc .vmem S4x3x1408 .f32) (harg10 : arg10.IsWhole) (arg11 : Memref sig .tc .vmem S256x1024 .f32) (harg11 : arg11.IsWhole) (arg12 : Memref sig .tc .vmem S256x5632 .bf16) (harg12 : arg12.IsWhole) (arg13 : Memref sig .tc .vmem S256x1024 .bf16) (harg13 : arg13.IsWhole) (arg14 : Memref sig .tc .vmem S8x1024 .f32) (harg14 : arg14.IsWhole) (arg15 : Memref sig .tc .vmem S8x1024 .f32) (harg15 : arg15.IsWhole) (arg16 : Memref sig .tc .vmem S4x3x8x1408 .f32) (harg16 : arg16.IsWhole) (arg17 : Memref sig .tc .vmem S4x8x1408 .f32) (harg17 : arg17.IsWhole) (arg18 : Memref sig .tc .vmem S4x1024x1408 .bf16) (harg18 : arg18.IsWhole) (arg19 : Memref sig .tc .vmem S2816x1024 .bf16) (harg19 : arg19.IsWhole) (arg20 : Memref sig .tc .vmem S4x8x1408 .f32) (harg20 : arg20.IsWhole) (hc0 : ¬cond0_0 i)
    (x0 : Vec Ideal S256x1024 .f32) (x1 : Vec Ideal S256x1024 .f32) (x2 : Vec Ideal S256x1024 .f32) (x3 : Vec Ideal S256x5632 .bf16) (x4 : Vec Ideal S256x5632 .bf16) (x5 : Vec Ideal S1x1024 .f32) (x6 : Vec Ideal S1x1024 .f32) (x7 : Vec Ideal S4x3x1408 .f32) (xo11 : Vec Ideal S8x1024 .f32) (xo12 : Vec Ideal S8x1024 .f32) (xo13 : Vec Ideal S4x3x8x1408 .f32) (xo14 : Vec Ideal S4x8x1408 .f32) (xs0 : Vec Ideal S4x1024x1408 .bf16) (xs1 : Vec Ideal S2816x1024 .bf16) (xs2 : Vec Ideal S4x8x1408 .f32) (fh0 : HbBuf0 (F := Ideal) c hbM0_0) (fh1 : HbBuf0 (F := Ideal) c hbM0_1)

variable {K : Data} {o : ℕ} (h : Block K o x0 x1 x2 x3 x4 x5 x6 x7 xs0 xs1 xs2)

include h

theorem stores8 : View.PiecesOf (G2 fun i j => K.dx (o + i) j) (kernelRun0_B c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1).1 := by
  unfold kernelRun0_B; dsimp only; sl_unfold_words
  simp only [View.readAt_eq_ld, harg1.read_unread, harg2.read_unread, harg3.read_unread, harg4.read_unread, harg5.read_unread, harg6.read_unread, harg7.read_unread, harg10.read_unread, harg14.read_unread, harg15.read_unread, harg16.read_unread, harg17.read_unread, harg18.read_unread, harg19.read_unread, harg20.read_unread]
  simp only [pay15_eq, pay18_eq, pay19_eq, pay20_eq, pay21_eq, pay22_eq, pay23_eq, pay24_eq, pay26_eq, pay29_eq, pay37_eq, pay38_eq, pay41_eq, pay43_eq, pay44_eq, pay46_eq, pay47_eq, pay48_eq, pay49_eq, pay50_eq, pay51_eq, pay52_eq, pay55_eq, pay57_eq, pay58_eq, pay60_eq, pay61_eq, pay62_eq, pay64_eq, pay65_eq, pay66_eq, pay67_eq, pay68_eq, pay27_eq, pay56_eq, pay69_eq, pay74_eq]
  refine ⟨?_, trivial⟩
  refine piece2 (by decide) (dx_R (ld2_R (by decide) h.h0) ((h.shard (j := 3) rfl rfl (by decide) (by decide) (by decide) (by decide) (by decide) (by decide)).dh (h.cw (by decide)) (h.cw (by decide)) (h.cw (by decide)) ((h.shard (j := 1) rfl rfl (by decide) (by decide) (by decide) (by decide) (by decide) (by decide)).dh (h.cw (by decide)) (h.cw (by decide)) (h.cw (by decide)) ((h.shard (j := 2) rfl rfl (by decide) (by decide) (by decide) (by decide) (by decide) (by decide)).dh (h.cw (by decide)) (h.cw (by decide)) (h.cw (by decide)) ((h.shard (j := 0) rfl rfl (by decide) (by decide) (by decide) (by decide) (by decide) (by decide)).dh (h.cw (by decide)) (h.cw (by decide)) (h.cw (by decide)) zero13_R (h.wu (by decide))) (h.wu (by decide))) (h.wu (by decide))) (h.wu (by decide))) (ld2_R (by decide) h.h5) (ld2_R (by decide) h.h2)) fun i j _ _ => ?_
  simp only [Nat.zero_add]; rfl

theorem stores9 : View.PiecesOf (G2 fun i c => K.duRow (o + i) c) (kernelRun0_B c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1).2.1 := by
  unfold kernelRun0_B; dsimp only; sl_unfold_words
  simp only [View.readAt_eq_ld, harg1.read_unread, harg2.read_unread, harg3.read_unread, harg4.read_unread, harg5.read_unread, harg6.read_unread, harg7.read_unread, harg10.read_unread, harg14.read_unread, harg15.read_unread, harg16.read_unread, harg17.read_unread, harg18.read_unread, harg19.read_unread, harg20.read_unread]
  simp only [pay15_eq, pay18_eq, pay19_eq, pay20_eq, pay21_eq, pay22_eq, pay23_eq, pay24_eq, pay26_eq, pay29_eq, pay37_eq, pay38_eq, pay41_eq, pay43_eq, pay44_eq, pay46_eq, pay47_eq, pay48_eq, pay49_eq, pay50_eq, pay51_eq, pay52_eq, pay55_eq, pay57_eq, pay58_eq, pay60_eq, pay61_eq, pay62_eq, pay64_eq, pay65_eq, pay66_eq, pay67_eq, pay68_eq, pay27_eq, pay56_eq, pay69_eq, pay74_eq]
  refine ⟨?_, ?_, ?_, ?_, trivial⟩
  · refine piece2 (by decide) ((h.shard (j := 3) rfl rfl (by decide) (by decide) (by decide) (by decide) (by decide) (by decide)).du (h.cw (by decide)) (h.cw (by decide)) (h.cw (by decide))) fun i q _ hq => ?_
    rw [Nat.zero_add]; exact (K.duRow_eq 3 3 rfl _ hq).symm
  · refine piece2 (by decide) ((h.shard (j := 1) rfl rfl (by decide) (by decide) (by decide) (by decide) (by decide) (by decide)).du (h.cw (by decide)) (h.cw (by decide)) (h.cw (by decide))) fun i q _ hq => ?_
    rw [Nat.zero_add]; exact (K.duRow_eq 2 1 rfl _ hq).symm
  · refine piece2 (by decide) ((h.shard (j := 2) rfl rfl (by decide) (by decide) (by decide) (by decide) (by decide) (by decide)).du (h.cw (by decide)) (h.cw (by decide)) (h.cw (by decide))) fun i q _ hq => ?_
    rw [Nat.zero_add]; exact (K.duRow_eq 1 2 rfl _ hq).symm
  · refine piece2 (by decide) ((h.shard (j := 0) rfl rfl (by decide) (by decide) (by decide) (by decide) (by decide) (by decide)).du (h.cw (by decide)) (h.cw (by decide)) (h.cw (by decide))) fun i q _ hq => ?_
    rw [Nat.zero_add]; exact (K.duRow_eq 0 0 rfl _ hq).symm

theorem stores10 : View.PiecesOf (G2 fun i j => K.df (o + i) j) (kernelRun0_B c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1).2.2.1 := by
  unfold kernelRun0_B; dsimp only; sl_unfold_words
  simp only [View.readAt_eq_ld, harg1.read_unread, harg2.read_unread, harg3.read_unread, harg4.read_unread, harg5.read_unread, harg6.read_unread, harg7.read_unread, harg10.read_unread, harg14.read_unread, harg15.read_unread, harg16.read_unread, harg17.read_unread, harg18.read_unread, harg19.read_unread, harg20.read_unread]
  refine ⟨?_, trivial⟩
  · refine piece2 (by decide) (h.df (by decide) (by decide) (by decide)) fun i j _ _ => ?_
    simp only [Nat.zero_add]

theorem stores11 {A : ℕ → ℕ → ℝ} (a : R2 xo11 A) : View.PiecesOf (G2 fun r j => A r j + ∑ x : Fin 32, K.tg2 (o + (8 * x + r)) j) (kernelRun0_B c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1).2.2.2.1 := by
  unfold kernelRun0_B; dsimp only; sl_unfold_words
  simp only [View.readAt_eq_ld, harg1.read_unread, harg2.read_unread, harg3.read_unread, harg4.read_unread, harg5.read_unread, harg6.read_unread, harg7.read_unread, harg10.read_unread, harg14.read_unread, harg15.read_unread, harg16.read_unread, harg17.read_unread, harg18.read_unread, harg19.read_unread, harg20.read_unread]
  simp only [pay15_eq, pay18_eq, pay19_eq, pay20_eq, pay21_eq, pay22_eq, pay23_eq, pay24_eq, pay26_eq, pay29_eq, pay37_eq, pay38_eq, pay41_eq, pay43_eq, pay44_eq, pay46_eq, pay47_eq, pay48_eq, pay49_eq, pay50_eq, pay51_eq, pay52_eq, pay55_eq, pay57_eq, pay58_eq, pay60_eq, pay61_eq, pay62_eq, pay64_eq, pay65_eq, pay66_eq, pay67_eq, pay68_eq, pay27_eq, pay56_eq, pay69_eq, pay74_eq]
  refine ⟨?_, trivial⟩
  · refine piece2 (by decide) (acc2_R (mul_R ((h.shard (j := 3) rfl rfl (by decide) (by decide) (by decide) (by decide) (by decide) (by decide)).dh (h.cw (by decide)) (h.cw (by decide)) (h.cw (by decide)) ((h.shard (j := 1) rfl rfl (by decide) (by decide) (by decide) (by decide) (by decide) (by decide)).dh (h.cw (by decide)) (h.cw (by decide)) (h.cw (by decide)) ((h.shard (j := 2) rfl rfl (by decide) (by decide) (by decide) (by decide) (by decide) (by decide)).dh (h.cw (by decide)) (h.cw (by decide)) (h.cw (by decide)) ((h.shard (j := 0) rfl rfl (by decide) (by decide) (by decide) (by decide) (by decide) (by decide)).dh (h.cw (by decide)) (h.cw (by decide)) (h.cw (by decide)) zero13_R (h.wu (by decide))) (h.wu (by decide))) (h.wu (by decide))) (h.wu (by decide))) (pay72_R (ld2_R (by decide) h.h2))) (pay73_R (ld2_R (by decide) a))) fun i j _ _ => ?_
    simp only [Nat.zero_add]; rfl

theorem stores12 {A : ℕ → ℕ → ℝ} (a : R2 xo12 A) : View.PiecesOf (G2 fun r j => A r j + ∑ x : Fin 32, K.tg3 (o + (8 * x + r)) j) (kernelRun0_B c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1).2.2.2.2.1 := by
  unfold kernelRun0_B; dsimp only; sl_unfold_words
  simp only [View.readAt_eq_ld, harg1.read_unread, harg2.read_unread, harg3.read_unread, harg4.read_unread, harg5.read_unread, harg6.read_unread, harg7.read_unread, harg10.read_unread, harg14.read_unread, harg15.read_unread, harg16.read_unread, harg17.read_unread, harg18.read_unread, harg19.read_unread, harg20.read_unread]
  refine ⟨?_, trivial⟩
  · refine piece2 (by decide) (acc2'_R (ld2_R (by decide) h.h0) (ld2_R (by decide) h.h1) (ld2_R (by decide) a)) fun i j _ _ => ?_
    simp only [Nat.zero_add]; rfl

theorem stores13 {A : ℕ → ℕ → ℕ → ℕ → ℝ} (a : R4 xo13 A) : View.PiecesOf (G4 fun j k r q => A j k r q + ∑ x : Fin 32, K.tcw j k (o + (8 * x + r)) q) (kernelRun0_B c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1).2.2.2.2.2.1 := by
  unfold kernelRun0_B; dsimp only; sl_unfold_words
  simp only [View.readAt_eq_ld, harg1.read_unread, harg2.read_unread, harg3.read_unread, harg4.read_unread, harg5.read_unread, harg6.read_unread, harg7.read_unread, harg10.read_unread, harg14.read_unread, harg15.read_unread, harg16.read_unread, harg17.read_unread, harg18.read_unread, harg19.read_unread, harg20.read_unread]
  simp only [pay15_eq, pay18_eq, pay19_eq, pay20_eq, pay21_eq, pay22_eq, pay23_eq, pay24_eq, pay26_eq, pay29_eq, pay37_eq, pay38_eq, pay41_eq, pay43_eq, pay44_eq, pay46_eq, pay47_eq, pay48_eq, pay49_eq, pay50_eq, pay51_eq, pay52_eq, pay55_eq, pay57_eq, pay58_eq, pay60_eq, pay61_eq, pay62_eq, pay64_eq, pay65_eq, pay66_eq, pay67_eq, pay68_eq, pay27_eq, pay56_eq, pay69_eq, pay74_eq]
  refine ⟨?_, ?_, ?_, ?_, ?_, ?_, ?_, ?_, ?_, ?_, ?_, ?_, trivial⟩
  · refine piece4 (by decide) (Shard.tap (K := K) (o := o) (j := 3) (k := 0) (h.shard (j := 3) rfl rfl (by decide) (by decide) (by decide) (by decide) (by decide) (by decide)).dc2 (h.u rfl (by decide)) (ldA4_R a (by decide))) fun i i' r q hi hi' _ _ => ?_
    simp only [Nat.lt_one_iff.mp hi, Nat.lt_one_iff.mp hi', Nat.zero_add, Nat.add_zero]
  · refine piece4 (by decide) (Shard.tap (K := K) (o := o) (j := 3) (k := 1) (h.shard (j := 3) rfl rfl (by decide) (by decide) (by decide) (by decide) (by decide) (by decide)).dc1 (h.u rfl (by decide)) (ldA4_R a (by decide))) fun i i' r q hi hi' _ _ => ?_
    simp only [Nat.lt_one_iff.mp hi, Nat.lt_one_iff.mp hi', Nat.zero_add, Nat.add_zero]
  · refine piece4 (by decide) (Shard.tap (K := K) (o := o) (j := 3) (k := 2) (h.shard (j := 3) rfl rfl (by decide) (by decide) (by decide) (by decide) (by decide) (by decide)).dc (h.u rfl (by decide)) (ldA4_R a (by decide))) fun i i' r q hi hi' _ _ => ?_
    simp only [Nat.lt_one_iff.mp hi, Nat.lt_one_iff.mp hi', Nat.zero_add, Nat.add_zero]
  · refine piece4 (by decide) (Shard.tap (K := K) (o := o) (j := 1) (k := 0) (h.shard (j := 1) rfl rfl (by decide) (by decide) (by decide) (by decide) (by decide) (by decide)).dc2 (h.u rfl (by decide)) (ldA4_R a (by decide))) fun i i' r q hi hi' _ _ => ?_
    simp only [Nat.lt_one_iff.mp hi, Nat.lt_one_iff.mp hi', Nat.zero_add, Nat.add_zero]
  · refine piece4 (by decide) (Shard.tap (K := K) (o := o) (j := 1) (k := 1) (h.shard (j := 1) rfl rfl (by decide) (by decide) (by decide) (by decide) (by decide) (by decide)).dc1 (h.u rfl (by decide)) (ldA4_R a (by decide))) fun i i' r q hi hi' _ _ => ?_
    simp only [Nat.lt_one_iff.mp hi, Nat.lt_one_iff.mp hi', Nat.zero_add, Nat.add_zero]
  · refine piece4 (by decide) (Shard.tap (K := K) (o := o) (j := 1) (k := 2) (h.shard (j := 1) rfl rfl (by decide) (by decide) (by decide) (by decide) (by decide) (by decide)).dc (h.u rfl (by decide)) (ldA4_R a (by decide))) fun i i' r q hi hi' _ _ => ?_
    simp only [Nat.lt_one_iff.mp hi, Nat.lt_one_iff.mp hi', Nat.zero_add, Nat.add_zero]
  · refine piece4 (by decide) (Shard.tap (K := K) (o := o) (j := 2) (k := 0) (h.shard (j := 2) rfl rfl (by decide) (by decide) (by decide) (by decide) (by decide) (by decide)).dc2 (h.u rfl (by decide)) (ldA4_R a (by decide))) fun i i' r q hi hi' _ _ => ?_
    simp only [Nat.lt_one_iff.mp hi, Nat.lt_one_iff.mp hi', Nat.zero_add, Nat.add_zero]
  · refine piece4 (by decide) (Shard.tap (K := K) (o := o) (j := 2) (k := 1) (h.shard (j := 2) rfl rfl (by decide) (by decide) (by decide) (by decide) (by decide) (by decide)).dc1 (h.u rfl (by decide)) (ldA4_R a (by decide))) fun i i' r q hi hi' _ _ => ?_
    simp only [Nat.lt_one_iff.mp hi, Nat.lt_one_iff.mp hi', Nat.zero_add, Nat.add_zero]
  · refine piece4 (by decide) (Shard.tap (K := K) (o := o) (j := 2) (k := 2) (h.shard (j := 2) rfl rfl (by decide) (by decide) (by decide) (by decide) (by decide) (by decide)).dc (h.u rfl (by decide)) (ldA4_R a (by decide))) fun i i' r q hi hi' _ _ => ?_
    simp only [Nat.lt_one_iff.mp hi, Nat.lt_one_iff.mp hi', Nat.zero_add, Nat.add_zero]
  · refine piece4 (by decide) (Shard.tap (K := K) (o := o) (j := 0) (k := 0) (h.shard (j := 0) rfl rfl (by decide) (by decide) (by decide) (by decide) (by decide) (by decide)).dc2 (h.u rfl (by decide)) (ldA4_R a (by decide))) fun i i' r q hi hi' _ _ => ?_
    simp only [Nat.lt_one_iff.mp hi, Nat.lt_one_iff.mp hi', Nat.zero_add, Nat.add_zero]
  · refine piece4 (by decide) (Shard.tap (K := K) (o := o) (j := 0) (k := 1) (h.shard (j := 0) rfl rfl (by decide) (by decide) (by decide) (by decide) (by decide) (by decide)).dc1 (h.u rfl (by decide)) (ldA4_R a (by decide))) fun i i' r q hi hi' _ _ => ?_
    simp only [Nat.lt_one_iff.mp hi, Nat.lt_one_iff.mp hi', Nat.zero_add, Nat.add_zero]
  · refine piece4 (by decide) (Shard.tap (K := K) (o := o) (j := 0) (k := 2) (h.shard (j := 0) rfl rfl (by decide) (by decide) (by decide) (by decide) (by decide) (by decide)).dc (h.u rfl (by decide)) (ldA4_R a (by decide))) fun i i' r q hi hi' _ _ => ?_
    simp only [Nat.lt_one_iff.mp hi, Nat.lt_one_iff.mp hi', Nat.zero_add, Nat.add_zero]

theorem stores14 {A : ℕ → ℕ → ℕ → ℝ} (a : R3 xo14 A) : View.PiecesOf (G3 fun j r q => A j r q + ∑ x : Fin 32, K.dc j (o + (8 * x + r)) q) (kernelRun0_B c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1).2.2.2.2.2.2.1 := by
  unfold kernelRun0_B; dsimp only; sl_unfold_words
  simp only [View.readAt_eq_ld, harg1.read_unread, harg2.read_unread, harg3.read_unread, harg4.read_unread, harg5.read_unread, harg6.read_unread, harg7.read_unread, harg10.read_unread, harg14.read_unread, harg15.read_unread, harg16.read_unread, harg17.read_unread, harg18.read_unread, harg19.read_unread, harg20.read_unread]
  simp only [pay15_eq, pay18_eq, pay19_eq, pay20_eq, pay21_eq, pay22_eq, pay23_eq, pay24_eq, pay26_eq, pay29_eq, pay37_eq, pay38_eq, pay41_eq, pay43_eq, pay44_eq, pay46_eq, pay47_eq, pay48_eq, pay49_eq, pay50_eq, pay51_eq, pay52_eq, pay55_eq, pay57_eq, pay58_eq, pay60_eq, pay61_eq, pay62_eq, pay64_eq, pay65_eq, pay66_eq, pay67_eq, pay68_eq, pay27_eq, pay56_eq, pay69_eq, pay74_eq]
  refine ⟨?_, ?_, ?_, ?_, trivial⟩
  · refine piece3 (by decide) ((h.shard (j := 3) rfl rfl (by decide) (by decide) (by decide) (by decide) (by decide) (by decide)).sum (ldA3_R a (by decide))) fun i r q hi _ _ => ?_
    simp only [Nat.lt_one_iff.mp hi, Nat.zero_add, Nat.add_zero]
  · refine piece3 (by decide) ((h.shard (j := 1) rfl rfl (by decide) (by decide) (by decide) (by decide) (by decide) (by decide)).sum (ldA3_R a (by decide))) fun i r q hi _ _ => ?_
    simp only [Nat.lt_one_iff.mp hi, Nat.zero_add, Nat.add_zero]
  · refine piece3 (by decide) ((h.shard (j := 2) rfl rfl (by decide) (by decide) (by decide) (by decide) (by decide) (by decide)).sum (ldA3_R a (by decide))) fun i r q hi _ _ => ?_
    simp only [Nat.lt_one_iff.mp hi, Nat.zero_add, Nat.add_zero]
  · refine piece3 (by decide) ((h.shard (j := 0) rfl rfl (by decide) (by decide) (by decide) (by decide) (by decide) (by decide)).sum (ldA3_R a (by decide))) fun i r q hi _ _ => ?_
    simp only [Nat.lt_one_iff.mp hi, Nat.zero_add, Nat.add_zero]

theorem stores15 : View.PiecesOf (G3 fun j r q => K.dc j (o + r) q) (kernelRun0_B c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1).2.2.2.2.2.2.2.2.2.1 := by
  unfold kernelRun0_B; dsimp only; sl_unfold_words
  simp only [View.readAt_eq_ld, harg1.read_unread, harg2.read_unread, harg3.read_unread, harg4.read_unread, harg5.read_unread, harg6.read_unread, harg7.read_unread, harg10.read_unread, harg14.read_unread, harg15.read_unread, harg16.read_unread, harg17.read_unread, harg18.read_unread, harg19.read_unread, harg20.read_unread]
  simp only [pay15_eq, pay18_eq, pay19_eq, pay20_eq, pay21_eq, pay22_eq, pay23_eq, pay24_eq, pay26_eq, pay29_eq, pay37_eq, pay38_eq, pay41_eq, pay43_eq, pay44_eq, pay46_eq, pay47_eq, pay48_eq, pay49_eq, pay50_eq, pay51_eq, pay52_eq, pay55_eq, pay57_eq, pay58_eq, pay60_eq, pay61_eq, pay62_eq, pay64_eq, pay65_eq, pay66_eq, pay67_eq, pay68_eq, pay27_eq, pay56_eq, pay69_eq, pay74_eq]
  refine ⟨?_, ?_, ?_, ?_, trivial⟩
  · refine piece3 (by decide) (h.shard (j := 3) rfl rfl (by decide) (by decide) (by decide) (by decide) (by decide) (by decide)).carry fun i r q hi _ _ => ?_
    simp only [Nat.lt_one_iff.mp hi, Nat.zero_add, Nat.add_zero]
  · refine piece3 (by decide) (h.shard (j := 1) rfl rfl (by decide) (by decide) (by decide) (by decide) (by decide) (by decide)).carry fun i r q hi _ _ => ?_
    simp only [Nat.lt_one_iff.mp hi, Nat.zero_add, Nat.add_zero]
  · refine piece3 (by decide) (h.shard (j := 2) rfl rfl (by decide) (by decide) (by decide) (by decide) (by decide) (by decide)).carry fun i r q hi _ _ => ?_
    simp only [Nat.lt_one_iff.mp hi, Nat.zero_add, Nat.add_zero]
  · refine piece3 (by decide) (h.shard (j := 0) rfl rfl (by decide) (by decide) (by decide) (by decide) (by decide) (by decide)).carry fun i r q hi _ _ => ?_
    simp only [Nat.lt_one_iff.mp hi, Nat.zero_add, Nat.add_zero]

end

end Cert.Mlp
-- ==== Proof.First.lean ====
module

public import proofs.«01_k».proof.Proof.Outs
public import proofs.«01_k».proof.Proof.Body

/-!
The first point: its stores are those of a later point over sums that start at zero, after the stores of the zeros.
-/

@[expose] public section

set_option maxRecDepth 16384

noncomputable section

namespace Cert.Mlp

open Cert.KernelIdeal Cert.KernelIdeal.Gen Idealize.ShloMosaic Idealize.ShloMosaic.TcCoe Idealize.ShloMosaic.Tactic

variable [Cert.KernelIdeal.Facts]

/-- A load after a copy of the whole buffer reads what was copied. -/
theorem readCov_whole {sig : RefSig} {κ : Kind} {sp : Space} {s : Shape} {e : EltTy} (v : View sig κ sp s e) (w : s.Idx → Elt Ideal e)
    (L : List (View.Piece (Elt Ideal) s e)) (r : Rect s) :
    v.readCov (⟨Rect.whole s, w⟩ :: L) r.toLoadRect = View.ld (Val := Elt Ideal) (e' := e) w r := by
  rw [View.readCov_eq_canon']
  funext j
  have h := View.canon_cons_emb (Val := Elt Ideal) (Rect.whole s) w L (r.toLoadRect.idx j)
  rw [Rect.emb_whole_apply] at h
  exact h

section

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S256x5632 .bf16) (harg5 : arg5.IsWhole) (arg6 : Memref sig .tc .vmem S1x1024 .f32) (harg6 : arg6.IsWhole) (arg7 : Memref sig .tc .vmem S1x1024 .f32) (harg7 : arg7.IsWhole) (arg10 : Memref sig .tc .vmem S4x3x1408 .f32) (harg10 : arg10.IsWhole) (arg11 : Memref sig .tc .vmem S256x1024 .f32) (harg11 : arg11.IsWhole) (arg12 : Memref sig .tc .vmem S256x5632 .bf16) (harg12 : arg12.IsWhole) (arg13 : Memref sig .tc .vmem S256x1024 .bf16) (harg13 : arg13.IsWhole) (arg14 : Memref sig .tc .vmem S8x1024 .f32) (harg14 : arg14.IsWhole) (arg15 : Memref sig .tc .vmem S8x1024 .f32) (harg15 : arg15.IsWhole) (arg16 : Memref sig .tc .vmem S4x3x8x1408 .f32) (harg16 : arg16.IsWhole) (arg17 : Memref sig .tc .vmem S4x8x1408 .f32) (harg17 : arg17.IsWhole) (arg18 : Memref sig .tc .vmem S4x1024x1408 .bf16) (harg18 : arg18.IsWhole) (arg19 : Memref sig .tc .vmem S2816x1024 .bf16) (harg19 : arg19.IsWhole) (arg20 : Memref sig .tc .vmem S4x8x1408 .f32) (harg20 : arg20.IsWhole) (hc0 : cond0_0 i)
    (x0 : Vec Ideal S256x1024 .f32) (x1 : Vec Ideal S256x1024 .f32) (x2 : Vec Ideal S256x1024 .f32) (x3 : Vec Ideal S256x5632 .bf16) (x4 : Vec Ideal S256x5632 .bf16) (x5 : Vec Ideal S1x1024 .f32) (x6 : Vec Ideal S1x1024 .f32) (x7 : Vec Ideal S4x3x1408 .f32) (fh0 : HbBuf0 (F := Ideal) c hbM0_0) (fh1 : HbBuf0 (F := Ideal) c hbM0_1)
  (i' : grid0.Coords) (hc0' : ¬cond0_0 i')

theorem first8 : (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).1 = (kernelRun0_B c i' arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0' x0 x1 x2 x3 x4 x5 x6 x7 (k0_pay4 (F := Ideal)) (k0_pay5 (F := Ideal)) (k0_pay6 (F := Ideal)) (k0_pay7 (F := Ideal)) (View.read (Elt Ideal) (View.whole main_v65) fh0) (View.read (Elt Ideal) (View.whole main_v66) fh1) (k0_pay3 (F := Ideal)) fh0 fh1).1 := by
  unfold kernelRun0_A kernelRun0_B; dsimp only; sl_unfold_words
  simp (discharger := first | decide | rfl) only [↓View.readCov_skip, View.readCov_fill, readCov_whole, ReadAs.apply_same, View.readAt_eq_ld, harg1.read_unread, harg2.read_unread, harg3.read_unread, harg4.read_unread, harg5.read_unread, harg6.read_unread, harg7.read_unread, harg10.read_unread, harg14.read_unread, harg15.read_unread, harg16.read_unread, harg17.read_unread, harg18.read_unread, harg19.read_unread, harg20.read_unread]

theorem first9 : (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).2.1 = (kernelRun0_B c i' arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0' x0 x1 x2 x3 x4 x5 x6 x7 (k0_pay4 (F := Ideal)) (k0_pay5 (F := Ideal)) (k0_pay6 (F := Ideal)) (k0_pay7 (F := Ideal)) (View.read (Elt Ideal) (View.whole main_v65) fh0) (View.read (Elt Ideal) (View.whole main_v66) fh1) (k0_pay3 (F := Ideal)) fh0 fh1).2.1 := by
  unfold kernelRun0_A kernelRun0_B; dsimp only; sl_unfold_words
  simp (discharger := first | decide | rfl) only [↓View.readCov_skip, View.readCov_fill, readCov_whole, ReadAs.apply_same, View.readAt_eq_ld, harg1.read_unread, harg2.read_unread, harg3.read_unread, harg4.read_unread, harg5.read_unread, harg6.read_unread, harg7.read_unread, harg10.read_unread, harg14.read_unread, harg15.read_unread, harg16.read_unread, harg17.read_unread, harg18.read_unread, harg19.read_unread, harg20.read_unread]

theorem first10 : (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).2.2.1 = (kernelRun0_B c i' arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0' x0 x1 x2 x3 x4 x5 x6 x7 (k0_pay4 (F := Ideal)) (k0_pay5 (F := Ideal)) (k0_pay6 (F := Ideal)) (k0_pay7 (F := Ideal)) (View.read (Elt Ideal) (View.whole main_v65) fh0) (View.read (Elt Ideal) (View.whole main_v66) fh1) (k0_pay3 (F := Ideal)) fh0 fh1).2.2.1 := by
  unfold kernelRun0_A kernelRun0_B; dsimp only; sl_unfold_words
  simp (discharger := first | decide | rfl) only [↓View.readCov_skip, View.readCov_fill, readCov_whole, ReadAs.apply_same, View.readAt_eq_ld, harg1.read_unread, harg2.read_unread, harg3.read_unread, harg4.read_unread, harg5.read_unread, harg6.read_unread, harg7.read_unread, harg10.read_unread, harg14.read_unread, harg15.read_unread, harg16.read_unread, harg17.read_unread, harg18.read_unread, harg19.read_unread, harg20.read_unread]

theorem first11 : ∃ L, (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).2.2.2.1 = (kernelRun0_B c i' arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0' x0 x1 x2 x3 x4 x5 x6 x7 (k0_pay4 (F := Ideal)) (k0_pay5 (F := Ideal)) (k0_pay6 (F := Ideal)) (k0_pay7 (F := Ideal)) (View.read (Elt Ideal) (View.whole main_v65) fh0) (View.read (Elt Ideal) (View.whole main_v66) fh1) (k0_pay3 (F := Ideal)) fh0 fh1).2.2.2.1 ++ L := by
  unfold kernelRun0_A kernelRun0_B; dsimp only; sl_unfold_words
  simp (discharger := first | decide | rfl) only [↓View.readCov_skip, View.readCov_fill, readCov_whole, ReadAs.apply_same, View.readAt_eq_ld, harg1.read_unread, harg2.read_unread, harg3.read_unread, harg4.read_unread, harg5.read_unread, harg6.read_unread, harg7.read_unread, harg10.read_unread, harg14.read_unread, harg15.read_unread, harg16.read_unread, harg17.read_unread, harg18.read_unread, harg19.read_unread, harg20.read_unread]
  exact ⟨_, rfl⟩

theorem first12 : ∃ L, (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).2.2.2.2.1 = (kernelRun0_B c i' arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0' x0 x1 x2 x3 x4 x5 x6 x7 (k0_pay4 (F := Ideal)) (k0_pay5 (F := Ideal)) (k0_pay6 (F := Ideal)) (k0_pay7 (F := Ideal)) (View.read (Elt Ideal) (View.whole main_v65) fh0) (View.read (Elt Ideal) (View.whole main_v66) fh1) (k0_pay3 (F := Ideal)) fh0 fh1).2.2.2.2.1 ++ L := by
  unfold kernelRun0_A kernelRun0_B; dsimp only; sl_unfold_words
  simp (discharger := first | decide | rfl) only [↓View.readCov_skip, View.readCov_fill, readCov_whole, ReadAs.apply_same, View.readAt_eq_ld, harg1.read_unread, harg2.read_unread, harg3.read_unread, harg4.read_unread, harg5.read_unread, harg6.read_unread, harg7.read_unread, harg10.read_unread, harg14.read_unread, harg15.read_unread, harg16.read_unread, harg17.read_unread, harg18.read_unread, harg19.read_unread, harg20.read_unread]
  exact ⟨_, rfl⟩

theorem first13 : ∃ L, (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).2.2.2.2.2.1 = (kernelRun0_B c i' arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0' x0 x1 x2 x3 x4 x5 x6 x7 (k0_pay4 (F := Ideal)) (k0_pay5 (F := Ideal)) (k0_pay6 (F := Ideal)) (k0_pay7 (F := Ideal)) (View.read (Elt Ideal) (View.whole main_v65) fh0) (View.read (Elt Ideal) (View.whole main_v66) fh1) (k0_pay3 (F := Ideal)) fh0 fh1).2.2.2.2.2.1 ++ L := by
  unfold kernelRun0_A kernelRun0_B; dsimp only; sl_unfold_words
  simp (discharger := first | decide | rfl) only [↓View.readCov_skip, View.readCov_fill, readCov_whole, ReadAs.apply_same, View.readAt_eq_ld, harg1.read_unread, harg2.read_unread, harg3.read_unread, harg4.read_unread, harg5.read_unread, harg6.read_unread, harg7.read_unread, harg10.read_unread, harg14.read_unread, harg15.read_unread, harg16.read_unread, harg17.read_unread, harg18.read_unread, harg19.read_unread, harg20.read_unread]
  exact ⟨_, rfl⟩

theorem first14 : ∃ L, (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).2.2.2.2.2.2.1 = (kernelRun0_B c i' arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0' x0 x1 x2 x3 x4 x5 x6 x7 (k0_pay4 (F := Ideal)) (k0_pay5 (F := Ideal)) (k0_pay6 (F := Ideal)) (k0_pay7 (F := Ideal)) (View.read (Elt Ideal) (View.whole main_v65) fh0) (View.read (Elt Ideal) (View.whole main_v66) fh1) (k0_pay3 (F := Ideal)) fh0 fh1).2.2.2.2.2.2.1 ++ L := by
  unfold kernelRun0_A kernelRun0_B; dsimp only; sl_unfold_words
  simp (discharger := first | decide | rfl) only [↓View.readCov_skip, View.readCov_fill, readCov_whole, ReadAs.apply_same, View.readAt_eq_ld, harg1.read_unread, harg2.read_unread, harg3.read_unread, harg4.read_unread, harg5.read_unread, harg6.read_unread, harg7.read_unread, harg10.read_unread, harg14.read_unread, harg15.read_unread, harg16.read_unread, harg17.read_unread, harg18.read_unread, harg19.read_unread, harg20.read_unread]
  exact ⟨_, rfl⟩

theorem first15 : ∃ L, (kernelRun0_A c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1).2.2.2.2.2.2.2.2.2.1 = (kernelRun0_B c i' arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0' x0 x1 x2 x3 x4 x5 x6 x7 (k0_pay4 (F := Ideal)) (k0_pay5 (F := Ideal)) (k0_pay6 (F := Ideal)) (k0_pay7 (F := Ideal)) (View.read (Elt Ideal) (View.whole main_v65) fh0) (View.read (Elt Ideal) (View.whole main_v66) fh1) (k0_pay3 (F := Ideal)) fh0 fh1).2.2.2.2.2.2.2.2.2.1 ++ L := by
  unfold kernelRun0_A kernelRun0_B; dsimp only; sl_unfold_words
  simp (discharger := first | decide | rfl) only [↓View.readCov_skip, View.readCov_fill, readCov_whole, ReadAs.apply_same, View.readAt_eq_ld, harg1.read_unread, harg2.read_unread, harg3.read_unread, harg4.read_unread, harg5.read_unread, harg6.read_unread, harg7.read_unread, harg10.read_unread, harg14.read_unread, harg15.read_unread, harg16.read_unread, harg17.read_unread, harg18.read_unread, harg19.read_unread, harg20.read_unread]
  exact ⟨_, rfl⟩

end

end Cert.Mlp
-- ==== Proof.After.lean ====
module

public import proofs.«01_k».proof.Proof.Outs
public import proofs.«01_k».proof.Proof.First

/-!
Everything a point leaves, as real numbers.
-/

@[expose] public section

set_option maxRecDepth 16384

noncomputable section

namespace Cert.Mlp

open Cert.KernelIdeal Cert.KernelIdeal.Gen Idealize.ShloMosaic Idealize.ShloMosaic.TcCoe Idealize.ShloMosaic.Tactic

variable [Cert.KernelIdeal.Facts]

theorem read_of {sig : RefSig} {κ : Kind} {sp : Space} {s : Shape} {e : EltTy} (v : View sig κ sp s e) (G : s.Idx → Elt Ideal e)
    {LB L : List (View.Piece (Elt Ideal) s e)} (h : View.PiecesOf G LB) (hc : ∀ y, ∃ p ∈ LB, y ∈ p.1.set) (hL : ∃ L', L = LB ++ L') :
    v.read (Elt Ideal) (v.writes (Elt Ideal) v.junk L) = G := by
  obtain ⟨L', rfl⟩ := hL
  rw [View.read_writes_junk_eq_canon]
  exact funext fun y => View.canon_append_of_piecesOf G L' LB h y (hc y)

theorem append_nil_of {α : Type} {L L' : List α} (h : L = L') : ∃ M, L = L' ++ M := ⟨[], h.trans (List.append_nil _).symm⟩

/-- What is left of the block of rows that starts at row `o`, over sums that were `A11` … `A14` before. -/
structure After (K : Data) (o : ℕ) (A11 A12 : ℕ → ℕ → ℝ) (A13 : ℕ → ℕ → ℕ → ℕ → ℝ) (A14 : ℕ → ℕ → ℕ → ℝ) (r : Outs Ideal) : Prop where
  dx : r.1 = G2 fun i j => K.dx (o + i) j
  du : r.2.1 = G2 fun i c => K.duRow (o + i) c
  df : r.2.2.1 = G2 fun i j => K.df (o + i) j
  dg2 : r.2.2.2.1 = G2 fun r j => A11 r j + ∑ x : Fin 32, K.tg2 (o + (8 * x + r)) j
  dg3 : r.2.2.2.2.1 = G2 fun r j => A12 r j + ∑ x : Fin 32, K.tg3 (o + (8 * x + r)) j
  dcw : r.2.2.2.2.2.1 = G4 fun j k r q => A13 j k r q + ∑ x : Fin 32, K.tcw j k (o + (8 * x + r)) q
  dcb : r.2.2.2.2.2.2.1 = G3 fun j r q => A14 j r q + ∑ x : Fin 32, K.dc j (o + (8 * x + r)) q
  s2 : r.2.2.2.2.2.2.2.2.2 = G3 fun j r q => K.dc j (o + r) q
  s0 : R3 r.2.2.2.2.2.2.2.1 K.wu
  s1 : R2 r.2.2.2.2.2.2.2.2.1 K.wd

theorem After.of {K : Data} {o : ℕ} {A11 A12 : ℕ → ℕ → ℝ} {A13 : ℕ → ℕ → ℕ → ℕ → ℝ} {A14 : ℕ → ℕ → ℕ → ℝ} {a8 a9 a10 a11 a12 a13 a14 s0 s1 s2}
    (h8 : a8 = G2 fun i j => K.dx (o + i) j)
    (h9 : a9 = G2 fun i c => K.duRow (o + i) c)
    (h10 : a10 = G2 fun i j => K.df (o + i) j)
    (h11 : a11 = G2 fun r j => A11 r j + ∑ x : Fin 32, K.tg2 (o + (8 * x + r)) j)
    (h12 : a12 = G2 fun r j => A12 r j + ∑ x : Fin 32, K.tg3 (o + (8 * x + r)) j)
    (h13 : a13 = G4 fun j k r q => A13 j k r q + ∑ x : Fin 32, K.tcw j k (o + (8 * x + r)) q)
    (h14 : a14 = G3 fun j r q => A14 j r q + ∑ x : Fin 32, K.dc j (o + (8 * x + r)) q)
    (h15 : s2 = G3 fun j r q => K.dc j (o + r) q)
    (hs0 : R3 s0 K.wu) (hs1 : R2 s1 K.wd) :
    After K o A11 A12 A13 A14 (a8, a9, a10, a11, a12, a13, a14, s0, s1, s2) :=
  ⟨h8, h9, h10, h11, h12, h13, h14, h15, hs0, hs1⟩

section

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S256x5632 .bf16) (harg5 : arg5.IsWhole) (arg6 : Memref sig .tc .vmem S1x1024 .f32) (harg6 : arg6.IsWhole) (arg7 : Memref sig .tc .vmem S1x1024 .f32) (harg7 : arg7.IsWhole) (arg10 : Memref sig .tc .vmem S4x3x1408 .f32) (harg10 : arg10.IsWhole) (arg11 : Memref sig .tc .vmem S256x1024 .f32) (harg11 : arg11.IsWhole) (arg12 : Memref sig .tc .vmem S256x5632 .bf16) (harg12 : arg12.IsWhole) (arg13 : Memref sig .tc .vmem S256x1024 .bf16) (harg13 : arg13.IsWhole) (arg14 : Memref sig .tc .vmem S8x1024 .f32) (harg14 : arg14.IsWhole) (arg15 : Memref sig .tc .vmem S8x1024 .f32) (harg15 : arg15.IsWhole) (arg16 : Memref sig .tc .vmem S4x3x8x1408 .f32) (harg16 : arg16.IsWhole) (arg17 : Memref sig .tc .vmem S4x8x1408 .f32) (harg17 : arg17.IsWhole) (arg18 : Memref sig .tc .vmem S4x1024x1408 .bf16) (harg18 : arg18.IsWhole) (arg19 : Memref sig .tc .vmem S2816x1024 .bf16) (harg19 : arg19.IsWhole) (arg20 : Memref sig .tc .vmem S4x8x1408 .f32) (harg20 : arg20.IsWhole) (hc0 : ¬cond0_0 i)
    (x0 : Vec Ideal S256x1024 .f32) (x1 : Vec Ideal S256x1024 .f32) (x2 : Vec Ideal S256x1024 .f32) (x3 : Vec Ideal S256x5632 .bf16) (x4 : Vec Ideal S256x5632 .bf16) (x5 : Vec Ideal S1x1024 .f32) (x6 : Vec Ideal S1x1024 .f32) (x7 : Vec Ideal S4x3x1408 .f32) (xo11 : Vec Ideal S8x1024 .f32) (xo12 : Vec Ideal S8x1024 .f32) (xo13 : Vec Ideal S4x3x8x1408 .f32) (xo14 : Vec Ideal S4x8x1408 .f32) (xs0 : Vec Ideal S4x1024x1408 .bf16) (xs1 : Vec Ideal S2816x1024 .bf16) (xs2 : Vec Ideal S4x8x1408 .f32) (fh0 : HbBuf0 (F := Ideal) c hbM0_0) (fh1 : HbBuf0 (F := Ideal) c hbM0_1)
  {K : Data} {o : ℕ} (h : Block K o x0 x1 x2 x3 x4 x5 x6 x7 xs0 xs1 xs2)

include h

theorem later8 : out0_B_8 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1 = G2 fun i j => K.dx (o + i) j := by
  unfold out0_B_8
  exact read_of VO0_8 _ (stores8 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1 h) (cover0_B_8 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1) (append_nil_of rfl)

theorem later9 : out0_B_9 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1 = G2 fun i c => K.duRow (o + i) c := by
  unfold out0_B_9
  exact read_of VO0_9 _ (stores9 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1 h) (cover0_B_9 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1) (append_nil_of rfl)

theorem later10 : out0_B_10 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1 = G2 fun i j => K.df (o + i) j := by
  unfold out0_B_10
  exact read_of VO0_10 _ (stores10 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1 h) (cover0_B_10 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1) (append_nil_of rfl)

theorem later11 {A : ℕ → ℕ → ℝ} (a : R2 xo11 A) : out0_B_11 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1 = G2 fun r j => A r j + ∑ x : Fin 32, K.tg2 (o + (8 * x + r)) j := by
  unfold out0_B_11
  exact read_of VO0_11 _ (stores11 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1 h a) (cover0_B_11 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1) (append_nil_of rfl)

theorem later12 {A : ℕ → ℕ → ℝ} (a : R2 xo12 A) : out0_B_12 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1 = G2 fun r j => A r j + ∑ x : Fin 32, K.tg3 (o + (8 * x + r)) j := by
  unfold out0_B_12
  exact read_of VO0_12 _ (stores12 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1 h a) (cover0_B_12 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1) (append_nil_of rfl)

theorem later13 {A : ℕ → ℕ → ℕ → ℕ → ℝ} (a : R4 xo13 A) : out0_B_13 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1 = G4 fun j k r q => A j k r q + ∑ x : Fin 32, K.tcw j k (o + (8 * x + r)) q := by
  unfold out0_B_13
  exact read_of VO0_13 _ (stores13 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1 h a) (cover0_B_13 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1) (append_nil_of rfl)

theorem later14 {A : ℕ → ℕ → ℕ → ℝ} (a : R3 xo14 A) : out0_B_14 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1 = G3 fun j r q => A j r q + ∑ x : Fin 32, K.dc j (o + (8 * x + r)) q := by
  unfold out0_B_14
  exact read_of VO0_14 _ (stores14 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1 h a) (cover0_B_14 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1) (append_nil_of rfl)

theorem later15 : sout0_B_2 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1 = G3 fun j r q => K.dc j (o + r) q := by
  unfold sout0_B_2
  exact read_of VS0_2 _ (stores15 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1 h) (scover0_B_2 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1) (append_nil_of rfl)

theorem afterB {A11 A12 : ℕ → ℕ → ℝ} {A13 : ℕ → ℕ → ℕ → ℕ → ℝ}
    {A14 : ℕ → ℕ → ℕ → ℝ} (a11 : R2 xo11 A11) (a12 : R2 xo12 A12) (a13 : R4 xo13 A13) (a14 : R3 xo14 A14) :
    After K o A11 A12 A13 A14 (outsB c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1) := by
  unfold outsB
  exact After.of (later8 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1 h) (later9 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1 h) (later10 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1 h) (later11 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1 h a11) (later12 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1 h a12) (later13 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1 h a13) (later14 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1 h a14) (later15 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 xo11 xo12 xo13 xo14 xs0 xs1 xs2 fh0 fh1 h) h.s0 h.s1

end

theorem zero3_R : R3 (k0_pay3 (F := Ideal)) (fun _ _ _ => 0) := by
  intro j r q
  pointwise [k0_pay3]
  simp

theorem zero4_R : R2 (k0_pay4 (F := Ideal)) (fun _ _ => 0) := by
  intro r q
  pointwise [k0_pay4]
  simp

theorem zero5_R : R2 (k0_pay5 (F := Ideal)) (fun _ _ => 0) := by
  intro r q
  pointwise [k0_pay5]
  simp

theorem zero6_R : R4 (k0_pay6 (F := Ideal)) (fun _ _ _ _ => 0) := by
  intro j k r q
  pointwise [k0_pay6]
  simp

theorem zero7_R : R3 (k0_pay7 (F := Ideal)) (fun _ _ _ => 0) := by
  intro j r q
  pointwise [k0_pay7]
  simp

section

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S256x5632 .bf16) (harg5 : arg5.IsWhole) (arg6 : Memref sig .tc .vmem S1x1024 .f32) (harg6 : arg6.IsWhole) (arg7 : Memref sig .tc .vmem S1x1024 .f32) (harg7 : arg7.IsWhole) (arg10 : Memref sig .tc .vmem S4x3x1408 .f32) (harg10 : arg10.IsWhole) (arg11 : Memref sig .tc .vmem S256x1024 .f32) (harg11 : arg11.IsWhole) (arg12 : Memref sig .tc .vmem S256x5632 .bf16) (harg12 : arg12.IsWhole) (arg13 : Memref sig .tc .vmem S256x1024 .bf16) (harg13 : arg13.IsWhole) (arg14 : Memref sig .tc .vmem S8x1024 .f32) (harg14 : arg14.IsWhole) (arg15 : Memref sig .tc .vmem S8x1024 .f32) (harg15 : arg15.IsWhole) (arg16 : Memref sig .tc .vmem S4x3x8x1408 .f32) (harg16 : arg16.IsWhole) (arg17 : Memref sig .tc .vmem S4x8x1408 .f32) (harg17 : arg17.IsWhole) (arg18 : Memref sig .tc .vmem S4x1024x1408 .bf16) (harg18 : arg18.IsWhole) (arg19 : Memref sig .tc .vmem S2816x1024 .bf16) (harg19 : arg19.IsWhole) (arg20 : Memref sig .tc .vmem S4x8x1408 .f32) (harg20 : arg20.IsWhole) (hc0 : cond0_0 i)
    (x0 : Vec Ideal S256x1024 .f32) (x1 : Vec Ideal S256x1024 .f32) (x2 : Vec Ideal S256x1024 .f32) (x3 : Vec Ideal S256x5632 .bf16) (x4 : Vec Ideal S256x5632 .bf16) (x5 : Vec Ideal S1x1024 .f32) (x6 : Vec Ideal S1x1024 .f32) (x7 : Vec Ideal S4x3x1408 .f32) (fh0 : HbBuf0 (F := Ideal) c hbM0_0) (fh1 : HbBuf0 (F := Ideal) c hbM0_1)
  (i' : grid0.Coords) (hc0' : ¬cond0_0 i')
  {K : Data} {o : ℕ} (h : Block K o x0 x1 x2 x3 x4 x5 x6 x7 (View.read (Elt Ideal) (View.whole main_v65) fh0) (View.read (Elt Ideal) (View.whole main_v66) fh1) (k0_pay3 (F := Ideal)))

include h hc0'

theorem begin8 : out0_A_8 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 = G2 fun i j => K.dx (o + i) j := by
  unfold out0_A_8
  exact read_of VO0_8 _ (stores8 c i' arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0' x0 x1 x2 x3 x4 x5 x6 x7 (k0_pay4 (F := Ideal)) (k0_pay5 (F := Ideal)) (k0_pay6 (F := Ideal)) (k0_pay7 (F := Ideal)) (View.read (Elt Ideal) (View.whole main_v65) fh0) (View.read (Elt Ideal) (View.whole main_v66) fh1) (k0_pay3 (F := Ideal)) fh0 fh1 h) (cover0_B_8 c i' arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0' x0 x1 x2 x3 x4 x5 x6 x7 (k0_pay4 (F := Ideal)) (k0_pay5 (F := Ideal)) (k0_pay6 (F := Ideal)) (k0_pay7 (F := Ideal)) (View.read (Elt Ideal) (View.whole main_v65) fh0) (View.read (Elt Ideal) (View.whole main_v66) fh1) (k0_pay3 (F := Ideal)) fh0 fh1) (append_nil_of (first8 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 i' hc0'))

theorem begin9 : out0_A_9 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 = G2 fun i c => K.duRow (o + i) c := by
  unfold out0_A_9
  exact read_of VO0_9 _ (stores9 c i' arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0' x0 x1 x2 x3 x4 x5 x6 x7 (k0_pay4 (F := Ideal)) (k0_pay5 (F := Ideal)) (k0_pay6 (F := Ideal)) (k0_pay7 (F := Ideal)) (View.read (Elt Ideal) (View.whole main_v65) fh0) (View.read (Elt Ideal) (View.whole main_v66) fh1) (k0_pay3 (F := Ideal)) fh0 fh1 h) (cover0_B_9 c i' arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0' x0 x1 x2 x3 x4 x5 x6 x7 (k0_pay4 (F := Ideal)) (k0_pay5 (F := Ideal)) (k0_pay6 (F := Ideal)) (k0_pay7 (F := Ideal)) (View.read (Elt Ideal) (View.whole main_v65) fh0) (View.read (Elt Ideal) (View.whole main_v66) fh1) (k0_pay3 (F := Ideal)) fh0 fh1) (append_nil_of (first9 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 i' hc0'))

theorem begin10 : out0_A_10 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 = G2 fun i j => K.df (o + i) j := by
  unfold out0_A_10
  exact read_of VO0_10 _ (stores10 c i' arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0' x0 x1 x2 x3 x4 x5 x6 x7 (k0_pay4 (F := Ideal)) (k0_pay5 (F := Ideal)) (k0_pay6 (F := Ideal)) (k0_pay7 (F := Ideal)) (View.read (Elt Ideal) (View.whole main_v65) fh0) (View.read (Elt Ideal) (View.whole main_v66) fh1) (k0_pay3 (F := Ideal)) fh0 fh1 h) (cover0_B_10 c i' arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0' x0 x1 x2 x3 x4 x5 x6 x7 (k0_pay4 (F := Ideal)) (k0_pay5 (F := Ideal)) (k0_pay6 (F := Ideal)) (k0_pay7 (F := Ideal)) (View.read (Elt Ideal) (View.whole main_v65) fh0) (View.read (Elt Ideal) (View.whole main_v66) fh1) (k0_pay3 (F := Ideal)) fh0 fh1) (append_nil_of (first10 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 i' hc0'))

theorem begin11 : out0_A_11 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 = G2 fun r j => (fun _ _ => 0 : ℕ → ℕ → ℝ) r j + ∑ x : Fin 32, K.tg2 (o + (8 * x + r)) j := by
  unfold out0_A_11
  exact read_of VO0_11 _ (stores11 c i' arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0' x0 x1 x2 x3 x4 x5 x6 x7 (k0_pay4 (F := Ideal)) (k0_pay5 (F := Ideal)) (k0_pay6 (F := Ideal)) (k0_pay7 (F := Ideal)) (View.read (Elt Ideal) (View.whole main_v65) fh0) (View.read (Elt Ideal) (View.whole main_v66) fh1) (k0_pay3 (F := Ideal)) fh0 fh1 h zero4_R) (cover0_B_11 c i' arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0' x0 x1 x2 x3 x4 x5 x6 x7 (k0_pay4 (F := Ideal)) (k0_pay5 (F := Ideal)) (k0_pay6 (F := Ideal)) (k0_pay7 (F := Ideal)) (View.read (Elt Ideal) (View.whole main_v65) fh0) (View.read (Elt Ideal) (View.whole main_v66) fh1) (k0_pay3 (F := Ideal)) fh0 fh1) (first11 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 i' hc0')

theorem begin12 : out0_A_12 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 = G2 fun r j => (fun _ _ => 0 : ℕ → ℕ → ℝ) r j + ∑ x : Fin 32, K.tg3 (o + (8 * x + r)) j := by
  unfold out0_A_12
  exact read_of VO0_12 _ (stores12 c i' arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0' x0 x1 x2 x3 x4 x5 x6 x7 (k0_pay4 (F := Ideal)) (k0_pay5 (F := Ideal)) (k0_pay6 (F := Ideal)) (k0_pay7 (F := Ideal)) (View.read (Elt Ideal) (View.whole main_v65) fh0) (View.read (Elt Ideal) (View.whole main_v66) fh1) (k0_pay3 (F := Ideal)) fh0 fh1 h zero5_R) (cover0_B_12 c i' arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0' x0 x1 x2 x3 x4 x5 x6 x7 (k0_pay4 (F := Ideal)) (k0_pay5 (F := Ideal)) (k0_pay6 (F := Ideal)) (k0_pay7 (F := Ideal)) (View.read (Elt Ideal) (View.whole main_v65) fh0) (View.read (Elt Ideal) (View.whole main_v66) fh1) (k0_pay3 (F := Ideal)) fh0 fh1) (first12 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 i' hc0')

theorem begin13 : out0_A_13 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 = G4 fun j k r q => (fun _ _ _ _ => 0 : ℕ → ℕ → ℕ → ℕ → ℝ) j k r q + ∑ x : Fin 32, K.tcw j k (o + (8 * x + r)) q := by
  unfold out0_A_13
  exact read_of VO0_13 _ (stores13 c i' arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0' x0 x1 x2 x3 x4 x5 x6 x7 (k0_pay4 (F := Ideal)) (k0_pay5 (F := Ideal)) (k0_pay6 (F := Ideal)) (k0_pay7 (F := Ideal)) (View.read (Elt Ideal) (View.whole main_v65) fh0) (View.read (Elt Ideal) (View.whole main_v66) fh1) (k0_pay3 (F := Ideal)) fh0 fh1 h zero6_R) (cover0_B_13 c i' arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0' x0 x1 x2 x3 x4 x5 x6 x7 (k0_pay4 (F := Ideal)) (k0_pay5 (F := Ideal)) (k0_pay6 (F := Ideal)) (k0_pay7 (F := Ideal)) (View.read (Elt Ideal) (View.whole main_v65) fh0) (View.read (Elt Ideal) (View.whole main_v66) fh1) (k0_pay3 (F := Ideal)) fh0 fh1) (first13 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 i' hc0')

theorem begin14 : out0_A_14 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 = G3 fun j r q => (fun _ _ _ => 0 : ℕ → ℕ → ℕ → ℝ) j r q + ∑ x : Fin 32, K.dc j (o + (8 * x + r)) q := by
  unfold out0_A_14
  exact read_of VO0_14 _ (stores14 c i' arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0' x0 x1 x2 x3 x4 x5 x6 x7 (k0_pay4 (F := Ideal)) (k0_pay5 (F := Ideal)) (k0_pay6 (F := Ideal)) (k0_pay7 (F := Ideal)) (View.read (Elt Ideal) (View.whole main_v65) fh0) (View.read (Elt Ideal) (View.whole main_v66) fh1) (k0_pay3 (F := Ideal)) fh0 fh1 h zero7_R) (cover0_B_14 c i' arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0' x0 x1 x2 x3 x4 x5 x6 x7 (k0_pay4 (F := Ideal)) (k0_pay5 (F := Ideal)) (k0_pay6 (F := Ideal)) (k0_pay7 (F := Ideal)) (View.read (Elt Ideal) (View.whole main_v65) fh0) (View.read (Elt Ideal) (View.whole main_v66) fh1) (k0_pay3 (F := Ideal)) fh0 fh1) (first14 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 i' hc0')

theorem begin15 : sout0_A_2 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 = G3 fun j r q => K.dc j (o + r) q := by
  unfold sout0_A_2
  exact read_of VS0_2 _ (stores15 c i' arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0' x0 x1 x2 x3 x4 x5 x6 x7 (k0_pay4 (F := Ideal)) (k0_pay5 (F := Ideal)) (k0_pay6 (F := Ideal)) (k0_pay7 (F := Ideal)) (View.read (Elt Ideal) (View.whole main_v65) fh0) (View.read (Elt Ideal) (View.whole main_v66) fh1) (k0_pay3 (F := Ideal)) fh0 fh1 h) (scover0_B_2 c i' arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0' x0 x1 x2 x3 x4 x5 x6 x7 (k0_pay4 (F := Ideal)) (k0_pay5 (F := Ideal)) (k0_pay6 (F := Ideal)) (k0_pay7 (F := Ideal)) (View.read (Elt Ideal) (View.whole main_v65) fh0) (View.read (Elt Ideal) (View.whole main_v66) fh1) (k0_pay3 (F := Ideal)) fh0 fh1) (first15 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 i' hc0')

theorem beginS0 : R3 (sout0_A_0 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1) K.wu := by
  have e : sout0_A_0 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 = View.read (Elt Ideal) (View.whole main_v65) fh0 := by
    unfold sout0_A_0
    rw [View.read_writes_junk_eq_canon]
    exact View.canon_unit_zero rfl _ _
  rw [e]; exact h.s0

theorem beginS1 : R2 (sout0_A_1 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1) K.wd := by
  have e : sout0_A_1 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 = View.read (Elt Ideal) (View.whole main_v66) fh1 := by
    unfold sout0_A_1
    rw [View.read_writes_junk_eq_canon]
    exact View.canon_unit_zero rfl _ _
  rw [e]; exact h.s1

theorem afterA : After K o (fun _ _ => 0) (fun _ _ => 0) (fun _ _ _ _ => 0) (fun _ _ _ => 0) (outsA c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1) := by
  unfold outsA
  exact After.of (begin8 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 i' hc0' h) (begin9 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 i' hc0' h) (begin10 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 i' hc0' h) (begin11 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 i' hc0' h) (begin12 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 i' hc0' h) (begin13 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 i' hc0' h) (begin14 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 i' hc0' h) (begin15 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 i' hc0' h) (beginS0 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 i' hc0' h) (beginS1 c i arg1 harg1 arg2 harg2 arg3 harg3 arg4 harg4 arg5 harg5 arg6 harg6 arg7 harg7 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 i' hc0' h)

end

end Cert.Mlp
-- ==== Proof.Points.lean ====
module

public import proofs.«01_k».proof.Proof.Run
public import proofs.«01_k».proof.Proof.After
public import Idealize.ShloMosaic.Lib.Pipeline.ValueKit

/-!
What every point of the grid leaves, by induction from the last rows to the first, and the arrays after the region.
-/

@[expose] public section

set_option maxRecDepth 16384

noncomputable section

namespace Cert.Mlp

open Cert.KernelIdeal Cert.KernelIdeal.Gen Idealize.ShloMosaic Idealize.ShloMosaic.TcCoe Idealize.ShloMosaic.Tactic

variable [Cert.KernelIdeal.Facts]

variable (m : (ℓ : Loc nD τ sig) → Buf (Elt Ideal) ℓ) (c : Dev nD)

/-- The arrays the region finds. -/
structure Entry (K : Data) : Prop where
  dxo : R2 (a := 8192) (b := 1024) (V m c main_arg0) K.dxo
  f : R2 (a := 8192) (b := 1024) (V m c main_v53) K.f
  x : R2 (a := 8192) (b := 1024) (V m c main_arg1) K.x
  u : R2 (a := 8192) (b := 5632) (V m c main_v57) K.u
  sp : R2 (a := 8192) (b := 5632) (V m c main_v62) K.sp
  g2 : R2 (a := 1) (b := 1024) (V m c main_v69) (fun _ j => K.g2 j)
  g3 : R2 (a := 1) (b := 1024) (V m c main_v70) (fun _ j => K.g3 j)
  cw : R3 (a := 4) (b := 3) (c := 1408) (V m c main_v68) K.cw
  wu : R3 (a := 4) (b := 1024) (c := 1408) (V m c main_v65) K.wu
  wd : R2 (a := 2816) (b := 1024) (V m c main_v66) K.wd

theorem rows_index : ∀ t : Fin grid0.N, win0_0.index t = ![31 - t.val, 0] ∧ win0_1.index t = ![31 - t.val, 0] ∧ win0_2.index t = ![31 - t.val, 0]
    ∧ win0_3.index t = ![31 - t.val, 0] ∧ win0_4.index t = ![31 - t.val, 0] ∧ win0_8.index t = ![31 - t.val, 0]
    ∧ win0_9.index t = ![31 - t.val, 0] ∧ win0_10.index t = ![31 - t.val, 0] := by decide +kernel

theorem whole_index : ∀ t : Fin grid0.N, win0_5.index t = ![0, 0] ∧ win0_6.index t = ![0, 0] ∧ win0_7.index t = ![0, 0, 0] := by decide +kernel

variable {m c} {K : Data} (E : Entry m c K)

include E

theorem block_dxo (t : Fin cfg0.N) : R2 (a := 256) (b := 1024) (iblk m c 0 t) (fun i j => K.dxo (256 * (31 - t.val) + i) j) := fun i j =>
  Eq.trans (by blk_ext [iblk, V, rows_index t]) (E.dxo ⟨256 * (31 - t.val) + i, by omega⟩ j)

theorem block_f (t : Fin cfg0.N) : R2 (a := 256) (b := 1024) (iblk m c 1 t) (fun i j => K.f (256 * (31 - t.val) + i) j) := fun i j =>
  Eq.trans (by blk_ext [iblk, V, rows_index t]) (E.f ⟨256 * (31 - t.val) + i, by omega⟩ j)

theorem block_x (t : Fin cfg0.N) : R2 (a := 256) (b := 1024) (iblk m c 2 t) (fun i j => K.x (256 * (31 - t.val) + i) j) := fun i j =>
  Eq.trans (by blk_ext [iblk, V, rows_index t]) (E.x ⟨256 * (31 - t.val) + i, by omega⟩ j)

theorem block_u (t : Fin cfg0.N) : R2 (a := 256) (b := 5632) (iblk m c 3 t) (fun i j => K.u (256 * (31 - t.val) + i) j) := fun i j =>
  Eq.trans (by blk_ext [iblk, V, rows_index t]) (E.u ⟨256 * (31 - t.val) + i, by omega⟩ j)

theorem block_sp (t : Fin cfg0.N) : R2 (a := 256) (b := 5632) (iblk m c 4 t) (fun i j => K.sp (256 * (31 - t.val) + i) j) := fun i j =>
  Eq.trans (by blk_ext [iblk, V, rows_index t]) (E.sp ⟨256 * (31 - t.val) + i, by omega⟩ j)

theorem block_g2 (t : Fin cfg0.N) : R2 (a := 1) (b := 1024) (iblk m c 5 t) (fun _ j => K.g2 j) := fun i j =>
  Eq.trans (by blk_ext [iblk, V, whole_index t]) (E.g2 i j)

theorem block_g3 (t : Fin cfg0.N) : R2 (a := 1) (b := 1024) (iblk m c 6 t) (fun _ j => K.g3 j) := fun i j =>
  Eq.trans (by blk_ext [iblk, V, whole_index t]) (E.g3 i j)

theorem block_cw (t : Fin cfg0.N) : R3 (a := 4) (b := 3) (c := 1408) (iblk m c 7 t) K.cw := fun i j k =>
  Eq.trans (by blk_ext [iblk, V, whole_index t]) (E.cw i j k)

theorem block (t : Fin cfg0.N) {xs0 xs1 xs2} (s0 : R3 xs0 K.wu) (s1 : R2 xs1 K.wd) (s2 : R3 xs2 (fun j r q => K.dc j (256 * (31 - t.val) + 256 + r) q)) :
    Block K (256 * (31 - t.val)) (iblk m c 0 t) (iblk m c 1 t) (iblk m c 2 t) (iblk m c 3 t) (iblk m c 4 t) (iblk m c 5 t) (iblk m c 6 t)
      (iblk m c 7 t) xs0 xs1 xs2 :=
  ⟨by omega, block_dxo E t, block_f E t, block_x E t, block_u E t, block_sp E t, block_g2 E t, block_g3 E t, block_cw E t, s0, s1, s2⟩

omit E in
/-- What the points before `n` have summed of `g` into lane `r`. -/
def summed (g : ℕ → ℝ) (n r : ℕ) : ℝ := ∑ s ∈ Finset.range n, ∑ x : Fin 32, g (256 * (31 - s) + (8 * x + r))

omit E in
theorem summed_succ (g : ℕ → ℝ) (n r : ℕ) : summed g n r + ∑ x : Fin 32, g (256 * (31 - n) + (8 * x + r)) = summed g (n + 1) r :=
  (Finset.sum_range_succ _ _).symm

/-- After point `n`. -/
def Reached (K : Data) (n : ℕ) (r : Outs Ideal) : Prop :=
  After K (256 * (31 - n)) (fun r j => summed (K.tg2 · j) n r) (fun r j => summed (K.tg3 · j) n r)
    (fun j k r q => summed (K.tcw j k · q) n r) (fun j r q => summed (K.dc j · q) n r) r

theorem reached_first (t : Fin cfg0.N) (h0 : t.val % 32 = 0) : Reached K t.val (stepA m c t h0) := by
  have hlt : t.val < 32 := t.isLt
  have ht : t.val = 0 := by omega
  have hb : Block K (256 * (31 - t.val)) (iblk m c 0 t) (iblk m c 1 t) (iblk m c 2 t) (iblk m c 3 t) (iblk m c 4 t) (iblk m c 5 t) (iblk m c 6 t)
      (iblk m c 7 t) (View.read (Elt Ideal) (View.whole main_v65) (V m c main_v65)) (View.read (Elt Ideal) (View.whole main_v66) (V m c main_v66))
      (k0_pay3 (F := Ideal)) := by
    refine block E t E.wu E.wd (zero3_R.of fun j r q _ _ _ => ?_)
    rw [Data.dc, if_neg (by omega)]
  have hz : ∀ g r, summed g t.val r = 0 := fun g r => by rw [ht, summed, Finset.range_zero, Finset.sum_empty]
  simp only [Reached, hz]
  unfold stepA
  exact afterA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (V m c main_v65) (V m c main_v66)
    (grid0.coords ⟨1, by decide⟩) (fun h => absurd ((hcond0_0 ⟨1, by decide⟩).mp h) (by decide)) hb

theorem reached_later (t : Fin cfg0.N) (h0 : ¬t.val % 32 = 0) (p : Outs Ideal) (hp : Reached K (t.val - 1) p) : Reached K t.val (stepB m c t h0 p) := by
  have hlt : t.val < 32 := t.isLt
  obtain ⟨n, hn⟩ : ∃ n, t.val = n + 1 := ⟨t.val - 1, by omega⟩
  have hn' : t.val - 1 = n := by omega
  rw [hn'] at hp
  have hb := block E t hp.s0 hp.s1 (xs2 := p.2.2.2.2.2.2.2.2.2) (hp.s2 ▸ fun j r q => by
    show ((K.dc j (256 * (31 - n) + r) q : ℝ) : EReal) = ((K.dc j (256 * (31 - t.val) + 256 + r) q : ℝ) : EReal)
    rw [show 256 * (31 - t.val) + 256 + (r : ℕ) = 256 * (31 - n) + r by omega])
  unfold stepB
  refine afterB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) p.2.2.2.1 p.2.2.2.2.1 p.2.2.2.2.2.1 p.2.2.2.2.2.2.1 p.2.2.2.2.2.2.2.1 p.2.2.2.2.2.2.2.2.1 p.2.2.2.2.2.2.2.2.2 (V m c main_v65) (V m c main_v66) hb ?_ ?_ ?_ ?_
  · rw [hp.dg2, hn]; exact fun r j => congrArg _ (summed_succ _ n r)
  · rw [hp.dg3, hn]; exact fun r j => congrArg _ (summed_succ _ n r)
  · rw [hp.dcw, hn]; exact fun j k r q => congrArg _ (summed_succ _ n r)
  · rw [hp.dcb, hn]; exact fun j r q => congrArg _ (summed_succ _ n r)

theorem reached : ∀ (n : ℕ) (hn : n < cfg0.N), Reached K n (outsAt0 m c n hn)
  | 0, hn => outsAt0_A m c ⟨0, hn⟩ rfl ▸ reached_first E ⟨0, hn⟩ rfl
  | n + 1, hn => by
    have hlt : n + 1 < 32 := hn
    have h0 : ¬(⟨n + 1, hn⟩ : Fin cfg0.N).val % 32 = 0 := by show ¬(n + 1) % 32 = 0; omega
    rw [outsAt0_B m c ⟨n + 1, hn⟩ h0]
    exact reached_later E ⟨n + 1, hn⟩ h0 _ (reached n (by omega))

end Cert.Mlp
-- ==== Proof.Arrays.lean ====
module

public import proofs.«01_k».proof.Proof.Points

/-!
The result arrays after the region.
-/

@[expose] public section

set_option maxRecDepth 16384

noncomputable section

namespace Cert.Mlp

open Cert.KernelIdeal Cert.KernelIdeal.Gen Idealize.ShloMosaic Idealize.ShloMosaic.TcCoe Idealize.ShloMosaic.Tactic

variable [Cert.KernelIdeal.Facts]

/-- The last point of the grid. -/
def lastPt : Fin grid0.N := ⟨31, by decide⟩

theorem last_whole : win0_11.WholeAt lastPt ∧ win0_12.WholeAt lastPt ∧ win0_13.WholeAt lastPt ∧ win0_14.WholeAt lastPt := by decide +kernel

variable {m : (ℓ : Loc nD τ sig) → Buf (Elt Ideal) ℓ} {c : Dev nD} {K : Data} (E : Entry m c K)

include E

theorem arr_dx : (dats m 0 c).arrAt 8 cfg0.N = G2 K.dx := by
  refine (dats m 0 c).arrAt_eq_of_covers 8 _ (by decide +kernel) fun t hf y => ?_
  blk_simp
  rw [after0_8, (reached E t.val t.isLt).dx]
  simp only [G2]
  blk_simp [rows_index t]
  rw [Nat.mul_comm 256]

theorem arr_du : (dats m 0 c).arrAt 9 cfg0.N = G2 K.duRow := by
  refine (dats m 0 c).arrAt_eq_of_covers 9 _ (by decide +kernel) fun t hf y => ?_
  blk_simp
  rw [after0_9, (reached E t.val t.isLt).du]
  simp only [G2]
  blk_simp [rows_index t]
  rw [Nat.mul_comm 256]

theorem arr_df : (dats m 0 c).arrAt 10 cfg0.N = G2 K.df := by
  refine (dats m 0 c).arrAt_eq_of_covers 10 _ (by decide +kernel) fun t hf y => ?_
  blk_simp
  rw [after0_10, (reached E t.val t.isLt).df]
  simp only [G2]
  blk_simp [rows_index t]
  rw [Nat.mul_comm 256]

theorem arr_dg2 : (dats m 0 c).arrAt 11 cfg0.N = G2 (fun r j => summed (K.tg2 · j) 32 r) := by
  refine (dats m 0 c).arrAt_eq_of_after_last 11 lastPt last_whole.1 _ fun j => ?_
  blk_simp
  rw [after0_11, (reached E _ _).dg2]
  simp only [G2, summed_succ]
  rfl

theorem arr_dg3 : (dats m 0 c).arrAt 12 cfg0.N = G2 (fun r j => summed (K.tg3 · j) 32 r) := by
  refine (dats m 0 c).arrAt_eq_of_after_last 12 lastPt last_whole.2.1 _ fun j => ?_
  blk_simp
  rw [after0_12, (reached E _ _).dg3]
  simp only [G2, summed_succ]
  rfl

theorem arr_dcw : (dats m 0 c).arrAt 13 cfg0.N = G4 (fun j k r q => summed (K.tcw j k · q) 32 r) := by
  refine (dats m 0 c).arrAt_eq_of_after_last 13 lastPt last_whole.2.2.1 _ fun j => ?_
  blk_simp
  rw [after0_13, (reached E _ _).dcw]
  simp only [G4, summed_succ]
  rfl

theorem arr_dcb : (dats m 0 c).arrAt 14 cfg0.N = G3 (fun j r q => summed (K.dc j · q) 32 r) := by
  refine (dats m 0 c).arrAt_eq_of_after_last 14 lastPt last_whole.2.2.2 _ fun j => ?_
  blk_simp
  rw [after0_14, (reached E _ _).dcb]
  simp only [G3, summed_succ]
  rfl

end Cert.Mlp
-- ==== Proof.Spec.lean ====
module

public import proofs.«01_k».proof.Proof.Data

/-!
The mathematics of the block in real numbers: the forward values and the gradients.
-/

@[expose] public section

noncomputable section

namespace Cert.Mlp

/-- The incoming gradient, the input and the weights. -/
structure Args where
  dxo : ℕ → ℕ → ℝ
  x : ℕ → ℕ → ℝ
  g2 : ℕ → ℝ
  g3 : ℕ → ℝ
  wup : ℕ → ℕ → ℝ
  cwt : ℕ → ℕ → ℝ
  cb : ℕ → ℝ
  wdn : ℕ → ℕ → ℝ

namespace Args

variable (A : Args)

def h (t d : ℕ) : ℝ := A.x t d * rs (A.x t) * A.g2 d

def u (t c : ℕ) : ℝ := ∑ d : Fin 1024, A.h t d * A.wup d c

/-- Two zero rows before the projected rows. -/
def up (t c : ℕ) : ℝ := if t < 2 then 0 else A.u (t - 2) c

def conv (t c : ℕ) : ℝ := A.cb c + A.up t c * A.cwt 0 c + A.up (t + 1) c * A.cwt 1 c + A.up (t + 2) c * A.cwt 2 c

def sg (t r : ℕ) : ℝ := (1 + Real.exp (-A.conv t r))⁻¹

def sil (t r : ℕ) : ℝ := A.conv t r * A.sg t r

def val (t r : ℕ) : ℝ := A.conv t (2816 + r)

def der (t r : ℕ) : ℝ := A.val t r * (A.sg t r + A.sil t r * (1 - A.sg t r))

def f (t j : ℕ) : ℝ := ∑ r : Fin 2816, A.sil t r * A.val t r * A.wdn r j

def df (t j : ℕ) : ℝ := rmsb (A.f t) (A.dxo t) A.g3 j

def da (t r : ℕ) : ℝ := ∑ k : Fin 1024, A.df t k * A.wdn r k

/-- The gradient of the convolution's result, -/
def dc (t c : ℕ) : ℝ := if c < 2816 then A.da t c * A.der t c else A.da t (c - 2816) * A.sil t (c - 2816)

/-- zero past the last row. -/
def dcz (t c : ℕ) : ℝ := if t < 8192 then A.dc t c else 0

def du (t c : ℕ) : ℝ := A.cwt 2 c * A.dcz t c + A.cwt 1 c * A.dcz (t + 1) c + A.cwt 0 c * A.dcz (t + 2) c

def dh (t d : ℕ) : ℝ := ∑ c : Fin 5632, A.du t c * A.wup d c

def dx (t j : ℕ) : ℝ := A.dxo t j + rmsb (A.x t) (A.dh t) A.g2 j

def dg2 (j : ℕ) : ℝ := ∑ t : Fin 8192, A.x t j * rs (A.x t) * A.dh t j

def dg3 (j : ℕ) : ℝ := ∑ t : Fin 8192, A.f t j * rs (A.f t) * A.dxo t j

def dcw (k c : ℕ) : ℝ := ∑ t : Fin 8192, A.up (t + k) c * A.dc t c

def dcb (c : ℕ) : ℝ := ∑ t : Fin 8192, A.dc t c

end Args

end Cert.Mlp
-- ==== Proof.Ref.lean ====
module

public import proofs.«01_k».proof.Proof.Spec
public import proofs.«01_k».proof.Proof.Gen.ReferenceIdeal.Read
public import Idealize.ShloMosaic.Lib.Pointwise

/-!
What the reference computes, operation by operation, as real numbers.
-/

@[expose] public section

set_option maxRecDepth 16384

noncomputable section

namespace Cert.Mlp

open Cert.ReferenceIdeal Cert.ReferenceIdeal.Gen Cert.ReferenceIdeal.Read Idealize.ShloMosaic Idealize.ShloMosaic.TcCoe

variable [Cert.ReferenceIdeal.Facts]

theorem bits_one : Ideal.ofBits .f32 0x3F800000#32 = ((1 : ℝ) : EReal) := by
  simp [Ideal.ofBits, Ideal.ieee, -EReal.coe_mul]; norm_num

theorem bits_zero : Ideal.ofBits .f32 0x00000000#32 = ((0 : ℝ) : EReal) := by
  simp [Ideal.ofBits, Ideal.ieee, -EReal.coe_mul]

structure IsArgs (A : Args) (x0 x1 : Vec Ideal S8192x1024 .f32) (x2 x3 : Vec Ideal S1024 .f32) (x4 : Vec Ideal S1024x5632 .f32)
    (x5 : Vec Ideal S3x5632 .f32) (x6 : Vec Ideal S5632 .f32) (x7 : Vec Ideal S2816x1024 .f32) : Prop where
  h0 : R2 x0 A.dxo
  h1 : R2 x1 A.x
  h2 : R1 x2 A.g2
  h3 : R1 x3 A.g3
  h4 : R2 x4 A.wup
  h5 : R2 x5 A.cwt
  h6 : R1 x6 A.cb
  h7 : R2 x7 A.wdn

section

variable {A : Args} {x0 x1 : Vec Ideal S8192x1024 .f32} {x2 x3 : Vec Ideal S1024 .f32} {x4 : Vec Ideal S1024x5632 .f32}
    {x5 : Vec Ideal S3x5632 .f32} {x6 : Vec Ideal S5632 .f32} {x7 : Vec Ideal S2816x1024 .f32}

theorem v6_R (h1 : R2 x1 A.x) : R2 (val_main_v6 (F := Ideal) x1) (fun t _ => (∑ k : Fin 1024, A.x t k * A.x t k) * (1 / 1024) + eps) := by
  intro t j
  pointwise [val_main_v6, val_main_v5, val_main_cst_1, val_main_v4, val_main_v3, val_main_cst_0, val_main_v2, val_main_v1, val_main_cst, val_main_v0]
  simp only [h1, bits_zero, bits_1024, bits_eps, ← EReal.coe_mul, coe_sum, div_1024, ← EReal.coe_add, zero_add]

theorem v7_R (h1 : R2 x1 A.x) : R2 (val_main_v7 (F := Ideal) x1) (fun t _ => rs (A.x t)) := by
  intro t j
  pointwise [val_main_v7]
  simp only [v6_R h1]
  exact rs_coe _

theorem v12_R (h1 : R2 x1 A.x) : R2 (val_main_v12 (F := Ideal) x1) (fun t j => A.x t j * rs (A.x t)) := by
  intro t j
  pointwise [val_main_v12, val_main_v11]
  simp only [h1, v7_R h1, ← EReal.coe_mul]

theorem v16_R (h1 : R2 x1 A.x) (h2 : R1 x2 A.g2) (h4 : R2 x4 A.wup) : R2 (val_main_v16 (F := Ideal) x1 x2 x4) A.u := by
  intro t c
  pointwise [val_main_v16, val_main_v15, val_main_v14, val_main_v13]
  simp only [v12_R h1, h2, h4, ← EReal.coe_mul, coe_sum]
  rfl

theorem v18_R (h1 : R2 x1 A.x) (h2 : R1 x2 A.g2) (h4 : R2 x4 A.wup) : R2 (val_main_v18 (F := Ideal) x1 x2 x4) A.up := by
  intro t c
  pointwise [val_main_v18, val_main_v17, val_main_cst_3]
  simp only [v16_R h1 h2 h4, bits_zero]
  unfold Args.up
  split
  · rfl
  · rfl

/-- The three-tap convolution over rows laid after two more. -/
def convOf (up : FVec Ideal S8194x5632 .f32) (w : FVec Ideal S3x5632 .f32) (b : FVec Ideal S5632 .f32) : FVec Ideal S8192x5632 .f32 :=
  addf (F := Ideal) (φ := .f32) (addf (φ := .f32) (addf (φ := .f32)
    (broadcastInDim S8192x5632 ![0, 1] bcast_S1x5632_S8192x5632_0_1 (broadcastInDim S1x5632 ![1] bcast_S5632_S1x5632_1 b))
    (mulf (φ := .f32) (extractStridedSlice S8192x5632 ![0, 0] up slices_S8194x5632_S8192x5632_0_0) (val_main_v24 (F := Ideal) w)))
    (mulf (φ := .f32) (extractStridedSlice S8192x5632 ![1, 0] up slices_S8194x5632_S8192x5632_1_0) (val_main_v33 (F := Ideal) w)))
    (mulf (φ := .f32) (extractStridedSlice S8192x5632 ![2, 0] up slices_S8194x5632_S8192x5632_2_0) (val_main_v40 (F := Ideal) w))

theorem convOf_R {up : FVec Ideal S8194x5632 .f32} (h : R2 up A.up) (h5 : R2 x5 A.cwt) (h6 : R1 x6 A.cb) : R2 (convOf up x5 x6) A.conv := by
  intro t c
  pointwise [convOf, val_main_v24, val_main_v23, val_main_v22, val_main_v21, val_main_v33, val_main_v32, val_main_v31, val_main_v30, val_main_v40,
    val_main_v39, val_main_v38, val_main_v37]
  simp only [h, h5, h6, ← EReal.coe_mul, ← EReal.coe_add, Nat.add_comm 1, Nat.add_comm 2]
  rfl

/-- The logistic function of every element. -/
def sgOf (g : FVec Ideal S8192x2816 .f32) : FVec Ideal S8192x2816 .f32 :=
  Host.divf (F := Ideal) (φ := .f32) (val_main_call0_v4 (F := Ideal)) (addf (φ := .f32) (val_main_call0_v2 (F := Ideal))
    (Host.exp (φ := .f32) (Host.negf (φ := .f32) g)))

theorem sgOf_R {g : FVec Ideal S8192x2816 .f32} (h : R2 g A.conv) : R2 (sgOf g) A.sg := by
  intro t r
  pointwise [sgOf, val_main_call0_v4, val_main_call0_cst_0, val_main_call0_v2, val_main_call0_cst]
  simp only [h]
  have hp : (1 : ℝ) + Real.exp (-A.conv t r) ≠ 0 := by positivity
  rw [← EReal.coe_neg, Ideal.exp_coe, ← EReal.coe_one, ← EReal.coe_add, Ideal.div_coe hp, ← EReal.coe_mul, one_mul, one_div]
  rfl

theorem gateOf_R {v : FVec Ideal S8192x5632 .f32} (h : R2 v A.conv) :
    R2 (extractStridedSlice S8192x2816 ![0, 0] v slices_S8192x5632_S8192x2816_0_0) A.conv := by
  intro t r
  pointwise
  simp only [h]

theorem valOf_R {v : FVec Ideal S8192x5632 .f32} (h : R2 v A.conv) :
    R2 (extractStridedSlice S8192x2816 ![0, 2816] v slices_S8192x5632_S8192x2816_0_2816) A.val := by
  intro t r
  pointwise
  simp only [h]
  rfl

theorem fOf_R {s v : FVec Ideal S8192x2816 .f32} (hs : R2 s A.sil) (hv : R2 v A.val) (h7 : R2 x7 A.wdn) :
    R2 (Host.dotGeneral (F := Ideal) (φ₁ := .f32) (φ₂ := .f32) dot_S8192x2816_S2816x1024_S8192x1024_1_0_0_1_n_n none (mulf (φ := .f32) s v) x7) A.f := by
  intro t j
  pointwise
  simp only [hs, hv, h7, ← EReal.coe_mul, coe_sum]
  rfl

variable (h : IsArgs A x0 x1 x2 x3 x4 x5 x6 x7)

include h

theorem v42_R : R2 (val_main_v42 (F := Ideal) x1 x2 x4 x5 x6) A.conv :=
  convOf_R (v18_R h.h1 h.h2 h.h4) h.h5 h.h6

theorem v43_R : R2 (val_main_v43 (F := Ideal) x1 x2 x4 x5 x6) A.conv := gateOf_R (v42_R h)

theorem v44_R : R2 (val_main_v44 (F := Ideal) x1 x2 x4 x5 x6) A.val := valOf_R (v42_R h)

theorem v45_2_R : R2 (val_main_v45_2 (F := Ideal) x1 x2 x4 x5 x6) A.sg := sgOf_R (v43_R h)

theorem v45_1_R : R2 (val_main_v45_1 (F := Ideal) x1 x2 x4 x5 x6) (fun t r => A.sg t r * (1 - A.sg t r)) := by
  intro t r
  pointwise [val_main_v45_1, val_main_call0_v7, val_main_call0_v6, val_main_call0_cst_1]
  simp only [v45_2_R h, ← EReal.coe_one, ← EReal.coe_mul, ← EReal.coe_sub]

theorem v45_0_R : R2 (val_main_v45_0 (F := Ideal) x1 x2 x4 x5 x6) A.sil := by
  intro t r
  pointwise [val_main_v45_0]
  simp only [v43_R h, v45_2_R h, ← EReal.coe_mul]
  rfl

theorem v47_R : R2 (val_main_v47 (F := Ideal) x1 x2 x4 x5 x6 x7) A.f := fOf_R (v45_0_R h) (v44_R h) h.h7

theorem v54_R : R2 (val_main_v54 (F := Ideal) x1 x2 x4 x5 x6 x7) (fun t _ => (∑ k : Fin 1024, A.f t k * A.f t k) * (1 / 1024) + eps) := by
  intro t j
  pointwise [val_main_v54, val_main_v53, val_main_cst_7, val_main_v52, val_main_v51, val_main_cst_6, val_main_v50, val_main_v49, val_main_cst_5, val_main_v48]
  simp only [v47_R h, bits_zero, bits_1024, bits_eps, ← EReal.coe_mul, coe_sum, div_1024, ← EReal.coe_add, zero_add]

theorem v55_R : R2 (val_main_v55 (F := Ideal) x1 x2 x4 x5 x6 x7) (fun t _ => rs (A.f t)) := by
  intro t j
  pointwise [val_main_v55]
  simp only [v54_R h]
  exact rs_coe _

omit h in
/-- What the rule for a reciprocal root multiplies by: half the cube of the reciprocal root, with the minus sign. -/
theorem halfcube (y : ℕ → ℝ) : ((-(1 / 2) : ℝ) : EReal) * Ideal.div ((rs y : ℝ) : EReal)
    (((∑ k : Fin 1024, y k * y k) * (1 / 1024) + eps : ℝ) : EReal) = ((-(1 / 2) * (rs y * rs y * rs y) : ℝ) : EReal) := by
  have hp := ms_pos y
  have he : rs y * rs y = 1 / ((∑ k : Fin 1024, y k * y k) * (1 / 1024) + eps) := by
    rw [rs, ← mul_inv, Real.mul_self_sqrt hp.le, inv_eq_one_div]
  rw [Ideal.div_coe hp.ne', ← EReal.coe_mul, ← EReal.coe_mul, ← he]
  congr 1
  ring

theorem v58_R : R2 (val_main_v58 (F := Ideal) x1 x2 x4 x5 x6 x7) (fun t _ => -(1 / 2) * (rs (A.f t) * rs (A.f t) * rs (A.f t))) := by
  intro t j
  pointwise [val_main_v58, val_main_v57, val_main_cst_8, val_main_v56]
  simp only [v54_R h, v55_R h, bits_neghalf]
  exact halfcube _

theorem v60_R : R2 (val_main_v60 (F := Ideal) x1 x2 x4 x5 x6 x7) (fun t j => A.f t j * rs (A.f t)) := by
  intro t j
  pointwise [val_main_v60, val_main_v59]
  simp only [v47_R h, v55_R h, ← EReal.coe_mul]

theorem v69_R : R1 (val_main_v69 (F := Ideal) x0 x1 x2 x4 x5 x6 x7) A.dg3 := by
  intro j
  pointwise [val_main_v69, val_main_cst_10, val_main_v66, val_main_v65, val_main_cst_9, val_main_v64]
  simp only [v60_R h, h.h0, bits_zero, ← EReal.coe_mul, coe_sum, ← EReal.coe_add, zero_add, Finset.univ_unique, Finset.sum_singleton]
  rfl

theorem v68_R : R2 (val_main_v68 (F := Ideal) x0 x3) (fun t j => A.dxo t j * A.g3 j) := by
  intro t j
  pointwise [val_main_v68, val_main_v67, val_main_v61]
  simp only [h.h0, h.h3, ← EReal.coe_mul]

theorem v79_R : R2 (val_main_v79 (F := Ideal) x0 x1 x2 x3 x4 x5 x6 x7)
    (fun t _ => (∑ k : Fin 1024, A.f t k * (A.dxo t k * A.g3 k)) * (-(1 / 2) * (rs (A.f t) * rs (A.f t) * rs (A.f t))) * (1 / 1024)) := by
  intro t j
  pointwise [val_main_v79, val_main_v78, val_main_cst_13, val_main_v77, val_main_v76, val_main_cst_12, val_main_v75, val_main_v72, val_main_v71,
    val_main_cst_11, val_main_v70]
  simp only [v47_R h, v68_R h, v58_R h, bits_zero, bits_1024, ← EReal.coe_mul, coe_sum, ← EReal.coe_add, zero_add, div_1024, Finset.univ_unique, Finset.sum_singleton]

omit h in
theorem rms_vjp (y dy g : ℕ → ℝ) (j : ℕ) : dy j * g j * rs y
      + y j * ((∑ k : Fin 1024, y k * (dy k * g k)) * (-(1 / 2) * (rs y * rs y * rs y)) * (1 / 1024))
      + (∑ k : Fin 1024, y k * (dy k * g k)) * (-(1 / 2) * (rs y * rs y * rs y)) * (1 / 1024) * y j = rmsb y dy g j := by
  unfold rmsb
  rw [show (∑ k : Fin 1024, dy k * g k * (y k * rs y)) = (∑ k : Fin 1024, y k * (dy k * g k)) * rs y from by
    rw [Finset.sum_mul]; exact Finset.sum_congr rfl fun k _ => by ring]
  ring

theorem v83_R : R2 (val_main_v83 (F := Ideal) x0 x1 x2 x3 x4 x5 x6 x7) A.df := by
  intro t j
  pointwise [val_main_v83, val_main_v82, val_main_v81, val_main_v80, val_main_v74, val_main_v73]
  simp only [v47_R h, v68_R h, v55_R h, v79_R h, ← EReal.coe_mul, ← EReal.coe_add, rms_vjp]
  rfl

theorem v84_R : R2 (val_main_v84 (F := Ideal) x0 x1 x2 x3 x4 x5 x6 x7) A.da := by
  intro t r
  pointwise [val_main_v84]
  simp only [v83_R h, h.h7, ← EReal.coe_mul, coe_sum]
  rfl

theorem v85_R : R2 (val_main_v85 (F := Ideal) x0 x1 x2 x3 x4 x5 x6 x7) (fun t r => A.da t r * A.sil t r) := by
  intro t r
  pointwise [val_main_v85]
  simp only [v84_R h, v45_0_R h, ← EReal.coe_mul, mul_comm]

theorem v87_R : R2 (val_main_v87 (F := Ideal) x0 x1 x2 x3 x4 x5 x6 x7) (fun t r => A.da t r * A.der t r) := by
  intro t r
  pointwise [val_main_v87, val_main_call1_v2, val_main_call1_v1, val_main_call1_v0, val_main_v86]
  simp only [v84_R h, v44_R h, v43_R h, v45_1_R h, v45_2_R h, ← EReal.coe_mul, ← EReal.coe_add, Args.der, Args.sil]
  congr 1
  ring

theorem v88_R : R2 (val_main_v88 (F := Ideal) x0 x1 x2 x3 x4 x5 x6 x7) A.dc := by
  intro t c
  pointwise [val_main_v88]
  simp only [v87_R h, v85_R h]
  unfold Args.dc
  split
  · rfl
  · rfl

theorem v20_R : R2 (val_main_v20 (F := Ideal) x1 x2 x4) A.up := by
  intro t c
  pointwise [val_main_v20]
  simp only [v18_R h.h1 h.h2 h.h4]

theorem v29_R : R2 (val_main_v29 (F := Ideal) x1 x2 x4) (fun t c => A.up (t + 1) c) := by
  intro t c
  pointwise [val_main_v29]
  simp only [v18_R h.h1 h.h2 h.h4, Nat.add_comm 1]

theorem v36_R : R2 (val_main_v36 (F := Ideal) x1 x2 x4) (fun t c => A.up (t + 2) c) := by
  intro t c
  pointwise [val_main_v36]
  simp only [v18_R h.h1 h.h2 h.h4, Nat.add_comm 2]

theorem v94_R : R1 (val_main_v94 (F := Ideal) x0 x1 x2 x3 x4 x5 x6 x7) (A.dcw 2) := by
  intro c
  pointwise [val_main_v94, val_main_cst_15, val_main_v91, val_main_v90, val_main_cst_14, val_main_v89]
  simp only [v36_R h, v88_R h, bits_zero, ← EReal.coe_mul, coe_sum, ← EReal.coe_add, zero_add, Finset.univ_unique, Finset.sum_singleton]
  rfl

theorem v103_R : R1 (val_main_v103 (F := Ideal) x0 x1 x2 x3 x4 x5 x6 x7) (A.dcw 1) := by
  intro c
  pointwise [val_main_v103, val_main_cst_19, val_main_v100, val_main_v99, val_main_cst_18, val_main_v98]
  simp only [v29_R h, v88_R h, bits_zero, ← EReal.coe_mul, coe_sum, ← EReal.coe_add, zero_add, Finset.univ_unique, Finset.sum_singleton]
  rfl

theorem v117_R : R1 (val_main_v117 (F := Ideal) x0 x1 x2 x3 x4 x5 x6 x7) (A.dcw 0) := by
  intro c
  pointwise [val_main_v117, val_main_cst_25, val_main_v114, val_main_v113, val_main_cst_24, val_main_v112]
  simp only [v20_R h, v88_R h, bits_zero, ← EReal.coe_mul, coe_sum, ← EReal.coe_add, zero_add, Finset.univ_unique, Finset.sum_singleton]
  rfl

theorem v111_R : R1 (val_main_v111 (F := Ideal) x0 x1 x2 x3 x4 x5 x6 x7) A.dcb := by
  intro c
  pointwise [val_main_v111, val_main_cst_23, val_main_v110, val_main_v109, val_main_cst_22]
  simp only [v88_R h, bits_zero, coe_sum, ← EReal.coe_add, zero_add, Finset.univ_unique, Finset.sum_singleton]
  rfl

theorem v120_R : R2 (val_main_v120 (F := Ideal) x0 x1 x2 x3 x4 x5 x6 x7) A.dcw := by
  intro k c
  pointwise [val_main_v120, val_main_v119, val_main_cst_26, val_main_v118, val_main_v106, val_main_v105, val_main_cst_20, val_main_v104, val_main_v96,
    val_main_cst_16, val_main_v95]
  simp only [v94_R h, v103_R h, v117_R h, bits_zero]
  fin_cases k <;> simp

theorem v124_R : R2 (val_main_v124 (F := Ideal) x0 x1 x2 x3 x4 x5 x6 x7) A.du := by
  intro t c
  pointwise [val_main_v124, val_main_v122, val_main_v121, val_main_cst_27, val_main_v116, val_main_v115, val_main_v23, val_main_v22, val_main_v21,
    val_main_v108, val_main_v107, val_main_cst_21, val_main_v102, val_main_v101, val_main_v32, val_main_v31, val_main_v30, val_main_v97, val_main_cst_17,
    val_main_v93, val_main_v92, val_main_v39, val_main_v38, val_main_v37]
  simp only [v88_R h, h.h5, bits_zero, ← EReal.coe_mul]
  have h1 : (1 ≤ 2 + t.val ∧ t.val + 1 < 8192) ↔ t.val + 1 < 8192 := by omega
  have e1 : 2 + t.val - 1 = t.val + 1 := by omega
  simp only [dite_eq_ite, e1, h1]
  rw [Nat.add_comm 2]
  have z (p : Prop) [Decidable p] (a b : ℝ) : (if p then ((b * a : ℝ) : EReal) else 0) = ((a * if p then b else 0 : ℝ) : EReal) := by
    split
    · rw [mul_comm]
    · rw [mul_zero, EReal.coe_zero]
  rw [z, z, ← EReal.coe_add, ← EReal.coe_add, mul_comm]
  unfold Args.du Args.dcz
  rw [if_pos t.isLt]
  rfl

theorem v125_R : R2 (val_main_v125 (F := Ideal) x0 x1 x2 x3 x4 x5 x6 x7) A.dh := by
  intro t d
  pointwise [val_main_v125]
  simp only [v124_R h, h.h4, ← EReal.coe_mul, coe_sum]
  rfl

theorem v131_R : R1 (val_main_v131 (F := Ideal) x0 x1 x2 x3 x4 x5 x6 x7) A.dg2 := by
  intro j
  pointwise [val_main_v131, val_main_cst_29, val_main_v128, val_main_v127, val_main_cst_28, val_main_v126]
  simp only [v12_R h.h1, v125_R h, bits_zero, ← EReal.coe_mul, coe_sum, ← EReal.coe_add, zero_add, Finset.univ_unique, Finset.sum_singleton]
  rfl

theorem v130_R : R2 (val_main_v130 (F := Ideal) x0 x1 x2 x3 x4 x5 x6 x7) (fun t j => A.dh t j * A.g2 j) := by
  intro t j
  pointwise [val_main_v130, val_main_v129, val_main_v13]
  simp only [v125_R h, h.h2, ← EReal.coe_mul]

theorem v10_R : R2 (val_main_v10 (F := Ideal) x1) (fun t _ => -(1 / 2) * (rs (A.x t) * rs (A.x t) * rs (A.x t))) := by
  intro t j
  pointwise [val_main_v10, val_main_v9, val_main_cst_2, val_main_v8]
  simp only [v6_R h.h1, v7_R h.h1, bits_neghalf]
  exact halfcube _

theorem v141_R : R2 (val_main_v141 (F := Ideal) x0 x1 x2 x3 x4 x5 x6 x7)
    (fun t _ => (∑ k : Fin 1024, A.x t k * (A.dh t k * A.g2 k)) * (-(1 / 2) * (rs (A.x t) * rs (A.x t) * rs (A.x t))) * (1 / 1024)) := by
  intro t j
  pointwise [val_main_v141, val_main_v140, val_main_cst_32, val_main_v139, val_main_v138, val_main_cst_31, val_main_v137, val_main_v134, val_main_v133,
    val_main_cst_30, val_main_v132]
  simp only [h.h1, v130_R h, v10_R h, bits_zero, bits_1024, ← EReal.coe_mul, coe_sum, ← EReal.coe_add, zero_add, div_1024, Finset.univ_unique, Finset.sum_singleton]

theorem v146_R : R2 (val_main_v146 (F := Ideal) x0 x1 x2 x3 x4 x5 x6 x7) A.dx := by
  intro t j
  pointwise [val_main_v146, val_main_v145, val_main_v144, val_main_v143, val_main_v142, val_main_v136, val_main_v135]
  simp only [h.h0, h.h1, v130_R h, v7_R h.h1, v141_R h, ← EReal.coe_mul, ← EReal.coe_add, rms_vjp]
  rfl

theorem v147_R : R2 (val_main_v147 (F := Ideal) x0 x1 x2 x3 x4 x5 x6 x7) A.du := by
  intro t c
  pointwise [val_main_v147]
  simp only [v124_R h]

theorem v148_R : R2 (val_main_v148 (F := Ideal) x0 x1 x2 x3 x4 x5 x6 x7) A.df := by
  intro t j
  pointwise [val_main_v148]
  simp only [v83_R h]

end

end Cert.Mlp
-- ==== Proof.Layout.lean ====
module

public import proofs.«01_k».proof.Proof.Spec

/-!
The layouts the host lines put around the region: the columns cut into four shards and put in the order the region
reads them in, the two factors side by side, and the sums over the last eight rows.
-/

@[expose] public section

set_option maxRecDepth 16384

noncomputable section

namespace Cert.Mlp

open Cert.KernelIdeal Cert.KernelIdeal.Gen Idealize.ShloMosaic

variable [Cert.KernelIdeal.Facts]

/-- The column that lies at `c` in the region's order; the order is its own inverse. -/
def intc (c : ℕ) : ℕ := 1408 * (2 * (c / 1408 % 2) + c / 1408 / 2) + c % 1408

/-- The columns in the region's order. -/
def inter {φ : FTy} (v : FVec Ideal S8192x5632 φ) : FVec Ideal S8192x5632 φ :=
  shapeCast S8192x5632 (transpose S8192x2x2x1408 [0, 2, 1, 3] (shapeCast S8192x2x2x1408 v shapeCasts_S8192x5632_S8192x2x2x1408)
    transposes_S8192x2x2x1408_S8192x2x2x1408_0_2_1_3) shapeCasts_S8192x2x2x1408_S8192x5632

theorem inter_R {φ : FTy} {v : FVec Ideal S8192x5632 φ} {X : ℕ → ℕ → ℝ} (h : R2 v X) : R2 (inter v) (fun t c => X t (intc c)) := by
  intro t c
  pointwise [inter]
  refine (h _ _).trans (congrArg (fun n => ((X t n : ℝ) : EReal)) ?_)
  show c.val / 1408 % 2 * 2816 + c.val / 2816 * 1408 + c.val % 1408 = intc c
  unfold intc
  omega

/-- Two factors side by side. -/
def pair (a b : FVec Ideal S8192x2816 .f32) : FVec Ideal S8192x5632 .f32 :=
  concatenate S8192x5632 1 [⟨S8192x2816, a⟩, ⟨S8192x2816, b⟩] concatenates_S8192x2816_S8192x2816_S8192x5632_d1

theorem pair_R {a b : FVec Ideal S8192x2816 .f32} {X Y : ℕ → ℕ → ℝ} (ha : R2 a X) (hb : R2 b Y) :
    R2 (pair a b) (fun t c => if c < 2816 then X t c else Y t (c - 2816)) := by
  intro t c
  pointwise [pair]
  split
  · exact ha _ _
  · exact hb _ _

theorem narrow_R {a b : ℕ} {v : FVec Ideal ⟨2, ![a, b]⟩ .f32} {X : ℕ → ℕ → ℝ} (h : R2 v X) : R2 (truncf .bf16 v bitsLt_bf16_f32) X := h

/-- The shards of the up projection. -/
def shardsU (v : FVec Ideal S1024x5632 .f32) : FVec Ideal S4x1024x1408 .bf16 :=
  truncf .bf16 (transpose S4x1024x1408 [1, 0, 2] (shapeCast S1024x4x1408 v shapeCasts_S1024x5632_S1024x4x1408)
    transposes_S1024x4x1408_S4x1024x1408_1_0_2) bitsLt_bf16_f32

theorem shardsU_R {v : FVec Ideal S1024x5632 .f32} {X : ℕ → ℕ → ℝ} (h : R2 v X) : R3 (shardsU v) (fun j d q => X d (1408 * j + q)) := by
  intro j d q
  pointwise [shardsU]
  rw [Nat.mul_comm 1408]
  exact h _ _

/-- The shards of the taps. -/
def shardsW (v : FVec Ideal S3x5632 .f32) : FVec Ideal S4x3x1408 .f32 :=
  transpose S4x3x1408 [1, 0, 2] (shapeCast S3x4x1408 v shapeCasts_S3x5632_S3x4x1408) transposes_S3x4x1408_S4x3x1408_1_0_2

theorem shardsW_R {v : FVec Ideal S3x5632 .f32} {X : ℕ → ℕ → ℝ} (h : R2 v X) : R3 (shardsW v) (fun j k q => X k (1408 * j + q)) := by
  intro j k q
  pointwise [shardsW]
  rw [Nat.mul_comm 1408]
  exact h _ _

theorem row_R {v : FVec Ideal S1024 .f32} {X : ℕ → ℝ} (h : R1 v X) : R2 (shapeCast S1x1024 v shapeCasts_S1024_S1x1024) (fun _ j => X j) := by
  intro i j
  pointwise
  exact h _

/-- The sum of eight rows, -/
def sum8 (v : FVec Ideal S8x1024 .f32) : FVec Ideal S1024 .f32 :=
  Host.reduceAdd v (constant S_ .f32 0x00000000#32) reducesTo_S8x1024_S1024_d0 h_S_

theorem sum8_R {v : FVec Ideal S8x1024 .f32} {X : ℕ → ℕ → ℝ} (h : R2 v X) : R1 (sum8 v) (fun j => ∑ r : Fin 8, X r j) := by
  intro j
  pointwise [sum8]
  simp only [h, coe_sum]

/-- of each tap's eight rows, the shards side by side, -/
def sumW (v : FVec Ideal S4x3x8x1408 .f32) : FVec Ideal S3x5632 .f32 :=
  shapeCast S3x5632 (transpose S3x4x1408 [1, 0, 2] (Host.reduceAdd (F := Ideal) v (constant S_ .f32 0x00000000#32) reducesTo_S4x3x8x1408_S4x3x1408_d2 h_S_)
    transposes_S4x3x1408_S3x4x1408_1_0_2) shapeCasts_S3x4x1408_S3x5632

theorem sumW_R {v : FVec Ideal S4x3x8x1408 .f32} {X : ℕ → ℕ → ℕ → ℕ → ℝ} (h : R4 v X) :
    R2 (sumW v) (fun k c => ∑ r : Fin 8, X (c / 1408) k r (c % 1408)) := by
  intro k c
  pointwise [sumW]
  simp only [h, coe_sum]

/-- and of the bias's. -/
def sumB (v : FVec Ideal S4x8x1408 .f32) : FVec Ideal S5632 .f32 :=
  shapeCast S5632 (Host.reduceAdd (F := Ideal) v (constant S_ .f32 0x00000000#32) reducesTo_S4x8x1408_S4x1408_d1 h_S_) shapeCasts_S4x1408_S5632

theorem sumB_R {v : FVec Ideal S4x8x1408 .f32} {X : ℕ → ℕ → ℕ → ℝ} (h : R3 v X) :
    R1 (sumB v) (fun c => ∑ r : Fin 8, X (c / 1408) r (c % 1408)) := by
  intro c
  pointwise [sumB]
  simp only [h, coe_sum]

end Cert.Mlp
-- ==== Proof.Link.lean ====
module

public import proofs.«01_k».proof.Proof.Layout
public import proofs.«01_k».proof.Proof.Points

/-!
The shards' sums are the whole sums: the region's values over the arguments' layout are the block's gradients.
-/

@[expose] public section

set_option maxRecDepth 16384

noncomputable section

namespace Cert.Mlp

/-- The rows and weights the region reads, from the arguments. -/
def Args.data (A : Args) : Data where
  dxo := A.dxo
  f := A.f
  x := A.x
  u t c := A.u t (intc c)
  sp t c := if intc c < 2816 then A.sil t (intc c) else A.der t (intc c - 2816)
  g2 := A.g2
  g3 := A.g3
  cw j k q := A.cwt k (1408 * j + q)
  wu j d q := A.wup d (1408 * j + q)
  wd := A.wdn

theorem sum_rows (g : ℕ → ℝ) : (∑ r : Fin 8, ∑ s ∈ Finset.range 32, ∑ x : Fin 32, g (256 * (31 - s) + (8 * x + r))) = ∑ t : Fin 8192, g t := by
  have e (r : Fin 8) : (∑ s ∈ Finset.range 32, ∑ x : Fin 32, g (256 * (31 - s) + (8 * x + r))) = ∑ s ∈ Finset.range 32, ∑ x : Fin 32, g (256 * s + (8 * x + r)) := by
    rw [← Finset.sum_range_reflect]
    refine Finset.sum_congr rfl fun s hs => Finset.sum_congr rfl fun x _ => ?_
    have := Finset.mem_range.mp hs
    congr 1
    omega
  rw [Finset.sum_congr rfl fun r _ => e r, Finset.sum_comm]
  have b (s : ℕ) : (∑ r : Fin 8, ∑ x : Fin 32, g (256 * s + (8 * x + r))) = ∑ y ∈ Finset.range 256, g (256 * s + y) := by
    rw [Finset.sum_comm, show (256 : ℕ) = 32 * 8 from rfl, Finset.sum_range_mul_split]
    simp only [Finset.sum_range, mul_comm (8 : ℕ)]
  rw [Finset.sum_congr rfl fun s _ => b s, ← Finset.sum_range (fun t => g t), show (8192 : ℕ) = 32 * 256 from rfl, Finset.sum_range_mul_split]
  simp only [mul_comm (256 : ℕ)]

theorem sum_shards (g : ℕ → ℝ) : (∑ c : Fin 5632, g c) = ∑ j : Fin 4, ∑ q : Fin 1408, g (1408 * j + q) := by
  rw [← Finset.sum_range, show (5632 : ℕ) = 4 * 1408 from rfl, Finset.sum_range_mul_split]
  simp only [Finset.sum_range, mul_comm (1408 : ℕ)]

variable (A : Args)

theorem data_df (t j : ℕ) : A.data.df t j = A.df t j := rfl

theorem uc_intc (j q : ℕ) (hj : j < 4) (hq : q < 1408) : intc (uc j + q) = 1408 * j + q := by
  unfold intc uc
  interval_cases j <;> omega

theorem intc_intc (c : ℕ) (hc : c < 5632) : intc (intc c) = c := by
  unfold intc
  omega

theorem data_dc (j t q : ℕ) (hj : j < 4) (hq : q < 1408) : A.data.dc j t q = A.dcz t (1408 * j + q) := by
  unfold Data.dc Args.dcz Args.dc Args.da
  have hs : intc (sc j + q) = if j < 2 then 2816 + (1408 * j + q) else 1408 * (j - 2) + q := by
    unfold intc sc
    interval_cases j <;> simp <;> omega
  have hk : kc j + q = if j < 2 then 1408 * j + q else 1408 * (j - 2) + q := by
    unfold kc
    interval_cases j <;> simp
  simp only [data_df]
  show (if t < 8192 then (∑ k : Fin 1024, A.df t k * A.wdn (kc j + q) k) * (if intc (sc j + q) < 2816 then A.sil t (intc (sc j + q)) else A.der t (intc (sc j + q) - 2816)) else 0) = _
  rw [hs, hk]
  by_cases ht : t < 8192
  swap
  · rw [if_neg ht, if_neg ht]
  rw [if_pos ht, if_pos ht]
  by_cases h2 : j < 2
  · rw [if_pos h2, if_pos h2, if_neg (by omega), if_pos (by omega), Nat.add_sub_cancel_left]
  · rw [if_neg h2, if_neg h2, if_pos (by omega), if_neg (by omega), show 1408 * j + q - 2816 = 1408 * (j - 2) + q by omega]

theorem data_du (j t q : ℕ) (hj : j < 4) (hq : q < 1408) : A.data.du j t q = A.du t (1408 * j + q) := by
  unfold Data.du Args.du
  rw [data_dc A j t q hj hq, data_dc A j _ q hj hq, data_dc A j _ q hj hq]
  rfl

theorem data_duRow (t c : ℕ) (hc : c < 5632) : A.data.duRow t (intc c) = A.du t c := by
  unfold Data.duRow
  rw [data_du A _ _ _ (by unfold intc; omega) (by omega)]
  congr 1
  unfold intc
  omega

theorem data_dh (t d : ℕ) : A.data.dh t d = A.dh t d := by
  unfold Data.dh Args.dh
  rw [sum_shards fun c => A.du t c * A.wup d c, Fin.sum_univ_four]
  have e (j : ℕ) (hj : j < 4) : (∑ q : Fin 1408, A.data.du j t q * A.data.wu j d q) = ∑ q : Fin 1408, A.du t (1408 * j + q) * A.wup d (1408 * j + q) :=
    Finset.sum_congr rfl fun q _ => by rw [data_du A j t q hj q.isLt]; rfl
  rw [e 0 (by omega), e 1 (by omega), e 2 (by omega), e 3 (by omega)]
  show _ = (∑ q : Fin 1408, A.du t (1408 * 0 + q) * A.wup d (1408 * 0 + q)) + (∑ q : Fin 1408, A.du t (1408 * 1 + q) * A.wup d (1408 * 1 + q))
    + (∑ q : Fin 1408, A.du t (1408 * 2 + q) * A.wup d (1408 * 2 + q)) + (∑ q : Fin 1408, A.du t (1408 * 3 + q) * A.wup d (1408 * 3 + q))
  ring

theorem data_dx (t j : ℕ) : A.data.dx t j = A.dx t j := by
  unfold Data.dx Args.dx
  rw [show A.data.dh t = A.dh t from funext fun d => data_dh A t d]
  rfl

theorem data_dg2 (j : ℕ) : (∑ r : Fin 8, summed (fun t => A.data.tg2 t j) 32 r) = A.dg2 j := by
  unfold summed Args.dg2
  rw [sum_rows fun t => A.data.tg2 t j]
  refine Finset.sum_congr rfl fun t _ => ?_
  unfold Data.tg2
  rw [data_dh, mul_comm]
  rfl

theorem data_dg3 (j : ℕ) : (∑ r : Fin 8, summed (fun t => A.data.tg3 t j) 32 r) = A.dg3 j := by
  unfold summed Args.dg3
  rw [sum_rows fun t => A.data.tg3 t j]
  refine Finset.sum_congr rfl fun t _ => ?_
  unfold Data.tg3
  rw [mul_comm]
  rfl

theorem data_dcb (c : ℕ) (hc : c < 5632) : (∑ r : Fin 8, summed (fun t => A.data.dc (c / 1408) t (c % 1408)) 32 r) = A.dcb c := by
  unfold summed Args.dcb
  rw [sum_rows fun t => A.data.dc (c / 1408) t (c % 1408)]
  refine Finset.sum_congr rfl fun t _ => ?_
  rw [data_dc A _ _ _ (by omega) (by omega), Nat.div_add_mod, Args.dcz, if_pos t.isLt]

theorem data_dcw (k c : ℕ) (hk : k < 3) (hc : c < 5632) :
    (∑ r : Fin 8, summed (fun t => A.data.tcw (c / 1408) k t (c % 1408)) 32 r) = A.dcw k c := by
  unfold summed Args.dcw
  rw [sum_rows fun t => A.data.tcw (c / 1408) k t (c % 1408)]
  have e (t : ℕ) : A.data.tcw (c / 1408) k t (c % 1408) = A.dcz (t + (2 - k)) c * A.u t c := by
    unfold Data.tcw
    rw [data_dc A _ _ _ (by omega) (by omega), Nat.div_add_mod]
    show _ * A.u t (intc (uc (c / 1408) + c % 1408)) = _
    rw [uc_intc _ _ (by omega) (by omega), Nat.div_add_mod]
  simp only [e]
  rw [← Finset.sum_range (fun t => A.dcz (t + (2 - k)) c * A.u t c), ← Finset.sum_range (fun t => A.up (t + k) c * A.dc t c)]
  obtain ⟨d, n, hd, hn⟩ : ∃ d n, d = 2 - k ∧ 8192 = n + d := ⟨2 - k, 8192 - (2 - k), rfl, by omega⟩
  rw [← hd, hn, Finset.sum_range_add, Nat.add_comm n d, Finset.sum_range_add,
    Finset.sum_eq_zero (s := Finset.range d) (f := fun x => A.dcz (n + x + d) c * A.u (n + x) c) fun x _ => by
      rw [Args.dcz, if_neg (by omega), zero_mul],
    Finset.sum_eq_zero (s := Finset.range d) (f := fun x => A.up (x + k) c * A.dc x c) fun x hx => by
      have := Finset.mem_range.mp hx
      rw [Args.up, if_pos (by omega), zero_mul],
    add_zero, zero_add]
  refine Finset.sum_congr rfl fun x hx => ?_
  have := Finset.mem_range.mp hx
  rw [Args.dcz, if_pos (by omega), Args.up, if_neg (by omega), show d + x + k - 2 = x by omega, mul_comm, Nat.add_comm d x]

end Cert.Mlp
-- ==== Proof.Host.lean ====
module

public import proofs.«01_k».proof.Proof.Points
public import proofs.«01_k».proof.Proof.Ref
public import proofs.«01_k».proof.Proof.Link

/-!
What the host lines before the region leave, as real numbers.
-/

@[expose] public section

set_option maxRecDepth 16384

noncomputable section

namespace Cert.Mlp

open Cert.KernelIdeal Cert.KernelIdeal.Gen Idealize.ShloMosaic Idealize.ShloMosaic.TcCoe Idealize.ShloMosaic.Tactic

variable [Cert.KernelIdeal.Facts] [Cert.ReferenceIdeal.Facts]

variable (m : (ℓ : Loc nD τ sig) → Buf (Elt Ideal) ℓ) (c : Dev nD)

section

/-! The host lines, each in terms of what it reads. -/

theorem V_split (n : ℕ) (b : Ref sig .tc) :
    V m c b = StableHlo.after ((List.flatten [hostOps0, hostOps0_1, hostOps0_2]).drop n)
      (StableHlo.after ((List.flatten [hostOps0, hostOps0_1, hostOps0_2]).take n) fun b => m (c, b)) b := by
  rw [← StableHlo.after_append, List.take_append_drop]

theorem host_u : V m c main_v13 = Cert.ReferenceIdeal.Read.val_main_v16 (F := Ideal) (m ⟨c, main_arg1⟩) (m ⟨c, main_arg2⟩) (m ⟨c, main_arg4⟩) := rfl

theorem host_up : V m c main_v14 = pad S8194x5632 ![2, 0] ![0, 0] ![0, 0] (V m c main_v13) (sitofp (F := Ideal) .f32 (constantI S_ 32 0#32))
    pads_S8192x5632_S8194x5632_200_000 h_S_ := by
  rw [V_split m c 17 main_v14, V_split m c 17 main_v13]
  generalize StableHlo.after (List.take 17 _) _ = W
  rfl

theorem host_conv : V m c main_v37 = convOf (V m c main_v14) (m ⟨c, main_arg5⟩) (m ⟨c, main_arg6⟩) := by
  have e5 : m ⟨c, main_arg5⟩ = V m c main_arg5 := (V_main_arg5 m c).symm
  have e6 : m ⟨c, main_arg6⟩ = V m c main_arg6 := (V_main_arg6 m c).symm
  rw [e5, e6, V_split m c 20 main_v37, V_split m c 20 main_v14, V_split m c 20 main_arg5, V_split m c 20 main_arg6]
  generalize StableHlo.after (List.take 20 _) _ = W
  rfl

theorem host_gate : V m c main_v38 = extractStridedSlice S8192x2816 ![0, 0] (V m c main_v37) slices_S8192x5632_S8192x2816_0_0 := by
  rw [V_split m c 43 main_v38, V_split m c 43 main_v37]
  generalize StableHlo.after (List.take 43 _) _ = W
  rfl

theorem host_val : V m c main_v39 = extractStridedSlice S8192x2816 ![0, 2816] (V m c main_v37) slices_S8192x5632_S8192x2816_0_2816 := by
  rw [V_split m c 44 main_v39, V_split m c 44 main_v37]
  generalize StableHlo.after (List.take 44 _) _ = W
  rfl

theorem host_sg : V m c main_v45 = sgOf (V m c main_v38) := by
  rw [V_split m c 45 main_v45, V_split m c 45 main_v38]
  generalize StableHlo.after (List.take 45 _) _ = W
  rfl

theorem host_sil : V m c main_v46 = mulf (F := Ideal) (φ := .f32) (V m c main_v38) (V m c main_v45) := by
  rw [V_split m c 53 main_v46, V_split m c 53 main_v38, V_split m c 53 main_v45]
  generalize StableHlo.after (List.take 53 _) _ = W
  rfl

/-- What multiplies the derivative of the gate. -/
def derOf (val sg sil : FVec Ideal S8192x2816 .f32) : FVec Ideal S8192x2816 .f32 :=
  mulf val (addf sg (mulf sil (subf (broadcastInDim S8192x2816 ![] bcast_S_S8192x2816 (constant S_ .f32 0x3F800000#32)) sg)))

theorem host_der : V m c main_v51 = derOf (V m c main_v39) (V m c main_v45) (V m c main_v46) := by
  rw [V_split m c 54 main_v51, V_split m c 54 main_v39, V_split m c 54 main_v45, V_split m c 54 main_v46]
  generalize StableHlo.after (List.take 54 _) _ = W
  rfl

theorem host_f : V m c main_v53 = Host.dotGeneral (F := Ideal) (φ₁ := .f32) (φ₂ := .f32) dot_S8192x2816_S2816x1024_S8192x1024_1_0_0_1_n_n none
    (mulf (φ := .f32) (V m c main_v46) (V m c main_v39)) (m ⟨c, main_arg7⟩) := by
  have e7 : m ⟨c, main_arg7⟩ = V m c main_arg7 := (V_main_arg7 m c).symm
  rw [e7, V_split m c 60 main_v53, V_split m c 60 main_v46, V_split m c 60 main_v39, V_split m c 60 main_arg7]
  generalize StableHlo.after (List.take 60 _) _ = W
  rfl

theorem host_ui : V m c main_v57 = truncf (F := Ideal) .bf16 (inter (φ := .f32) (V m c main_v13)) bitsLt_bf16_f32 := by
  rw [V_split m c 62 main_v57, V_split m c 62 main_v13]
  generalize StableHlo.after (List.take 62 _) _ = W
  rfl

theorem host_sp : V m c main_v62 = truncf (F := Ideal) .bf16 (inter (pair (V m c main_v46) (V m c main_v51))) bitsLt_bf16_f32 := by
  rw [V_split m c 66 main_v62, V_split m c 66 main_v46, V_split m c 66 main_v51]
  generalize StableHlo.after (List.take 66 _) _ = W
  rfl

theorem host_wu : V m c main_v65 = shardsU (m ⟨c, main_arg4⟩) := rfl

theorem host_wd : V m c main_v66 = truncf (F := Ideal) (φ := .f32) .bf16 (m ⟨c, main_arg7⟩) bitsLt_bf16_f32 := rfl

theorem host_cw : V m c main_v68 = shardsW (m ⟨c, main_arg5⟩) := rfl

theorem host_g2 : V m c main_v69 = shapeCast S1x1024 (m ⟨c, main_arg2⟩) shapeCasts_S1024_S1x1024 := rfl

theorem host_g3 : V m c main_v70 = shapeCast S1x1024 (m ⟨c, main_arg3⟩) shapeCasts_S1024_S1x1024 := rfl

end

theorem derOf_R {A : Args} {val sg sil : FVec Ideal S8192x2816 .f32} (hv : R2 val A.val) (hg : R2 sg A.sg) (hs : R2 sil A.sil) :
    R2 (derOf val sg sil) A.der := by
  intro t r
  pointwise [derOf]
  simp only [hv, hg, hs, ← EReal.coe_one, ← EReal.coe_mul, ← EReal.coe_sub, ← EReal.coe_add]
  rfl

theorem padded_R {A : Args} {v : FVec Ideal S8192x5632 .f32} (h : R2 v A.u) :
    R2 (pad S8194x5632 ![2, 0] ![0, 0] ![0, 0] v (sitofp (F := Ideal) .f32 (constantI S_ 32 0#32)) pads_S8192x5632_S8194x5632_200_000 h_S_) A.up := by
  intro t c
  pointwise
  unfold Args.up
  split
  · rename_i e
    rw [if_neg (by omega)]
    exact h _ _
  · rename_i e
    rw [if_pos (by omega)]
    simp [FloatOps.sitofp]

theorem entry {A : Args} (h : IsArgs A (m ⟨c, main_arg0⟩) (m ⟨c, main_arg1⟩) (m ⟨c, main_arg2⟩) (m ⟨c, main_arg3⟩) (m ⟨c, main_arg4⟩) (m ⟨c, main_arg5⟩)
    (m ⟨c, main_arg6⟩) (m ⟨c, main_arg7⟩)) : Entry m c A.data := by
  have u : R2 (a := 8192) (b := 5632) (V m c main_v13) A.u := by
    rw [host_u]
    exact v16_R h.h1 h.h2 h.h4
  have up : R2 (a := 8194) (b := 5632) (V m c main_v14) A.up := by
    rw [host_up]
    exact padded_R u
  have cv : R2 (a := 8192) (b := 5632) (V m c main_v37) A.conv := by
    rw [host_conv]
    exact convOf_R up h.h5 h.h6
  have gt : R2 (a := 8192) (b := 2816) (V m c main_v38) A.conv := by
    rw [host_gate]
    exact gateOf_R cv
  have vl : R2 (a := 8192) (b := 2816) (V m c main_v39) A.val := by
    rw [host_val]
    exact valOf_R cv
  have sg : R2 (a := 8192) (b := 2816) (V m c main_v45) A.sg := by
    rw [host_sg]
    exact sgOf_R gt
  have sl : R2 (a := 8192) (b := 2816) (V m c main_v46) A.sil := by
    rw [host_sil]
    intro t r
    pointwise
    simp only [gt, sg, ← EReal.coe_mul]
    rfl
  have dr : R2 (a := 8192) (b := 2816) (V m c main_v51) A.der := by
    rw [host_der]
    exact derOf_R vl sg sl
  refine ⟨?_, ?_, ?_, ?_, ?_, ?_, ?_, ?_, ?_, ?_⟩
  · rw [V_main_arg0]
    exact h.h0
  · rw [host_f]
    exact fOf_R sl vl h.h7
  · rw [V_main_arg1]
    exact h.h1
  · rw [host_ui]
    exact narrow_R (inter_R u)
  · rw [host_sp]
    exact narrow_R (inter_R (pair_R sl dr))
  · rw [host_g2]
    exact row_R h.h2
  · rw [host_g3]
    exact row_R h.h3
  · rw [host_cw]
    exact shardsW_R h.h5
  · rw [host_wu]
    exact shardsU_R h.h4
  · rw [host_wd]
    exact narrow_R h.h7

end Cert.Mlp
-- ==== Proof.Results.lean ====
module

public import proofs.«01_k».proof.Proof.Arrays
public import proofs.«01_k».proof.Proof.Host

/-!
The kernel's seven results: the region's arrays through the lines after it.
-/

@[expose] public section

set_option maxRecDepth 16384

noncomputable section

namespace Cert.Mlp

open Cert.KernelIdeal Cert.KernelIdeal.Gen Idealize.ShloMosaic Idealize.ShloMosaic.TcCoe Idealize.SL.Sem

/-! The lines after the region, over any contents. -/

variable (W : Valuation τ sig (Elt Ideal))

theorem tail_du : StableHlo.after hostOps1 W (Proc.devRef .tc main_v74) = inter (φ := .bf16) (W (Proc.devRef .tc main_v71_1)) := rfl

theorem tail_dg2 : StableHlo.after hostOps1 W (Proc.devRef .tc main_v75) = sum8 (W (Proc.devRef .tc main_v71_3)) := rfl

theorem tail_dg3 : StableHlo.after hostOps1 W (Proc.devRef .tc main_v76) = sum8 (W (Proc.devRef .tc main_v71_4)) := rfl

theorem tail_dcw : StableHlo.after hostOps1 W (Proc.devRef .tc main_v79) = sumW (W (Proc.devRef .tc main_v71_5)) := rfl

theorem tail_dcb : StableHlo.after hostOps1 W (Proc.devRef .tc main_v81) = sumB (W (Proc.devRef .tc main_v71_6)) := rfl

variable {m : (ℓ : Loc nD τ sig) → Buf (Elt Ideal) ℓ} {c : Dev nD} {A : Args} {s : MemSt nD τ sig (Elt Ideal)}

/-- What the lines after the region start from. -/
theorem arrays_at (w : Fin 15) :
    Pipeline.withArrays spec0 c (V0 m c) (fun w => (dats m 0 c).arrAt w cfg0.N) (Proc.devRef .tc (Pipeline.arrRef spec0 w)) = (dats m 0 c).arrAt w cfg0.N :=
  Pipeline.withArrays_arr spec0 (by decide) c _ _ w

/-- The memory `s` holds the block's gradients as the kernel returns them. -/
structure Holds (A : Args) (c : Dev nD) (s : MemSt nD τ sig (Elt Ideal)) : Prop where
  dx : R2 (a := 8192) (b := 1024) (s.mem ⟨c, main_v71_0⟩) A.dx
  du : R2 (a := 8192) (b := 5632) (s.mem ⟨c, main_v74⟩) A.du
  df : R2 (a := 8192) (b := 1024) (s.mem ⟨c, main_v71_2⟩) A.df
  dg2 : R1 (a := 1024) (s.mem ⟨c, main_v75⟩) A.dg2
  dg3 : R1 (a := 1024) (s.mem ⟨c, main_v76⟩) A.dg3
  dcw : R2 (a := 3) (b := 5632) (s.mem ⟨c, main_v79⟩) A.dcw
  dcb : R1 (a := 5632) (s.mem ⟨c, main_v81⟩) A.dcb

theorem rest_R1 {a : ℕ} {v w : (⟨1, ![a]⟩ : Shape).Idx → EReal} {X : ℕ → ℝ} (e : v = w) (h : R1 w X) : R1 v X := e ▸ h

theorem rest_R2 {a b : ℕ} {v w : (⟨2, ![a, b]⟩ : Shape).Idx → EReal} {X : ℕ → ℕ → ℝ} (e : v = w) (h : R2 w X) : R2 v X := e ▸ h

variable (h : IsArgs A (m ⟨c, main_arg0⟩) (m ⟨c, main_arg1⟩) (m ⟨c, main_arg2⟩) (m ⟨c, main_arg3⟩) (m ⟨c, main_arg4⟩) (m ⟨c, main_arg5⟩)
  (m ⟨c, main_arg6⟩) (m ⟨c, main_arg7⟩))

include h

theorem tail_du_R : R2 (a := 8192) (b := 5632) (Pipeline.afterTail₀ cfgs (dats m) 0 (V0 m) [hostOps1] c main_v74) A.du := by
  have e : Pipeline.afterTail₀ cfgs (dats m) 0 (V0 m) [hostOps1] c main_v74 = inter (φ := .bf16) (G2 A.data.duRow) :=
    (tail_du _).trans (congrArg inter ((arrays_at 9).trans (arr_du (entry m c h))))
  intro t q
  rw [e]
  exact (inter_R (X := A.data.duRow) (fun _ _ => rfl) t q).trans (congrArg Real.toEReal (data_duRow A _ _ q.isLt))

theorem tail_dg2_R : R1 (a := 1024) (Pipeline.afterTail₀ cfgs (dats m) 0 (V0 m) [hostOps1] c main_v75) A.dg2 := by
  have e : Pipeline.afterTail₀ cfgs (dats m) 0 (V0 m) [hostOps1] c main_v75 = sum8 (G2 fun r j => summed (A.data.tg2 · j) 32 r) :=
    (tail_dg2 _).trans (congrArg sum8 ((arrays_at 11).trans (arr_dg2 (entry m c h))))
  intro j
  rw [e]
  exact (sum8_R (X := fun r j => summed (A.data.tg2 · j) 32 r) (fun _ _ => rfl) j).trans (congrArg Real.toEReal (data_dg2 A j))

theorem tail_dg3_R : R1 (a := 1024) (Pipeline.afterTail₀ cfgs (dats m) 0 (V0 m) [hostOps1] c main_v76) A.dg3 := by
  have e : Pipeline.afterTail₀ cfgs (dats m) 0 (V0 m) [hostOps1] c main_v76 = sum8 (G2 fun r j => summed (A.data.tg3 · j) 32 r) :=
    (tail_dg3 _).trans (congrArg sum8 ((arrays_at 12).trans (arr_dg3 (entry m c h))))
  intro j
  rw [e]
  exact (sum8_R (X := fun r j => summed (A.data.tg3 · j) 32 r) (fun _ _ => rfl) j).trans (congrArg Real.toEReal (data_dg3 A j))

theorem tail_dcw_R : R2 (a := 3) (b := 5632) (Pipeline.afterTail₀ cfgs (dats m) 0 (V0 m) [hostOps1] c main_v79) A.dcw := by
  have e : Pipeline.afterTail₀ cfgs (dats m) 0 (V0 m) [hostOps1] c main_v79 = sumW (G4 fun j k r q => summed (A.data.tcw j k · q) 32 r) :=
    (tail_dcw _).trans (congrArg sumW ((arrays_at 13).trans (arr_dcw (entry m c h))))
  intro k q
  rw [e]
  exact (sumW_R (X := fun j k r q => summed (A.data.tcw j k · q) 32 r) (fun _ _ _ _ => rfl) k q).trans (congrArg Real.toEReal (data_dcw A _ _ k.isLt q.isLt))

theorem tail_dcb_R : R1 (a := 5632) (Pipeline.afterTail₀ cfgs (dats m) 0 (V0 m) [hostOps1] c main_v81) A.dcb := by
  have e : Pipeline.afterTail₀ cfgs (dats m) 0 (V0 m) [hostOps1] c main_v81 = sumB (G3 fun j r q => summed (A.data.dc j · q) 32 r) :=
    (tail_dcb _).trans (congrArg sumB ((arrays_at 14).trans (arr_dcb (entry m c h))))
  intro q
  rw [e]
  exact (sumB_R (X := fun j r q => summed (A.data.dc j · q) 32 r) (fun _ _ _ => rfl) q).trans (congrArg Real.toEReal (data_dcb A _ q.isLt))

/-- After the region and the lines that follow it, the gradients are where the kernel returns them. -/
theorem holds {r : PUnit × MemSt nD τ sig (Elt Ideal)}
    (hr : Pipeline.FramePost cfgs (dats m) 0 (Pipeline.afterTail₀ cfgs (dats m) 0 (V0 m) [hostOps1]) r) : Holds A c r.2 where
  dx := fun t j => (congrFun (((hr c).1 8).trans (arr_dx (entry m c h))) _).trans (congrArg Real.toEReal (data_dx A t j))
  du := rest_R2 ((hr c).2 main_v74 (Pipeline.mem_restRefs_of main_v74 (by decide) (by decide))) (tail_du_R h)
  df := fun t j => congrFun (((hr c).1 10).trans (arr_df (entry m c h))) _
  dg2 := rest_R1 ((hr c).2 main_v75 (Pipeline.mem_restRefs_of main_v75 (by decide) (by decide))) (tail_dg2_R h)
  dg3 := rest_R1 ((hr c).2 main_v76 (Pipeline.mem_restRefs_of main_v76 (by decide) (by decide))) (tail_dg3_R h)
  dcw := rest_R2 ((hr c).2 main_v79 (Pipeline.mem_restRefs_of main_v79 (by decide) (by decide))) (tail_dcw_R h)
  dcb := rest_R1 ((hr c).2 main_v81 (Pipeline.mem_restRefs_of main_v81 (by decide) (by decide))) (tail_dcb_R h)

end Cert.Mlp
-- ==== Proof.Finite.lean ====
module

public import proofs.«01_k».proof.Defs
public import proofs.«01_k».proof.Proof.Ref
public import Idealize.ShloMosaic.Lib.ReduceAll

/-!
Finite arguments are real arrays.
-/

@[expose] public section

set_option maxRecDepth 16384

noncomputable section

namespace Cert.Mlp

open Idealize.ShloMosaic

instance preFacts : Cert.Pre_finite.Facts where
  bcast_S_S8192x1024 := by decide
  reducesTo_S8192x1024_S_d0_1 := by decide
  h_S_ := by decide
  bcast_S_S1024 := by decide
  reducesTo_S1024_S_d0 := by decide
  bcast_S_S1024x5632 := by decide
  reducesTo_S1024x5632_S_d0_1 := by decide
  bcast_S_S3x5632 := by decide
  reducesTo_S3x5632_S_d0_1 := by decide
  bcast_S_S5632 := by decide
  reducesTo_S5632_S_d0 := by decide
  bcast_S_S2816x1024 := by decide
  reducesTo_S2816x1024_S_d0_1 := by decide

/-- The entries of `x` are all smaller than infinity in absolute value. -/
def Below {s : Shape} (x : FVec Ideal s .f32) : Prop := ∀ i, x i = (((x i).toReal : ℝ) : EReal)

theorem bits_inf : Ideal.ofBits .f32 0x7F800000#32 = (⊤ : EReal) := by
  simp [Ideal.ofBits, Ideal.ieee]

/-- The one index of a scalar. -/
def one : Cert.Pre_finite.S_.Idx := fun a => a.elim0

theorem only (i j : Cert.Pre_finite.S_.Idx) : i = j := funext fun a => a.elim0

theorem below {s : Shape} {axes : List (Fin s.rank)} (x : FVec Ideal s .f32) (hb : Cert.Pre_finite.S_.BroadcastsInDim s (![] : Fin 0 → Fin s.rank))
    (hr : s.ReducesTo axes Cert.Pre_finite.S_) (hu : 0 < Cert.Pre_finite.S_.numel) (j : Cert.Pre_finite.S_.Idx)
    (e : Host.reduce IntOp.andi (cmpf .olt (Host.absf x) (broadcastInDim s ![] hb (constant Cert.Pre_finite.S_ .f32 0x7F800000#32)))
      (constantI Cert.Pre_finite.S_ 1 1#1) hr hu j = 1#1) : Below x := by
  intro i
  haveI : Subsingleton Cert.Pre_finite.S_.Idx := ⟨only⟩
  have h := Host.reduce_andi_all _ _ _ _ _ e i
  change Ideal.cmp .olt (max (x i) (-(x i))) (Ideal.ofBits .f32 0x7F800000#32) = 1#1 at h
  rw [bits_inf] at h
  generalize x i = y at h
  induction y using EReal.rec with
  | bot => simp [Ideal.cmp] at h
  | top => simp [Ideal.cmp] at h
  | coe y => rfl

open Cert.Pre_finite.Facts in
theorem below_args {x0 x1 : FVec Ideal Cert.Pre_finite.S8192x1024 .f32} {x2 x3 : FVec Ideal Cert.Pre_finite.S1024 .f32}
    {x4 : FVec Ideal Cert.Pre_finite.S1024x5632 .f32} {x5 : FVec Ideal Cert.Pre_finite.S3x5632 .f32} {x6 : FVec Ideal Cert.Pre_finite.S5632 .f32}
    {x7 : FVec Ideal Cert.Pre_finite.S2816x1024 .f32} (h : Cert.Pre_finite.fn (F := Ideal) x0 x1 x2 x3 x4 x5 x6 x7 = fun _ => 1#1) :
    Below x0 ∧ Below x1 ∧ Below x2 ∧ Below x3 ∧ Below x4 ∧ Below x5 ∧ Below x6 ∧ Below x7 := by
  have e := congrFun h one
  simp only [Cert.Pre_finite.fn, Cert.Pre_finite.fn_part1, Cert.Pre_finite.fn_part2, andi, IntOp.andi_eq_one] at e
  obtain ⟨⟨⟨⟨⟨⟨⟨e0, e1⟩, e2⟩, e3⟩, e4⟩, e5⟩, e6⟩, e7⟩ := e
  exact ⟨below x0 _ reducesTo_S8192x1024_S_d0_1 h_S_ one e0, below x1 _ reducesTo_S8192x1024_S_d0_1 h_S_ one e1,
    below x2 _ reducesTo_S1024_S_d0 h_S_ one e2, below x3 _ reducesTo_S1024_S_d0 h_S_ one e3, below x4 _ reducesTo_S1024x5632_S_d0_1 h_S_ one e4,
    below x5 _ reducesTo_S3x5632_S_d0_1 h_S_ one e5, below x6 _ reducesTo_S5632_S_d0 h_S_ one e6, below x7 _ reducesTo_S2816x1024_S_d0_1 h_S_ one e7⟩

/-! The real arrays. -/

def of1 {a : ℕ} (v : (⟨1, ![a]⟩ : Shape).Idx → EReal) (i : ℕ) : ℝ := if h : i < a then (v (ix1 ⟨i, h⟩)).toReal else 0

def of2 {a b : ℕ} (v : (⟨2, ![a, b]⟩ : Shape).Idx → EReal) (i j : ℕ) : ℝ :=
  if h : i < a ∧ j < b then (v (ix2 ⟨i, h.1⟩ ⟨j, h.2⟩)).toReal else 0

theorem of1_R {a : ℕ} {v : FVec Ideal ⟨1, ![a]⟩ .f32} (h : Below v) : R1 v (of1 v) := fun i => by
  rw [of1, dif_pos i.isLt]
  exact h _

theorem of2_R {a b : ℕ} {v : FVec Ideal ⟨2, ![a, b]⟩ .f32} (h : Below v) : R2 v (of2 v) := fun i j => by
  rw [of2, dif_pos ⟨i.isLt, j.isLt⟩]
  exact h _

theorem isArgs {x0 x1 : Vec Ideal Cert.Pre_finite.S8192x1024 .f32} {x2 x3 : Vec Ideal Cert.Pre_finite.S1024 .f32}
    {x4 : Vec Ideal Cert.Pre_finite.S1024x5632 .f32} {x5 : Vec Ideal Cert.Pre_finite.S3x5632 .f32} {x6 : Vec Ideal Cert.Pre_finite.S5632 .f32}
    {x7 : Vec Ideal Cert.Pre_finite.S2816x1024 .f32} (h : Cert.Pre_finite.fn (F := Ideal) x0 x1 x2 x3 x4 x5 x6 x7 = fun _ => 1#1) :
    IsArgs ⟨of2 x0, of2 x1, of1 x2, of1 x3, of2 x4, of2 x5, of1 x6, of2 x7⟩ x0 x1 x2 x3 x4 x5 x6 x7 :=
  have ⟨b0, b1, b2, b3, b4, b5, b6, b7⟩ := below_args h
  ⟨of2_R b0, of2_R b1, of1_R b2, of1_R b3, of2_R b4, of2_R b5, of1_R b6, of2_R b7⟩

end Cert.Mlp
-- ==== Proof.Claims.lean ====
module

public import proofs.«01_k».proof.Defs
public import proofs.«01_k».proof.Proof.Results
public import proofs.«01_k».proof.Proof.Finite
public import proofs.«01_k».proof.Proof.Gen.ReferenceIdeal.Run

/-!
The claims, one by one.
-/

@[expose] public section

set_option maxRecDepth 16384

noncomputable section

namespace Cert.Mlp

open Idealize.ShloMosaic Idealize.ShloMosaic.TcCoe Idealize.SL.Sem

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono
    (fun r h => ⟨fun c => (h c).2.2.2.2.2.2.2, sem_eq_zero_of_no_sems rfl r.2⟩) (Cert.ReferenceIdeal.Value.run m ρ)

/-! Two arrays that hold the same real numbers are equal. -/

theorem eq_of_R1 {a : ℕ} {v w : (⟨1, ![a]⟩ : Shape).Idx → EReal} {X : ℕ → ℝ} (hv : R1 v X) (hw : R1 w X) : v = w :=
  funext fun i => by rw [eq_ix1 i]; exact (hv _).trans (hw _).symm

theorem eq_of_R2 {a b : ℕ} {v w : (⟨2, ![a, b]⟩ : Shape).Idx → EReal} {X : ℕ → ℕ → ℝ} (hv : R2 v X) (hw : R2 w X) : v = w :=
  funext fun i => by rw [eq_ix2 i]; exact (hv _ _).trans (hw _ _).symm

section

open Cert.KernelIdeal Cert.ReferenceIdeal.Read

variable {A : Args} {c : Dev nD} {s : MemSt nD τ sig (Elt Ideal)} (k : Holds A c s)
  {x0 x1 : Vec Ideal S8192x1024 .f32} {x2 x3 : Vec Ideal S1024 .f32} {x4 : Vec Ideal S1024x5632 .f32} {x5 : Vec Ideal S3x5632 .f32}
  {x6 : Vec Ideal S5632 .f32} {x7 : Vec Ideal S2816x1024 .f32} (h : IsArgs A x0 x1 x2 x3 x4 x5 x6 x7)

include k h

/-- The kernel returns what the reference computes. -/
theorem returns :
    s.mem ⟨c, main_v71_0⟩ = val_main_v146 (F := Ideal) x0 x1 x2 x3 x4 x5 x6 x7 ∧ s.mem ⟨c, main_v74⟩ = val_main_v147 (F := Ideal) x0 x1 x2 x3 x4 x5 x6 x7
    ∧ s.mem ⟨c, main_v71_2⟩ = val_main_v148 (F := Ideal) x0 x1 x2 x3 x4 x5 x6 x7 ∧ s.mem ⟨c, main_v75⟩ = val_main_v131 (F := Ideal) x0 x1 x2 x3 x4 x5 x6 x7
    ∧ s.mem ⟨c, main_v76⟩ = val_main_v69 (F := Ideal) x0 x1 x2 x4 x5 x6 x7 ∧ s.mem ⟨c, main_v79⟩ = val_main_v120 (F := Ideal) x0 x1 x2 x3 x4 x5 x6 x7
    ∧ s.mem ⟨c, main_v81⟩ = val_main_v111 (F := Ideal) x0 x1 x2 x3 x4 x5 x6 x7 :=
  ⟨eq_of_R2 k.dx (v146_R h), eq_of_R2 k.du (v147_R h), eq_of_R2 k.df (v148_R h), eq_of_R1 k.dg2 (v131_R h), eq_of_R1 k.dg3 (v69_R h),
    eq_of_R2 k.dcw (v120_R h), eq_of_R1 k.dcb (v111_R h)⟩

end

theorem and_assoc7 {a b c d e f g p : Prop} (h : a ∧ b ∧ c ∧ d ∧ e ∧ f ∧ g) (k : p) : a ∧ b ∧ c ∧ d ∧ e ∧ f ∧ g ∧ p :=
  ⟨h.1, h.2.1, h.2.2.1, h.2.2.2.1, h.2.2.2.2.1, h.2.2.2.2.2.1, h.2.2.2.2.2.2, k⟩

open Cert.ReferenceIdeal.Read in
/-- On finite arguments the kernel and the reference return the same arrays. -/
theorem same : Cert.algebraic_KernelIdeal_ReferenceIdeal_pre_finite := by
  intro m ρ m' ρ' pre agree
  refine ⟨_, _, _, _, _, _, _, (θ_run Cert.KernelIdeal.defs _ _).mono
    (fun r h c => and_assoc7 (returns (holds (isArgs (pre c)) h.1) (isArgs (pre c))) (h.2 c))
    (θ_run_and (Cert.KernelIdeal.Gen.run_main (F := Ideal) m ρ) (Cert.KernelIdeal.Gen.unchanged (F := Ideal) m ρ)),
    (θ_run Cert.ReferenceIdeal.defs _ _).mono (fun r h c => ?_) (Cert.ReferenceIdeal.Value.run m' ρ')⟩
  have e := h c
  rw [val_main_v146_eq, val_main_v147_eq, val_main_v148_eq, val_main_v131_eq, val_main_v69_eq, val_main_v120_eq, val_main_v111_eq] at e
  obtain ⟨a0, a1, a2, a3, a4, a5, a6, a7⟩ := agree c
  simp only [← a0, ← a1, ← a2, ← a3, ← a4, ← a5, ← a6, ← a7]
  exact e

end Cert.Mlp
-- ==== Proof.Grad.lean ====
module

public import Idealize.ShloMosaic.Lib.Pipeline.ValueKit
public import Idealize.ShloMosaic.Lib.Pointwise
public import Idealize.ShloMosaic.PureOps.Ideal.Laws

/-!
The gradient of a projection's weights: the products of the layer's input and of the gradient of its output, summed
over the rows. What the four programs say has the same two sums in it, over a tile's rows and over all of them.
-/

@[expose] public section

noncomputable section

namespace Cert.Grad

open Idealize.ShloMosaic

/-- One step's products, summed over the rows of its two tiles. -/
def tile {n a b : Nat} (X : (⟨2, ![n, a]⟩ : Shape).Idx → EReal) (Y : (⟨2, ![n, b]⟩ : Shape).Idx → EReal) (y : (⟨3, ![1, a, b]⟩ : Shape).Idx) : EReal :=
  ∑ k : Fin n, X (ix2 k (y 1)) * Y (ix2 k (y 2))

/-- The products summed over all the rows, the columns of `Y` dealt in order to `s` shards of `b`. -/
def grad {n a s b l : Nat} (hl : s * b = l) (X : (⟨2, ![n, a]⟩ : Shape).Idx → EReal) (Y : (⟨2, ![n, l]⟩ : Shape).Idx → EReal)
    (i : (⟨3, ![s, a, b]⟩ : Shape).Idx) : EReal :=
  ∑ k : Fin n, X (ix2 k (i 1)) * Y (ix2 k ⟨(i 0).val * b + (i 2).val, by
    have h0 : (i 0).val < s := (i 0).isLt
    have h2 : (i 2).val < b := (i 2).isLt
    calc (i 0).val * b + (i 2).val < (i 0).val * b + b := by omega
      _ = ((i 0).val + 1) * b := by rw [Nat.add_mul, Nat.one_mul]
      _ ≤ s * b := Nat.mul_le_mul_right b h0
      _ = l := hl⟩)

/-- What four steps leave, the first of which starts from zero: each step's tiles are read at their rows of the two arrays, and
the four sums over a tile's rows are the one over all of them. -/
theorem four {N a b s l : Nat} (hl : s * b = l) (f : (n : Nat) → n < N → (⟨3, ![1, a, b]⟩ : Shape).Idx → EReal)
    (A : Fin N → (⟨2, ![2048, a]⟩ : Shape).Idx → EReal) (B : Fin N → (⟨2, ![2048, b]⟩ : Shape).Idx → EReal)
    (start : ∀ t : Fin N, t.val % 4 = 0 → ∀ y, f t.val t.isLt y = 0 + tile (A t) (B t) y)
    (next : ∀ t : Fin N, ¬t.val % 4 = 0 → ∀ y, f t.val t.isLt y = f (t.val - 1) (Nat.lt_of_le_of_lt (Nat.sub_le _ _) t.isLt) y + tile (A t) (B t) y)
    {a' : Nat} (X : (⟨2, ![8192, a']⟩ : Shape).Idx → EReal) (Y : (⟨2, ![8192, l]⟩ : Shape).Idx → EReal) (t : Fin N) (h : t.val % 4 = 3)
    (y : (⟨3, ![1, a, b]⟩ : Shape).Idx) (i : (⟨3, ![s, a', b]⟩ : Shape).Idx)
    (left : ∀ (r : Fin N) (k : Fin 2048) (hk : r.val % 4 * 2048 + k.val < 8192), r.val / 4 = t.val / 4 → A r (ix2 k (y 1)) = X (ix2 ⟨r.val % 4 * 2048 + k.val, hk⟩ (i 1)))
    (right : ∀ (r : Fin N) (k : Fin 2048) (hk : r.val % 4 * 2048 + k.val < 8192) (hc), r.val / 4 = t.val / 4 →
      B r (ix2 k (y 2)) = Y (ix2 ⟨r.val % 4 * 2048 + k.val, hk⟩ ⟨(i 0).val * b + (i 2).val, hc⟩)) :
    f t.val t.isLt y = grad hl X Y i := by
  rw [Pipeline.eq_sum_fin_of_reset_step_apply_of_flush f 4 (fun _ => 0) (fun t => tile (A t) (B t)) start next t h y, zero_add]
  unfold tile grad
  refine Fin.sum_mul_add_congr fun u k hk => ?_
  have hu := u.isLt
  have hm : (4 * (t.val / 4) + u.val) % 4 = u.val := by omega
  have hd : (4 * (t.val / 4) + u.val) / 4 = t.val / 4 := by omega
  have hr := Pipeline.run_point_lt_of_flush t h u
  have hk' : (4 * (t.val / 4) + u.val) % 4 * 2048 + k.val < 8192 := by rw [hm]; exact hk
  have e : (⟨(4 * (t.val / 4) + u.val) % 4 * 2048 + k.val, hk'⟩ : Fin 8192) = ⟨u.val * 2048 + k.val, hk⟩ := Fin.ext (congrArg (· * 2048 + k.val) hm)
  rw [left ⟨_, hr⟩ k hk' hd, right ⟨_, hr⟩ k hk' _ hd]
  exact congrArg (fun j => X (ix2 j _) * Y (ix2 j _)) e

/-- A column of the tile `j` in the order of the tiles, and the column that it was before the tiles were dealt in turn. -/
theorem dealt {j d x : Nat} (hj : j < 4) (hd : 0 < d) (hx : x < d) :
    (j * d + x) / d = j ∧ (j * d + x) % d = x ∧ (j * d + x) / (2 * d) = j / 2 := by
  have h1 : (j * d + x) / d = j := by
    rw [Nat.add_comm, Nat.add_mul_div_right _ _ hd, Nat.div_eq_of_lt hx, Nat.zero_add]
  refine ⟨h1, ?_, ?_⟩
  · rw [Nat.add_comm, Nat.add_mul_mod_self_right, Nat.mod_eq_of_lt hx]
  · rw [Nat.mul_comm 2 d, ← Nat.div_div_eq_div_mul, h1]

end Cert.Grad
-- ==== Proof.Up.lean ====
module

public import proofs.«01_k».proof.Proof.Grad
public import proofs.«01_k».proof.Proof.Gen.KernelUpIdeal.Value
public import proofs.«01_k».proof.Proof.Gen.ReferenceUpIdeal.Run
public import proofs.«01_k».proof.Defs

/-!
The gradient of the up projection's weights.
-/

@[expose] public section

set_option maxRecDepth 16384

noncomputable section

namespace Cert.Up

open Idealize.ShloMosaic Idealize.ShloMosaic.TcCoe Idealize.ShloMosaic.Tactic Idealize.SL.Sem

section

open Cert.KernelUpIdeal Cert.KernelUpIdeal.Gen

variable [Cert.KernelUpIdeal.Facts]

theorem zero_apply (y : S1x1024x1408.Idx) : k0_pay1 (F := Ideal) y = (0 : EReal) := by
  pointwise [k0_pay1]

theorem step_apply (s : Vec Ideal S1x1024x1408 .f32) (a : Vec Ideal S2048x1024 .bf16) (b : Vec Ideal S2048x1408 .bf16) (y : S1x1024x1408.Idx) :
    k0_pay2 s a b y = (s y : EReal) + Grad.tile a b y := by
  rw [eq_ix3 y]
  pointwise [k0_pay2, Grad.tile]

theorem copy_apply (s : Vec Ideal S1x1024x1408 .f32) (y : S1x1024x1408.Idx) : k0_pay3 s y = s y := by
  rw [eq_ix3 y]
  pointwise [k0_pay3]

/-- The tiles of columns are taken in turn from the two halves, and put back in the order of the shards. -/
theorem index : ∀ t : Fin grid0.N, win0_0.index t = ![t.val % 4, 0] ∧ win0_1.index t = ![t.val % 4, t.val / 4]
    ∧ win0_2.index t = ![t.val / 4 % 2 * 2 + t.val / 4 / 2, 0, 0] ∧ win0_3.index t = ![t.val / 4 % 2 * 2 + t.val / 4 / 2, 0, 0] := by decide +kernel

variable (m : (ℓ : Loc nD τ sig) → Buf (Elt Ideal) ℓ) (c : Dev nD)

/-- The products over all the rows. -/
def product : S4x1024x1408.Idx → EReal :=
  Grad.grad (s := 4) (b := 1408) (l := 5632) rfl (m ⟨c, main_arg0⟩) (m ⟨c, main_arg1⟩)

theorem start (t : Fin cfg0.N) (h : t.val % 4 = 0) (y : S1x1024x1408.Idx) :
    (outsAt0 m c t.val t.isLt).1 y = (0 + Grad.tile (iblk m c 0 t) (iblk m c 1 t) y : EReal) := by
  rw [outsAt0_A m c t h (by omega)]
  frame_out
  rw [step_apply, zero_apply]

theorem next (t : Fin cfg0.N) (h : ¬t.val % 4 = 0) (y : S1x1024x1408.Idx) :
    (outsAt0 m c t.val t.isLt).1 y = ((outsAt0 m c (t.val - 1) (Nat.lt_of_le_of_lt (Nat.sub_le _ _) t.isLt)).1 y + Grad.tile (iblk m c 0 t) (iblk m c 1 t) y : EReal) := by
  by_cases h1 : t.val % 4 = 3
  · rw [outsAt0_C m c t h h1]
    frame_out
    rw [step_apply]
  · rw [outsAt0_B m c t h h1]
    frame_out
    rw [step_apply]

theorem copied (t : Fin cfg0.N) (h : t.val % 4 = 3) (y : S1x1024x1408.Idx) :
    (outsAt0 m c t.val t.isLt).2 y = (outsAt0 m c t.val t.isLt).1 y := by
  rw [outsAt0_C m c t (by omega) h]
  frame_out
  rw [copy_apply]

theorem summed (t : Fin cfg0.N) (h : t.val % 4 = 3) (y : S1x1024x1408.Idx) (i : S4x1024x1408.Idx) (h0 : (i 0).val = t.val / 4 % 2 * 2 + t.val / 4 / 2)
    (h1 : (i 1).val = (y 1).val) (h2 : (i 2).val = (y 2).val) : (outsAt0 m c t.val t.isLt).1 y = product m c i := by
  refine Grad.four rfl (fun n h => (outsAt0 m c n h).1) (fun t => iblk m c 0 t) (fun t => iblk m c 1 t) (start m c) (next m c) _ _ t h y i
    (fun r k hk hr => ?_) (fun r k hk hc hr => ?_)
  · blk_ext! [iblk, V, (index r).1]
  · blk_ext! [iblk, V, (index r).2.1]
    all_goals
      have hj : t.val / 4 < 4 := by have := t.isLt; have : cfg0.N = 16 := N_0; omega
      have hx : (y 2).val < 1408 := (y 2).isLt
      obtain ⟨d1, d2, d3⟩ := Grad.dealt (j := t.val / 4) (d := 1408) hj (by omega) hx
      rw [hr, d1, d2, d3]
      omega

theorem array_sum : (dats m 0 c).arrAt 2 cfg0.N = product m c := by
  refine (dats m 0 c).arrAt_eq_of_covers 2 _ (by decide +kernel) fun t hf y => ?_
  blk_simp
  rw [after0_2]
  refine summed m c t ((flush0_2 t).mp hf) y _ ?_ ?_ ?_ <;> blk_simp [index t]

theorem array_copy : (dats m 0 c).arrAt 3 cfg0.N = product m c := by
  refine (dats m 0 c).arrAt_eq_of_covers 3 _ (by decide +kernel) fun t hf y => ?_
  blk_simp
  rw [after0_3, copied m c t ((flush0_3 t).mp hf)]
  refine summed m c t ((flush0_3 t).mp hf) y _ ?_ ?_ ?_ <;> blk_simp [index t]

end

section

open Cert.ReferenceUpIdeal Cert.ReferenceUpIdeal.Gen

variable [Cert.ReferenceUpIdeal.Facts]

/-- The reference's contraction over all the rows, in the order of the shards. -/
theorem contraction (X : Vec Ideal S8192x1024 .f32) (Y : Vec Ideal S8192x5632 .f32) :
    transpose S4x1024x1408 [1, 0, 2] (shapeCast S1024x4x1408 (transpose S1024x5632 [1, 0] (Host.dotGeneral (F := Ideal) (φ₁ := .f32) (φ₂ := .f32) dot_S8192x5632_S8192x1024_S5632x1024_0_0_1_1_n_n none Y X) transposes_S5632x1024_S1024x5632_1_0) shapeCasts_S1024x5632_S1024x4x1408) transposes_S1024x4x1408_S4x1024x1408_1_0_2
      = Grad.grad (s := 4) (b := 1408) rfl X Y := by
  funext i
  rw [eq_ix3 i]
  unfold Grad.grad
  pointwise
  exact Finset.sum_congr rfl fun k _ => mul_comm _ _

theorem frame_reference : Cert.quiescent_ReferenceUpIdeal := fun m ρ _ =>
  (θ_run Cert.ReferenceUpIdeal.defs _ _).mono
    (fun r h => ⟨fun c => (h c).2.2, sem_eq_zero_of_no_sems rfl r.2⟩) (Cert.ReferenceUpIdeal.Value.run m ρ)

end

theorem same [Cert.KernelUpIdeal.Facts] [Cert.ReferenceUpIdeal.Facts] : Cert.algebraic_KernelUpIdeal_ReferenceUpIdeal := by
  intro m ρ m' ρ' _ agree
  refine ⟨product m, product m, ?_, ?_⟩
  · refine (θ_run Cert.KernelUpIdeal.defs _ _).mono (fun r h c => ?_) (Cert.KernelUpIdeal.Value.run_blocks m ρ)
    obtain ⟨h0, h1, h2⟩ := h c
    exact ⟨h0.trans (array_sum m c), h1.trans (array_copy m c), h2⟩
  · refine (θ_run Cert.ReferenceUpIdeal.defs _ _).mono (fun r h c => ?_) (Cert.ReferenceUpIdeal.Value.run m' ρ')
    obtain ⟨h0, h1, h2⟩ := h c
    rw [(agree c).1, (agree c).2] at h0 h1
    exact ⟨h0.trans (contraction _ _), h1.trans (contraction _ _), h2⟩

end Cert.Up
-- ==== Proof.Down.lean ====
module

public import proofs.«01_k».proof.Proof.Grad
public import proofs.«01_k».proof.Proof.Gen.KernelDownIdeal.Value
public import proofs.«01_k».proof.Proof.Gen.ReferenceDownIdeal.Run
public import proofs.«01_k».proof.Defs

/-!
The gradient of the down projection's weights.
-/

@[expose] public section

set_option maxRecDepth 16384

noncomputable section

namespace Cert.Down

open Idealize.ShloMosaic Idealize.ShloMosaic.TcCoe Idealize.ShloMosaic.Tactic Idealize.SL.Sem

section

open Cert.KernelDownIdeal Cert.KernelDownIdeal.Gen

variable [Cert.KernelDownIdeal.Facts]

theorem zero_apply (y : S1x1408x1024.Idx) : k0_pay1 (F := Ideal) y = (0 : EReal) := by
  pointwise [k0_pay1]

theorem step_apply (s : Vec Ideal S1x1408x1024 .f32) (a : Vec Ideal S2048x1408 .bf16) (b : Vec Ideal S2048x1024 .bf16) (y : S1x1408x1024.Idx) :
    k0_pay2 s a b y = (s y : EReal) + Grad.tile a b y := by
  rw [eq_ix3 y]
  pointwise [k0_pay2, Grad.tile]

theorem copy_apply (s : Vec Ideal S1x1408x1024 .f32) (y : S1x1408x1024.Idx) : k0_pay3 s y = s y := by
  rw [eq_ix3 y]
  pointwise [k0_pay3]

/-- A tile of the weights' rows is done at a time. -/
theorem index : ∀ t : Fin grid0.N, win0_0.index t = ![t.val % 4, t.val / 4] ∧ win0_1.index t = ![t.val % 4, 0]
    ∧ win0_2.index t = ![0, t.val / 4, 0] ∧ win0_3.index t = ![0, t.val / 4, 0] := by decide +kernel

variable (m : (ℓ : Loc nD τ sig) → Buf (Elt Ideal) ℓ) (c : Dev nD)

/-- The products over all the rows. -/
def product : S1x2816x1024.Idx → EReal :=
  Grad.grad (s := 1) (b := 1024) (l := 1024) rfl (m ⟨c, main_arg0⟩) (m ⟨c, main_arg1⟩)

theorem start (t : Fin cfg0.N) (h : t.val % 4 = 0) (y : S1x1408x1024.Idx) :
    (outsAt0 m c t.val t.isLt).1 y = (0 + Grad.tile (iblk m c 0 t) (iblk m c 1 t) y : EReal) := by
  rw [outsAt0_A m c t h (by omega)]
  frame_out
  rw [step_apply, zero_apply]

theorem next (t : Fin cfg0.N) (h : ¬t.val % 4 = 0) (y : S1x1408x1024.Idx) :
    (outsAt0 m c t.val t.isLt).1 y = ((outsAt0 m c (t.val - 1) (Nat.lt_of_le_of_lt (Nat.sub_le _ _) t.isLt)).1 y + Grad.tile (iblk m c 0 t) (iblk m c 1 t) y : EReal) := by
  by_cases h1 : t.val % 4 = 3
  · rw [outsAt0_C m c t h h1]
    frame_out
    rw [step_apply]
  · rw [outsAt0_B m c t h h1]
    frame_out
    rw [step_apply]

theorem copied (t : Fin cfg0.N) (h : t.val % 4 = 3) (y : S1x1408x1024.Idx) :
    (outsAt0 m c t.val t.isLt).2 y = (outsAt0 m c t.val t.isLt).1 y := by
  rw [outsAt0_C m c t (by omega) h]
  frame_out
  rw [copy_apply]

theorem summed (t : Fin cfg0.N) (h : t.val % 4 = 3) (y : S1x1408x1024.Idx) (i : S1x2816x1024.Idx) (h0 : (i 0).val = 0)
    (h1 : (i 1).val = t.val / 4 * 1408 + (y 1).val) (h2 : (i 2).val = (y 2).val) : (outsAt0 m c t.val t.isLt).1 y = product m c i := by
  refine Grad.four rfl (fun n h => (outsAt0 m c n h).1) (fun t => iblk m c 0 t) (fun t => iblk m c 1 t) (start m c) (next m c) _ _ t h y i
    (fun r k hk hr => ?_) (fun r k hk hc hr => ?_)
  · blk_ext! [iblk, V, (index r).1]
  · blk_ext! [iblk, V, (index r).2.1]

theorem array_sum : (dats m 0 c).arrAt 2 cfg0.N = product m c := by
  refine (dats m 0 c).arrAt_eq_of_covers 2 _ (by decide +kernel) fun t hf y => ?_
  blk_simp
  rw [after0_2]
  refine summed m c t ((flush0_2 t).mp hf) y _ ?_ ?_ ?_ <;> blk_simp [index t]

theorem array_copy : (dats m 0 c).arrAt 3 cfg0.N = product m c := by
  refine (dats m 0 c).arrAt_eq_of_covers 3 _ (by decide +kernel) fun t hf y => ?_
  blk_simp
  rw [after0_3, copied m c t ((flush0_3 t).mp hf)]
  refine summed m c t ((flush0_3 t).mp hf) y _ ?_ ?_ ?_ <;> blk_simp [index t]

end

section

open Cert.ReferenceDownIdeal Cert.ReferenceDownIdeal.Gen

variable [Cert.ReferenceDownIdeal.Facts]

/-- The reference's contraction over all the rows, in the order of the shards. -/
theorem contraction (X : Vec Ideal S8192x2816 .f32) (Y : Vec Ideal S8192x1024 .f32) :
    shapeCast S1x2816x1024 (transpose S2816x1024 [1, 0] (Host.dotGeneral (F := Ideal) (φ₁ := .f32) (φ₂ := .f32) dot_S8192x1024_S8192x2816_S1024x2816_0_0_1_1_n_n none Y X) transposes_S1024x2816_S2816x1024_1_0) shapeCasts_S2816x1024_S1x2816x1024
      = Grad.grad (s := 1) (b := 1024) rfl X Y := by
  funext i
  rw [eq_ix3 i]
  unfold Grad.grad
  pointwise
  exact Finset.sum_congr rfl fun k _ => mul_comm _ _

theorem frame_reference : Cert.quiescent_ReferenceDownIdeal := fun m ρ _ =>
  (θ_run Cert.ReferenceDownIdeal.defs _ _).mono
    (fun r h => ⟨fun c => (h c).2.2, sem_eq_zero_of_no_sems rfl r.2⟩) (Cert.ReferenceDownIdeal.Value.run m ρ)

end

theorem same [Cert.KernelDownIdeal.Facts] [Cert.ReferenceDownIdeal.Facts] : Cert.algebraic_KernelDownIdeal_ReferenceDownIdeal := by
  intro m ρ m' ρ' _ agree
  refine ⟨product m, product m, ?_, ?_⟩
  · refine (θ_run Cert.KernelDownIdeal.defs _ _).mono (fun r h c => ?_) (Cert.KernelDownIdeal.Value.run_blocks m ρ)
    obtain ⟨h0, h1, h2⟩ := h c
    exact ⟨h0.trans (array_sum m c), h1.trans (array_copy m c), h2⟩
  · refine (θ_run Cert.ReferenceDownIdeal.defs _ _).mono (fun r h c => ?_) (Cert.ReferenceDownIdeal.Value.run m' ρ')
    obtain ⟨h0, h1, h2⟩ := h c
    rw [(agree c).1, (agree c).2] at h0 h1
    exact ⟨h0.trans (contraction _ _), h1.trans (contraction _ _), h2⟩

end Cert.Down
-- ==== Proof.In.lean ====
module

public import proofs.«01_k».proof.Proof.Grad
public import proofs.«01_k».proof.Proof.Gen.KernelInIdeal.Value
public import proofs.«01_k».proof.Proof.Gen.ReferenceInIdeal.Run
public import proofs.«01_k».proof.Defs

/-!
The gradient of the retention's input projection's weights.
-/

@[expose] public section

set_option maxRecDepth 16384

noncomputable section

namespace Cert.In

open Idealize.ShloMosaic Idealize.ShloMosaic.TcCoe Idealize.ShloMosaic.Tactic Idealize.SL.Sem

section

open Cert.KernelInIdeal Cert.KernelInIdeal.Gen

variable [Cert.KernelInIdeal.Facts]

theorem zero_apply (y : S1x1024x1536.Idx) : k0_pay1 (F := Ideal) y = (0 : EReal) := by
  pointwise [k0_pay1]

theorem step_apply (s : Vec Ideal S1x1024x1536 .f32) (a : Vec Ideal S2048x1024 .bf16) (b : Vec Ideal S2048x1536 .bf16) (y : S1x1024x1536.Idx) :
    k0_pay2 s a b y = (s y : EReal) + Grad.tile a b y := by
  rw [eq_ix3 y]
  pointwise [k0_pay2, Grad.tile]

theorem copy_apply (s : Vec Ideal S1x1024x1536 .f32) (y : S1x1024x1536.Idx) : k0_pay3 s y = s y := by
  rw [eq_ix3 y]
  pointwise [k0_pay3]

/-- A tile of the weights' columns, which is a shard, is done at a time. -/
theorem index : ∀ t : Fin grid0.N, win0_0.index t = ![t.val % 4, 0] ∧ win0_1.index t = ![t.val % 4, t.val / 4]
    ∧ win0_2.index t = ![t.val / 4, 0, 0] ∧ win0_3.index t = ![t.val / 4, 0, 0] := by decide +kernel

variable (m : (ℓ : Loc nD τ sig) → Buf (Elt Ideal) ℓ) (c : Dev nD)

/-- The products over all the rows. -/
def product : S4x1024x1536.Idx → EReal :=
  Grad.grad (s := 4) (b := 1536) (l := 6144) rfl (m ⟨c, main_arg0⟩) (m ⟨c, main_arg1⟩)

theorem start (t : Fin cfg0.N) (h : t.val % 4 = 0) (y : S1x1024x1536.Idx) :
    (outsAt0 m c t.val t.isLt).1 y = (0 + Grad.tile (iblk m c 0 t) (iblk m c 1 t) y : EReal) := by
  rw [outsAt0_A m c t h (by omega)]
  frame_out
  rw [step_apply, zero_apply]

theorem next (t : Fin cfg0.N) (h : ¬t.val % 4 = 0) (y : S1x1024x1536.Idx) :
    (outsAt0 m c t.val t.isLt).1 y = ((outsAt0 m c (t.val - 1) (Nat.lt_of_le_of_lt (Nat.sub_le _ _) t.isLt)).1 y + Grad.tile (iblk m c 0 t) (iblk m c 1 t) y : EReal) := by
  by_cases h1 : t.val % 4 = 3
  · rw [outsAt0_C m c t h h1]
    frame_out
    rw [step_apply]
  · rw [outsAt0_B m c t h h1]
    frame_out
    rw [step_apply]

theorem copied (t : Fin cfg0.N) (h : t.val % 4 = 3) (y : S1x1024x1536.Idx) :
    (outsAt0 m c t.val t.isLt).2 y = (outsAt0 m c t.val t.isLt).1 y := by
  rw [outsAt0_C m c t (by omega) h]
  frame_out
  rw [copy_apply]

theorem summed (t : Fin cfg0.N) (h : t.val % 4 = 3) (y : S1x1024x1536.Idx) (i : S4x1024x1536.Idx) (h0 : (i 0).val = t.val / 4)
    (h1 : (i 1).val = (y 1).val) (h2 : (i 2).val = (y 2).val) : (outsAt0 m c t.val t.isLt).1 y = product m c i := by
  refine Grad.four rfl (fun n h => (outsAt0 m c n h).1) (fun t => iblk m c 0 t) (fun t => iblk m c 1 t) (start m c) (next m c) _ _ t h y i
    (fun r k hk hr => ?_) (fun r k hk hc hr => ?_)
  · blk_ext! [iblk, V, (index r).1]
  · blk_ext! [iblk, V, (index r).2.1]

theorem array_sum : (dats m 0 c).arrAt 2 cfg0.N = product m c := by
  refine (dats m 0 c).arrAt_eq_of_covers 2 _ (by decide +kernel) fun t hf y => ?_
  blk_simp
  rw [after0_2]
  refine summed m c t ((flush0_2 t).mp hf) y _ ?_ ?_ ?_ <;> blk_simp [index t]

theorem array_copy : (dats m 0 c).arrAt 3 cfg0.N = product m c := by
  refine (dats m 0 c).arrAt_eq_of_covers 3 _ (by decide +kernel) fun t hf y => ?_
  blk_simp
  rw [after0_3, copied m c t ((flush0_3 t).mp hf)]
  refine summed m c t ((flush0_3 t).mp hf) y _ ?_ ?_ ?_ <;> blk_simp [index t]

end

section

open Cert.ReferenceInIdeal Cert.ReferenceInIdeal.Gen

variable [Cert.ReferenceInIdeal.Facts]

/-- The reference's contraction over all the rows, in the order of the shards. -/
theorem contraction (X : Vec Ideal S8192x1024 .f32) (Y : Vec Ideal S8192x6144 .f32) :
    transpose S4x1024x1536 [1, 0, 2] (shapeCast S1024x4x1536 (transpose S1024x6144 [1, 0] (Host.dotGeneral (F := Ideal) (φ₁ := .f32) (φ₂ := .f32) dot_S8192x6144_S8192x1024_S6144x1024_0_0_1_1_n_n none Y X) transposes_S6144x1024_S1024x6144_1_0) shapeCasts_S1024x6144_S1024x4x1536) transposes_S1024x4x1536_S4x1024x1536_1_0_2
      = Grad.grad (s := 4) (b := 1536) rfl X Y := by
  funext i
  rw [eq_ix3 i]
  unfold Grad.grad
  pointwise
  exact Finset.sum_congr rfl fun k _ => mul_comm _ _

theorem frame_reference : Cert.quiescent_ReferenceInIdeal := fun m ρ _ =>
  (θ_run Cert.ReferenceInIdeal.defs _ _).mono
    (fun r h => ⟨fun c => (h c).2.2, sem_eq_zero_of_no_sems rfl r.2⟩) (Cert.ReferenceInIdeal.Value.run m ρ)

end

theorem same [Cert.KernelInIdeal.Facts] [Cert.ReferenceInIdeal.Facts] : Cert.algebraic_KernelInIdeal_ReferenceInIdeal := by
  intro m ρ m' ρ' _ agree
  refine ⟨product m, product m, ?_, ?_⟩
  · refine (θ_run Cert.KernelInIdeal.defs _ _).mono (fun r h c => ?_) (Cert.KernelInIdeal.Value.run_blocks m ρ)
    obtain ⟨h0, h1, h2⟩ := h c
    exact ⟨h0.trans (array_sum m c), h1.trans (array_copy m c), h2⟩
  · refine (θ_run Cert.ReferenceInIdeal.defs _ _).mono (fun r h c => ?_) (Cert.ReferenceInIdeal.Value.run m' ρ')
    obtain ⟨h0, h1, h2⟩ := h c
    rw [(agree c).1, (agree c).2] at h0 h1
    exact ⟨h0.trans (contraction _ _), h1.trans (contraction _ _), h2⟩

end Cert.In
-- ==== Proof.Out.lean ====
module

public import proofs.«01_k».proof.Proof.Grad
public import proofs.«01_k».proof.Proof.Gen.KernelOutIdeal.Value
public import proofs.«01_k».proof.Proof.Gen.ReferenceOutIdeal.Run
public import proofs.«01_k».proof.Defs

/-!
The gradient of the retention's output projection's weights.
-/

@[expose] public section

set_option maxRecDepth 16384

noncomputable section

namespace Cert.Out

open Idealize.ShloMosaic Idealize.ShloMosaic.TcCoe Idealize.ShloMosaic.Tactic Idealize.SL.Sem

section

open Cert.KernelOutIdeal Cert.KernelOutIdeal.Gen

variable [Cert.KernelOutIdeal.Facts]

theorem zero_apply (y : S1x1024x1024.Idx) : k0_pay1 (F := Ideal) y = (0 : EReal) := by
  pointwise [k0_pay1]

theorem step_apply (s : Vec Ideal S1x1024x1024 .f32) (a : Vec Ideal S2048x1024 .bf16) (b : Vec Ideal S2048x1024 .bf16) (y : S1x1024x1024.Idx) :
    k0_pay2 s a b y = (s y : EReal) + Grad.tile a b y := by
  rw [eq_ix3 y]
  pointwise [k0_pay2, Grad.tile]

theorem copy_apply (s : Vec Ideal S1x1024x1024 .f32) (y : S1x1024x1024.Idx) : k0_pay3 s y = s y := by
  rw [eq_ix3 y]
  pointwise [k0_pay3]

/-- A tile of the weights' rows is done at a time. -/
theorem index : ∀ t : Fin grid0.N, win0_0.index t = ![t.val % 4, t.val / 4] ∧ win0_1.index t = ![t.val % 4, 0]
    ∧ win0_2.index t = ![0, t.val / 4, 0] ∧ win0_3.index t = ![0, t.val / 4, 0] := by decide +kernel

variable (m : (ℓ : Loc nD τ sig) → Buf (Elt Ideal) ℓ) (c : Dev nD)

/-- The products over all the rows. -/
def product : S1x2048x1024.Idx → EReal :=
  Grad.grad (s := 1) (b := 1024) (l := 1024) rfl (m ⟨c, main_arg0⟩) (m ⟨c, main_arg1⟩)

theorem start (t : Fin cfg0.N) (h : t.val % 4 = 0) (y : S1x1024x1024.Idx) :
    (outsAt0 m c t.val t.isLt).1 y = (0 + Grad.tile (iblk m c 0 t) (iblk m c 1 t) y : EReal) := by
  rw [outsAt0_A m c t h (by omega)]
  frame_out
  rw [step_apply, zero_apply]

theorem next (t : Fin cfg0.N) (h : ¬t.val % 4 = 0) (y : S1x1024x1024.Idx) :
    (outsAt0 m c t.val t.isLt).1 y = ((outsAt0 m c (t.val - 1) (Nat.lt_of_le_of_lt (Nat.sub_le _ _) t.isLt)).1 y + Grad.tile (iblk m c 0 t) (iblk m c 1 t) y : EReal) := by
  by_cases h1 : t.val % 4 = 3
  · rw [outsAt0_C m c t h h1]
    frame_out
    rw [step_apply]
  · rw [outsAt0_B m c t h h1]
    frame_out
    rw [step_apply]

theorem copied (t : Fin cfg0.N) (h : t.val % 4 = 3) (y : S1x1024x1024.Idx) :
    (outsAt0 m c t.val t.isLt).2 y = (outsAt0 m c t.val t.isLt).1 y := by
  rw [outsAt0_C m c t (by omega) h]
  frame_out
  rw [copy_apply]

theorem summed (t : Fin cfg0.N) (h : t.val % 4 = 3) (y : S1x1024x1024.Idx) (i : S1x2048x1024.Idx) (h0 : (i 0).val = 0)
    (h1 : (i 1).val = t.val / 4 * 1024 + (y 1).val) (h2 : (i 2).val = (y 2).val) : (outsAt0 m c t.val t.isLt).1 y = product m c i := by
  refine Grad.four rfl (fun n h => (outsAt0 m c n h).1) (fun t => iblk m c 0 t) (fun t => iblk m c 1 t) (start m c) (next m c) _ _ t h y i
    (fun r k hk hr => ?_) (fun r k hk hc hr => ?_)
  · blk_ext! [iblk, V, (index r).1]
  · blk_ext! [iblk, V, (index r).2.1]

theorem array_sum : (dats m 0 c).arrAt 2 cfg0.N = product m c := by
  refine (dats m 0 c).arrAt_eq_of_covers 2 _ (by decide +kernel) fun t hf y => ?_
  blk_simp
  rw [after0_2]
  refine summed m c t ((flush0_2 t).mp hf) y _ ?_ ?_ ?_ <;> blk_simp [index t]

theorem array_copy : (dats m 0 c).arrAt 3 cfg0.N = product m c := by
  refine (dats m 0 c).arrAt_eq_of_covers 3 _ (by decide +kernel) fun t hf y => ?_
  blk_simp
  rw [after0_3, copied m c t ((flush0_3 t).mp hf)]
  refine summed m c t ((flush0_3 t).mp hf) y _ ?_ ?_ ?_ <;> blk_simp [index t]

end

section

open Cert.ReferenceOutIdeal Cert.ReferenceOutIdeal.Gen

variable [Cert.ReferenceOutIdeal.Facts]

/-- The reference's contraction over all the rows, in the order of the shards. -/
theorem contraction (X : Vec Ideal S8192x2048 .f32) (Y : Vec Ideal S8192x1024 .f32) :
    shapeCast S1x2048x1024 (transpose S2048x1024 [1, 0] (Host.dotGeneral (F := Ideal) (φ₁ := .f32) (φ₂ := .f32) dot_S8192x1024_S8192x2048_S1024x2048_0_0_1_1_n_n none Y X) transposes_S1024x2048_S2048x1024_1_0) shapeCasts_S2048x1024_S1x2048x1024
      = Grad.grad (s := 1) (b := 1024) rfl X Y := by
  funext i
  rw [eq_ix3 i]
  unfold Grad.grad
  pointwise
  exact Finset.sum_congr rfl fun k _ => mul_comm _ _

theorem frame_reference : Cert.quiescent_ReferenceOutIdeal := fun m ρ _ =>
  (θ_run Cert.ReferenceOutIdeal.defs _ _).mono
    (fun r h => ⟨fun c => (h c).2.2, sem_eq_zero_of_no_sems rfl r.2⟩) (Cert.ReferenceOutIdeal.Value.run m ρ)

end

theorem same [Cert.KernelOutIdeal.Facts] [Cert.ReferenceOutIdeal.Facts] : Cert.algebraic_KernelOutIdeal_ReferenceOutIdeal := by
  intro m ρ m' ρ' _ agree
  refine ⟨product m, product m, ?_, ?_⟩
  · refine (θ_run Cert.KernelOutIdeal.defs _ _).mono (fun r h c => ?_) (Cert.KernelOutIdeal.Value.run_blocks m ρ)
    obtain ⟨h0, h1, h2⟩ := h c
    exact ⟨h0.trans (array_sum m c), h1.trans (array_copy m c), h2⟩
  · refine (θ_run Cert.ReferenceOutIdeal.defs _ _).mono (fun r h c => ?_) (Cert.ReferenceOutIdeal.Value.run m' ρ')
    obtain ⟨h0, h1, h2⟩ := h c
    rw [(agree c).1, (agree c).2] at h0 h1
    exact ⟨h0.trans (contraction _ _), h1.trans (contraction _ _), h2⟩

end Cert.Out
-- ==== Proof.RetRef.lean ====
module

public import proofs.«01_k».proof.Proof.Finite
public import proofs.«01_k».proof.Proof.Gen.ReferenceRetIdeal.Read

/-!
The gradient through the retention's normalisation and input projection: the mathematics in real numbers, and what the
reference computes.
-/

@[expose] public section

set_option maxRecDepth 16384

noncomputable section

namespace Cert.Ret

open Idealize.ShloMosaic Idealize.ShloMosaic.TcCoe Cert.Mlp

/-- The gradient of the projected rows, the gradient that goes around, the input and the weights. -/
structure Args where
  dpj : ℕ → ℕ → ℝ
  dres : ℕ → ℕ → ℝ
  x : ℕ → ℕ → ℝ
  g : ℕ → ℝ
  w : ℕ → ℕ → ℝ

namespace Args

variable (A : Args)

def dh (t d : ℕ) : ℝ := ∑ c : Fin 6144, A.dpj t c * A.w d c

def dx (t j : ℕ) : ℝ := A.dres t j + rmsb (A.x t) (A.dh t) A.g j

def dg (j : ℕ) : ℝ := ∑ t : Fin 8192, A.x t j * rs (A.x t) * A.dh t j

end Args

open Cert.ReferenceRetIdeal Cert.ReferenceRetIdeal.Gen Cert.ReferenceRetIdeal.Read

structure IsArgs (A : Args) (x0 : Vec Ideal S8192x6144 .f32) (x1 x2 : Vec Ideal S8192x1024 .f32) (x3 : Vec Ideal S1024 .f32)
    (x4 : Vec Ideal S1024x6144 .f32) : Prop where
  h0 : R2 x0 A.dpj
  h1 : R2 x1 A.dres
  h2 : R2 x2 A.x
  h3 : R1 x3 A.g
  h4 : R2 x4 A.w

section

variable [Cert.ReferenceRetIdeal.Facts]

variable {A : Args} {x0 : Vec Ideal S8192x6144 .f32} {x1 x2 : Vec Ideal S8192x1024 .f32} {x3 : Vec Ideal S1024 .f32} {x4 : Vec Ideal S1024x6144 .f32}
  (h : IsArgs A x0 x1 x2 x3 x4)

include h

theorem v6_R : R2 (val_main_v6 (F := Ideal) x2) (fun t _ => (∑ k : Fin 1024, A.x t k * A.x t k) * (1 / 1024) + eps) := by
  intro t j
  pointwise [val_main_v6, val_main_v5, val_main_cst_1, val_main_v4, val_main_v3, val_main_cst_0, val_main_v2, val_main_v1, val_main_cst, val_main_v0]
  simp only [h.h2, bits_zero, bits_1024, bits_eps, ← EReal.coe_mul, coe_sum, div_1024, ← EReal.coe_add, zero_add]

theorem v7_R : R2 (val_main_v7 (F := Ideal) x2) (fun t _ => rs (A.x t)) := by
  intro t j
  pointwise [val_main_v7]
  simp only [v6_R h]
  exact rs_coe _

theorem v10_R : R2 (val_main_v10 (F := Ideal) x2) (fun t _ => -(1 / 2) * (rs (A.x t) * rs (A.x t) * rs (A.x t))) := by
  intro t j
  pointwise [val_main_v10, val_main_v9, val_main_cst_2, val_main_v8]
  simp only [v6_R h, v7_R h, bits_neghalf]
  exact halfcube _

theorem v12_R : R2 (val_main_v12 (F := Ideal) x2) (fun t j => A.x t j * rs (A.x t)) := by
  intro t j
  pointwise [val_main_v12, val_main_v11]
  simp only [h.h2, v7_R h, ← EReal.coe_mul]

theorem v17_R : R2 (val_main_v17 (F := Ideal) x0 x4) A.dh := by
  intro t d
  pointwise [val_main_v17]
  simp only [h.h0, h.h4, ← EReal.coe_mul, coe_sum]
  rfl

theorem v39_R : R2 (val_main_v39 (F := Ideal) x0 x2 x4) (fun _ j => A.dg j) := by
  intro i j
  pointwise [val_main_v39, val_main_v23, val_main_cst_4, val_main_v20, val_main_v19, val_main_cst_3, val_main_v18]
  simp only [v12_R h, v17_R h, bits_zero, ← EReal.coe_mul, coe_sum, ← EReal.coe_add, zero_add, Finset.univ_unique, Finset.sum_singleton]
  rfl

theorem v22_R : R2 (val_main_v22 (F := Ideal) x0 x3 x4) (fun t j => A.dh t j * A.g j) := by
  intro t j
  pointwise [val_main_v22, val_main_v21, val_main_v13]
  simp only [v17_R h, h.h3, ← EReal.coe_mul]

theorem v33_R : R2 (val_main_v33 (F := Ideal) x0 x2 x3 x4)
    (fun t _ => (∑ k : Fin 1024, A.x t k * (A.dh t k * A.g k)) * (-(1 / 2) * (rs (A.x t) * rs (A.x t) * rs (A.x t))) * (1 / 1024)) := by
  intro t j
  pointwise [val_main_v33, val_main_v32, val_main_cst_7, val_main_v31, val_main_v30, val_main_cst_6, val_main_v29, val_main_v26, val_main_v25,
    val_main_cst_5, val_main_v24]
  simp only [h.h2, v22_R h, v10_R h, bits_zero, bits_1024, ← EReal.coe_mul, coe_sum, ← EReal.coe_add, zero_add, div_1024, Finset.univ_unique, Finset.sum_singleton]

theorem v38_R : R2 (val_main_v38 (F := Ideal) x0 x1 x2 x3 x4) A.dx := by
  intro t j
  pointwise [val_main_v38, val_main_v37, val_main_v36, val_main_v35, val_main_v34, val_main_v28, val_main_v27]
  simp only [h.h1, h.h2, v22_R h, v7_R h, v33_R h, ← EReal.coe_mul, ← EReal.coe_add, rms_vjp]
  rfl

end

/-! Finite arguments are real arrays. -/

instance preFacts : Cert.Pre_finite_ret.Facts where
  bcast_S_S8192x6144 := by decide
  reducesTo_S8192x6144_S_d0_1 := by decide
  h_S_ := by decide
  bcast_S_S8192x1024 := by decide
  reducesTo_S8192x1024_S_d0_1 := by decide
  bcast_S_S1024 := by decide
  reducesTo_S1024_S_d0 := by decide
  bcast_S_S1024x6144 := by decide
  reducesTo_S1024x6144_S_d0_1 := by decide

theorem isArgs {x0 : Vec Ideal Cert.Pre_finite_ret.S8192x6144 .f32} {x1 x2 : Vec Ideal Cert.Pre_finite_ret.S8192x1024 .f32}
    {x3 : Vec Ideal Cert.Pre_finite_ret.S1024 .f32} {x4 : Vec Ideal Cert.Pre_finite_ret.S1024x6144 .f32}
    (h : Cert.Pre_finite_ret.fn (F := Ideal) x0 x1 x2 x3 x4 = fun _ => 1#1) :
    IsArgs ⟨of2 x0, of2 x1, of2 x2, of1 x3, of2 x4⟩ x0 x1 x2 x3 x4 := by
  have e := congrFun h one
  simp only [Cert.Pre_finite_ret.fn, Cert.Pre_finite_ret.fn_part1, andi, IntOp.andi_eq_one] at e
  obtain ⟨⟨⟨⟨e0, e1⟩, e2⟩, e3⟩, e4⟩ := e
  exact ⟨of2_R (below x0 _ Cert.Pre_finite_ret.Facts.reducesTo_S8192x6144_S_d0_1 Cert.Pre_finite_ret.Facts.h_S_ one e0), of2_R (below x1 _ Cert.Pre_finite_ret.Facts.reducesTo_S8192x1024_S_d0_1 Cert.Pre_finite_ret.Facts.h_S_ one e1),
    of2_R (below x2 _ Cert.Pre_finite_ret.Facts.reducesTo_S8192x1024_S_d0_1 Cert.Pre_finite_ret.Facts.h_S_ one e2), of1_R (below x3 _ Cert.Pre_finite_ret.Facts.reducesTo_S1024_S_d0 Cert.Pre_finite_ret.Facts.h_S_ one e3),
    of2_R (below x4 _ Cert.Pre_finite_ret.Facts.reducesTo_S1024x6144_S_d0_1 Cert.Pre_finite_ret.Facts.h_S_ one e4)⟩

end Cert.Ret
-- ==== Proof.Ret.lean ====
module

public import proofs.«01_k».proof.Proof.RetRef
public import Idealize.ShloMosaic.Lib.Pipeline.ValueKit
public import proofs.«01_k».proof.Proof.Gen.KernelRetIdeal.Value
public import proofs.«01_k».proof.Proof.Gen.ReferenceRetIdeal.Run
public import proofs.«01_k».proof.Proof.First
public import proofs.«01_k».proof.Proof.Claims
public import proofs.«01_k».proof.Defs

/-!
The backward pass of the retention's input projection and its normalisation: 512 rows at a time, the weights copied
once, the gain's gradient summed over the sixteen points.
-/

@[expose] public section

set_option maxRecDepth 16384

noncomputable section

namespace Cert.Ret

open Idealize.ShloMosaic Idealize.ShloMosaic.TcCoe Idealize.ShloMosaic.Tactic Idealize.SL.Sem Cert.Mlp

section

open Cert.KernelRetIdeal Cert.KernelRetIdeal.Gen

variable [Cert.KernelRetIdeal.Facts]

/-! The operations of the body on blocks of real numbers. -/

theorem pay9_R {a : Vec Ideal S512x1536 .bf16} {v : Vec Ideal S1x1024x1536 .bf16} {D : ℕ → ℕ → ℝ} {W : ℕ → ℕ → ℕ → ℝ} (ha : R2 a D) (hv : R3 v W) :
    R2 (k0_pay9 a v) (fun i d => ∑ q : Fin 1536, D i q * W 0 d q) := by
  intro i d
  pointwise [k0_pay9]
  simp only [ha, hv, ← EReal.coe_mul, coe_sum, Fin.val_zero]

theorem pay8_R {a a' a'' : Vec Ideal S512x1536 .bf16} {v v' v'' : Vec Ideal S1x1024x1536 .bf16} {D D' D'' : ℕ → ℕ → ℝ} {W W' W'' : ℕ → ℕ → ℕ → ℝ}
    (ha : R2 a D) (hv : R3 v W) (ha' : R2 a' D') (hv' : R3 v' W') (ha'' : R2 a'' D'') (hv'' : R3 v'' W'') :
    R2 (k0_pay8 a v a' v' a'' v'') (fun i d => (∑ q : Fin 1536, D i q * W 0 d q) + (∑ q : Fin 1536, D' i q * W' 0 d q) + ∑ q : Fin 1536, D'' i q * W'' 0 d q) := by
  intro i d
  pointwise [k0_pay8]
  simp only [ha, hv, ha', hv', ha'', hv'', ← EReal.coe_mul, coe_sum, ← EReal.coe_add, Fin.val_zero, zero_add]

theorem sum_quarters (f : ℕ → ℝ) : ∑ k : Fin 6144, f k = (∑ q : Fin 1536, f q) + (∑ q : Fin 1536, f (1536 + q)) + (∑ q : Fin 1536, f (3072 + q)) + ∑ q : Fin 1536, f (4608 + q) := by
  rw [← Finset.sum_range, show (6144 : ℕ) = 4 * 1536 from rfl, Finset.sum_range_mul_split]
  simp only [Finset.sum_range, Fin.sum_univ_four]
  norm_num

/-- The gradient of the normalised rows. -/
def hid (x : Vec Ideal S512x6144 .bf16) (w : Vec Ideal S4x1024x1536 .bf16) : FVec Ideal S512x1024 .f32 :=
  k0_pay1 (k0_pay8 (View.ld x (Rect.unit ![0, 0] ![512, 1536] inb_S512x6144_S512x1536_0_0)) (View.ld w (Rect.unit ![0, 0, 0] ![1, 1024, 1536] inb_S4x1024x1536_S1x1024x1536_0_0_0))
      (View.ld x (Rect.unit ![0, 1536] ![512, 1536] inb_S512x6144_S512x1536_0_1536)) (View.ld w (Rect.unit ![1, 0, 0] ![1, 1024, 1536] inb_S4x1024x1536_S1x1024x1536_1_0_0))
      (View.ld x (Rect.unit ![0, 3072] ![512, 1536] inb_S512x6144_S512x1536_0_3072)) (View.ld w (Rect.unit ![2, 0, 0] ![1, 1024, 1536] inb_S4x1024x1536_S1x1024x1536_2_0_0)))
    (k0_pay9 (View.ld x (Rect.unit ![0, 4608] ![512, 1536] inb_S512x6144_S512x1536_0_4608)) (View.ld w (Rect.unit ![3, 0, 0] ![1, 1024, 1536] inb_S4x1024x1536_S1x1024x1536_3_0_0)))

theorem hid_R {x : Vec Ideal S512x6144 .bf16} {w : Vec Ideal S4x1024x1536 .bf16} {D W : ℕ → ℕ → ℝ} (hx : R2 x D) (hw : R3 w (fun j d q => W d (1536 * j + q))) :
    R2 (hid x w) (fun i d => ∑ k : Fin 6144, D i k * W d k) := by
  intro i d
  have h8 := pay8_R (ld2h_R inb_S512x6144_S512x1536_0_0 hx) (ld3h_R inb_S4x1024x1536_S1x1024x1536_0_0_0 hw)
    (ld2h_R inb_S512x6144_S512x1536_0_1536 hx) (ld3h_R inb_S4x1024x1536_S1x1024x1536_1_0_0 hw)
    (ld2h_R inb_S512x6144_S512x1536_0_3072 hx) (ld3h_R inb_S4x1024x1536_S1x1024x1536_2_0_0 hw) i d
  have h9 := pay9_R (ld2h_R inb_S512x6144_S512x1536_0_4608 hx) (ld3h_R inb_S4x1024x1536_S1x1024x1536_3_0_0 hw) i d
  refine (congrArg₂ (fun a b : EReal => a + b) h8 h9).trans ?_
  rw [← EReal.coe_add]
  dsimp only
  rw [sum_quarters (fun k => D i k * W d k)]
  simp only [zero_add, Nat.mul_zero, Nat.add_zero, Nat.mul_one, show 1536 * 2 = 3072 from rfl, show 1536 * 3 = 4608 from rfl]

section

variable {x d : Vec Ideal S512x1024 .f32} {g : Vec Ideal S1x1024 .f32} {v v' : FVec Ideal S512x1024 .f32} {X D G H : ℕ → ℕ → ℝ}

theorem pay2_R (hx : R2 x X) : R2 (k0_pay2 x) (fun i _ => rs (X i)) := by
  intro i j
  pointwise [k0_pay2]
  simp only [hx, ← EReal.coe_mul, coe_sum, bits_1024, bits_eps, div_1024, ← EReal.coe_add, rs_coe]

theorem pay3_R (hx : R2 x X) : R2 (k0_pay3 x) (fun i j => X i j * rs (X i)) := by
  intro i j
  pointwise [k0_pay3]
  simp only [hx, pay2_R hx, ← EReal.coe_mul]

theorem pay4_R (hh : R2 (k0_pay1 v v') H) (hx : R2 x X) (hg : R2 g G) :
    R2 (k0_pay4 v v' x g) (fun _ j => G 0 j + ∑ r : Fin 512, X r j * rs (X r) * H r j) := by
  intro i j
  pointwise [k0_pay4]
  simp only [hh, hg, pay3_R hx, coe_sum, ← EReal.coe_mul, ← EReal.coe_add, mul_comm (H _ _), Fin.val_eq_zero]

theorem pay5_R (hg : R2 g G) (hh : R2 (k0_pay1 v v') H) (hx : R2 x X) (hd : R2 d D) :
    R2 (k0_pay5 (k0_pay7 g) v v' x d) (fun i j => D i j + rmsb (X i) (H i) (G 0) j) := by
  intro i j
  pointwise [k0_pay5, k0_pay7]
  simp only [hg, hd, hh, pay2_R hx, pay3_R hx, ← EReal.coe_mul, coe_sum, bits_1024, div_1024, ← EReal.coe_sub, ← EReal.coe_add]
  rfl

theorem pay6_R : R2 (k0_pay6 (F := Ideal)) (fun _ _ => 0) := by
  intro i j
  pointwise [k0_pay6]
  simp

end

variable (m : (ℓ : Loc nD τ sig) → Buf (Elt Ideal) ℓ) (c : Dev nD)

theorem index : ∀ t : Fin grid0.N, win0_0.index t = ![t.val, 0] ∧ win0_1.index t = ![t.val, 0] ∧ win0_2.index t = ![t.val, 0]
    ∧ win0_3.index t = ![0, 0] ∧ win0_4.index t = ![t.val, 0] := by decide +kernel

/-- The point before. -/
abbrev prev (t : Fin cfg0.N) := outsAt0 m c (t.val - 1) (Nat.lt_of_le_of_lt (Nat.sub_le _ _) t.isLt)

theorem first_scratch (t : Fin cfg0.N) (h : t.val % 16 = 0) : (outsAt0 m c t.val t.isLt).2.2 = V m c main_v2 := by
  rw [outsAt0_A m c t h]
  frame_out
  funext y
  have e := View.canon_cons_emb (Val := Elt Ideal) (Rect.whole S4x1024x1536) (ReadAs.same.apply (View.read (Elt Ideal) (View.whole main_v2) (V m c main_v2))) [] y
  rw [Rect.emb_whole_apply] at e
  exact e

theorem later_scratch (t : Fin cfg0.N) (h : ¬t.val % 16 = 0) : (outsAt0 m c t.val t.isLt).2.2 = (prev m c t).2.2 := by
  rw [outsAt0_B m c t h]
  rfl

theorem scratch : ∀ (n : ℕ) (hn : n < cfg0.N), (outsAt0 m c n hn).2.2 = V m c main_v2
  | 0, hn => first_scratch m c ⟨0, hn⟩ rfl
  | n + 1, hn => by
    have hlt : n + 1 < 16 := hn
    exact (later_scratch m c ⟨n + 1, hn⟩ (by show ¬(n + 1) % 16 = 0; omega)).trans (scratch n (by omega))

theorem first_dg (t : Fin cfg0.N) (h : t.val % 16 = 0) {X H G : ℕ → ℕ → ℝ} (hh : R2 (hid (iblk m c 0 t) (V m c main_v2)) H) (hx : R2 (a := 512) (b := 1024) (iblk m c 2 t) X) :
    R2 (a := 1) (b := 1024) (outsAt0 m c t.val t.isLt).2.1 (fun _ j => 0 + ∑ r : Fin 512, X r j * rs (X r) * H r j) := by
  rw [outsAt0_A m c t h]
  frame_out
  simp only [readCov_whole, ReadAs.apply_same]
  exact pay4_R hh hx pay6_R

theorem first_dx (t : Fin cfg0.N) (h : t.val % 16 = 0) {X H G D : ℕ → ℕ → ℝ} (hg : R2 (a := 1) (b := 1024) (iblk m c 3 t) G) (hh : R2 (hid (iblk m c 0 t) (V m c main_v2)) H)
    (hx : R2 (a := 512) (b := 1024) (iblk m c 2 t) X) (hd : R2 (a := 512) (b := 1024) (iblk m c 1 t) D) :
    R2 (a := 512) (b := 1024) (outsAt0 m c t.val t.isLt).1 (fun i j => D i j + rmsb (X i) (H i) (G 0) j) := by
  rw [outsAt0_A m c t h]
  frame_out
  simp only [readCov_whole, ReadAs.apply_same]
  exact pay5_R hg hh hx hd

theorem later_dg (t : Fin cfg0.N) (h : ¬t.val % 16 = 0) {X H G : ℕ → ℕ → ℝ} (hh : R2 (hid (iblk m c 0 t) (V m c main_v2)) H)
    (hx : R2 (a := 512) (b := 1024) (iblk m c 2 t) X) (hp : R2 (a := 1) (b := 1024) (prev m c t).2.1 G) :
    R2 (a := 1) (b := 1024) (outsAt0 m c t.val t.isLt).2.1 (fun _ j => G 0 j + ∑ r : Fin 512, X r j * rs (X r) * H r j) := by
  rw [outsAt0_B m c t h]
  frame_out
  simp only [(Memref.isWhole_whole _).read_unread, scratch]
  exact pay4_R hh hx hp

theorem later_dx (t : Fin cfg0.N) (h : ¬t.val % 16 = 0) {X H G D : ℕ → ℕ → ℝ} (hg : R2 (a := 1) (b := 1024) (iblk m c 3 t) G) (hh : R2 (hid (iblk m c 0 t) (V m c main_v2)) H)
    (hx : R2 (a := 512) (b := 1024) (iblk m c 2 t) X) (hd : R2 (a := 512) (b := 1024) (iblk m c 1 t) D) :
    R2 (a := 512) (b := 1024) (outsAt0 m c t.val t.isLt).1 (fun i j => D i j + rmsb (X i) (H i) (G 0) j) := by
  rw [outsAt0_B m c t h]
  frame_out
  simp only [(Memref.isWhole_whole _).read_unread, scratch]
  exact pay5_R hg hh hx hd

/-! The arrays the region reads. -/

variable {m c} {A : Args} (E : IsArgs A (m ⟨c, main_arg0⟩) (m ⟨c, main_arg1⟩) (m ⟨c, main_arg2⟩) (m ⟨c, main_arg3⟩) (m ⟨c, main_arg4⟩))

/-- The shards of the weights. -/
def shards (v : FVec Ideal S1024x6144 .f32) : FVec Ideal S4x1024x1536 .bf16 :=
  truncf .bf16 (transpose S4x1024x1536 [1, 0, 2] (shapeCast S1024x4x1536 v shapeCasts_S1024x6144_S1024x4x1536)
    transposes_S1024x4x1536_S4x1024x1536_1_0_2) bitsLt_bf16_f32

theorem shards_R {v : FVec Ideal S1024x6144 .f32} {X : ℕ → ℕ → ℝ} (h : R2 v X) : R3 (shards v) (fun j d q => X d (1536 * j + q)) := by
  intro j d q
  pointwise [shards]
  rw [Nat.mul_comm 1536]
  exact h _ _

theorem row_R {v : FVec Ideal S1024 .f32} {X : ℕ → ℝ} (h : R1 v X) : R2 (shapeCast S1x1024 v shapeCasts_S1024_S1x1024) (fun _ j => X j) := by
  intro i j
  pointwise
  exact h _

theorem host_w : V m c main_v2 = shards (m ⟨c, main_arg4⟩) := rfl

theorem host_g : V m c main_v4 = shapeCast S1x1024 (m ⟨c, main_arg3⟩ : Vec Ideal S1024 .f32) shapeCasts_S1024_S1x1024 := rfl

include E

theorem block_w : R3 (a := 4) (b := 1024) (c := 1536) (V m c main_v2) (fun j d q => A.w d (1536 * j + q)) := host_w ▸ shards_R E.h4

theorem block_dpj (t : Fin cfg0.N) : R2 (a := 512) (b := 6144) (iblk m c 0 t) (fun i k => A.dpj (512 * t.val + i) k) := fun i k =>
  Eq.trans (by blk_ext [iblk, V, index t]) ((E.h0 : R2 (a := 8192) (b := 6144) (V m c main_v3) A.dpj) ⟨512 * t.val + i, by have : t.val < 16 := t.isLt; omega⟩ k)

theorem block_dres (t : Fin cfg0.N) : R2 (a := 512) (b := 1024) (iblk m c 1 t) (fun i k => A.dres (512 * t.val + i) k) := fun i k =>
  Eq.trans (by blk_ext [iblk, V, index t]) (E.h1 ⟨512 * t.val + i, by have : t.val < 16 := t.isLt; omega⟩ k)

theorem block_x (t : Fin cfg0.N) : R2 (a := 512) (b := 1024) (iblk m c 2 t) (fun i k => A.x (512 * t.val + i) k) := fun i k =>
  Eq.trans (by blk_ext [iblk, V, index t]) (E.h2 ⟨512 * t.val + i, by have : t.val < 16 := t.isLt; omega⟩ k)

theorem block_g (t : Fin cfg0.N) : R2 (a := 1) (b := 1024) (iblk m c 3 t) (fun _ k => A.g k) := fun i k =>
  Eq.trans (by blk_ext [iblk, V, index t]) ((host_g (m := m) (c := c) ▸ row_R E.h3 : R2 (a := 1) (b := 1024) (V m c main_v4) (fun _ k => A.g k)) i k)

theorem block_hid (t : Fin cfg0.N) : R2 (hid (iblk m c 0 t) (V m c main_v2)) (fun i d => A.dh (512 * t.val + i) d) :=
  hid_R (block_dpj E t) (block_w E)

/-! What the points leave. -/

theorem point_dx (t : Fin cfg0.N) : R2 (a := 512) (b := 1024) (outsAt0 m c t.val t.isLt).1 (fun i j => A.dx (512 * t.val + i) j) := by
  by_cases h : t.val % 16 = 0
  · exact first_dx m c t h (block_g E t) (block_hid E t) (block_x E t) (block_dres E t)
  · exact later_dx m c t h (block_g E t) (block_hid E t) (block_x E t) (block_dres E t)

omit E in
/-- One row's part of the gain's gradient. -/
def term (A : Args) (t j : ℕ) : ℝ := A.x t j * rs (A.x t) * A.dh t j

theorem point_dg : ∀ (n : ℕ) (hn : n < cfg0.N), R2 (a := 1) (b := 1024) (outsAt0 m c n hn).2.1 (fun _ j => ∑ s ∈ Finset.range (n + 1), ∑ r : Fin 512, term A (512 * s + r) j)
  | 0, hn => by
    simp only [zero_add, Finset.sum_range_one]
    exact (first_dg m c ⟨0, hn⟩ rfl (block_hid E _) (block_x E _) (G := fun _ _ => 0)).of fun i j _ _ => zero_add _
  | n + 1, hn => by
    have hlt : n + 1 < 16 := hn
    exact (later_dg m c ⟨n + 1, hn⟩ (by show ¬(n + 1) % 16 = 0; omega) (block_hid E _) (block_x E _) (point_dg n (by omega))).of
      fun i j _ _ => (Finset.sum_range_succ _ (n + 1)).symm

omit E in
/-- The last point of the grid. -/
def lastPt : Fin grid0.N := ⟨15, by decide⟩

omit E in
theorem last_whole : win0_5.WholeAt lastPt := by decide +kernel

theorem arr_dx : R2 (a := 8192) (b := 1024) ((dats m 0 c).arrAt 4 cfg0.N) A.dx := by
  rw [show (dats m 0 c).arrAt 4 cfg0.N = (fun y => ((A.dx (y 0).val (y 1).val : ℝ) : EReal)) from ?_]
  · exact fun i j => rfl
  refine (dats m 0 c).arrAt_eq_of_covers 4 _ (by decide +kernel) fun t hf y => ?_
  blk_simp
  rw [after0_4]
  have e := point_dx E t (y 0) (y 1)
  rw [← eq_ix2 y] at e
  rw [e]
  blk_simp [index t]
  rw [Nat.mul_comm 512]

theorem arr_dg : R2 (a := 1) (b := 1024) ((dats m 0 c).arrAt 5 cfg0.N) (fun _ j => A.dg j) := by
  rw [show (dats m 0 c).arrAt 5 cfg0.N = (fun y => ((A.dg (y 1).val : ℝ) : EReal)) from ?_]
  · exact fun i j => rfl
  refine (dats m 0 c).arrAt_eq_of_after_last 5 lastPt last_whole _ fun y => ?_
  blk_simp
  rw [after0_5]
  have e := point_dg E lastPt.val lastPt.isLt (y 0) (y 1)
  rw [← eq_ix2 y] at e
  refine e.trans (congrArg _ ?_)
  show ∑ s ∈ Finset.range 16, ∑ r : Fin 512, term A (512 * s + r) (y 1) = ∑ t : Fin 8192, term A t (y 1)
  rw [← Finset.sum_range (fun t => term A t (y 1)), show (8192 : ℕ) = 16 * 512 from rfl, Finset.sum_range_mul_split]
  simp only [Finset.sum_range, mul_comm (512 : ℕ)]

end

/-! The claims. -/

theorem frame_reference : Cert.quiescent_ReferenceRetIdeal := fun m ρ _ =>
  (θ_run Cert.ReferenceRetIdeal.defs _ _).mono
    (fun r h => ⟨fun c => (h c).2.2, sem_eq_zero_of_no_sems rfl r.2⟩) (Cert.ReferenceRetIdeal.Value.run m ρ)

open Cert.ReferenceRetIdeal.Read in
/-- On finite arguments the kernel and the reference return the same arrays. -/
theorem same : Cert.algebraic_KernelRetIdeal_ReferenceRetIdeal_pre_finite_ret := by
  intro m ρ m' ρ' pre agree
  refine ⟨_, _, (θ_run Cert.KernelRetIdeal.defs _ _).mono
    (fun r h c => ⟨(h c).1.trans (eq_of_R2 (arr_dx (isArgs (pre c))) (v38_R (isArgs (pre c)))),
      (h c).2.1.trans (eq_of_R2 (arr_dg (isArgs (pre c))) (v39_R (isArgs (pre c)))), (h c).2.2⟩) (Cert.KernelRetIdeal.Value.run_blocks m ρ),
    (θ_run Cert.ReferenceRetIdeal.defs _ _).mono (fun r h c => ?_) (Cert.ReferenceRetIdeal.Value.run m' ρ')⟩
  have e := h c
  rw [val_main_v38_eq, val_main_v39_eq] at e
  obtain ⟨a0, a1, a2, a3, a4⟩ := agree c
  simp only [← a0, ← a1, ← a2, ← a3, ← a4]
  exact e

end Cert.Ret
-- ==== Proof.ProjRef.lean ====
module

public import Idealize.ShloMosaic.Lib.Pipeline.ValueKit
public import proofs.«01_k».proof.Proof.Gen.ReferenceProjIdeal.Read

/-!
The retention's normalisation, input projection and rotary turning: what the reference computes, as functions of the
numbers of row and column.
-/

@[expose] public section

set_option maxRecDepth 16384

noncomputable section

namespace Cert.Proj

open Idealize.ShloMosaic Idealize.ShloMosaic.TcCoe Idealize.ShloMosaic.Tactic

/-- An array that is a function of the numbers of its row and column. -/
def E2 {a b : ℕ} (v : (⟨2, ![a, b]⟩ : Shape).Idx → EReal) (X : ℕ → ℕ → EReal) : Prop := ∀ (i : Fin a) (j : Fin b), v (ix2 i j) = X i j

def E3 {a b c : ℕ} (v : (⟨3, ![a, b, c]⟩ : Shape).Idx → EReal) (X : ℕ → ℕ → ℕ → EReal) : Prop :=
  ∀ (i : Fin a) (j : Fin b) (k : Fin c), v (ix3 i j k) = X i j k

/-- An array as a function of the numbers of row and column, zero outside. -/
def ext {a b : ℕ} (v : (⟨2, ![a, b]⟩ : Shape).Idx → EReal) (i j : ℕ) : EReal :=
  if h : i < a ∧ j < b then v (ix2 ⟨i, h.1⟩ ⟨j, h.2⟩) else 0

theorem ext_E {a b : ℕ} (v : (⟨2, ![a, b]⟩ : Shape).Idx → EReal) : E2 v (ext v) := by
  intro i j
  unfold ext
  rw [dif_pos (And.intro i.isLt j.isLt)]

/-- An entry of the product with the weights. -/
def prod (H W : ℕ → ℕ → EReal) (i q : ℕ) : EReal := ∑ d : Fin 1024, H i d * W d q

/-- The two halves of a block of 256 columns of the queries and keys, turned by the angle of row and column. -/
def turned (P C S : ℕ → ℕ → EReal) (i q : ℕ) : EReal :=
  if q % 256 < 128 then P i q * C i (q % 256) - P i (q + 128) * S i (q % 256)
  else P i q * C i (q % 256 - 128) + P i (q - 128) * S i (q % 256 - 128)

/-- The projected rows: the queries turned and scaled, the keys turned, the values and the gate as they are. -/
def out (w : EReal) (P C S : ℕ → ℕ → EReal) (i q : ℕ) : EReal :=
  if q < 1024 then turned P C S i q * w else if q < 2048 then turned P C S i q else P i q

section

open Cert.ReferenceProjIdeal Cert.ReferenceProjIdeal.Gen Cert.ReferenceProjIdeal.Read

variable [Cert.ReferenceProjIdeal.Facts]

variable (x0 : Vec Ideal S8192x1024 .f32) (x1 : Vec Ideal S1024 .f32) (x2 : Vec Ideal S1024x6144 .f32) (x3 : Vec Ideal S8192 .i32)

/-- The product, from the normalised rows of the reference. -/
abbrev P := prod (ext (a := 8192) (b := 1024) (val_main_v12 (F := Ideal) x0 x1)) (ext (a := 1024) (b := 6144) x2)

abbrev C := ext (a := 8192) (b := 128) (val_main_v35 (F := Ideal) x3)

abbrev S := ext (a := 8192) (b := 128) (val_main_v37 (F := Ideal) x3)

theorem v12_E (i : Fin 8192) (j : Fin 1024) : val_main_v12 (F := Ideal) x0 x1 (ix2 i j) = ext (a := 8192) (b := 1024) (val_main_v12 (F := Ideal) x0 x1) i j := ext_E _ i j

theorem x2_E (i : Fin 1024) (j : Fin 6144) : x2 (ix2 i j) = ext (a := 1024) (b := 6144) x2 i j := ext_E _ i j

theorem v35_E (i : Fin 8192) (j : Fin 128) : val_main_v35 (F := Ideal) x3 (ix2 i j) = C x3 i j := ext_E _ i j

theorem v37_E (i : Fin 8192) (j : Fin 128) : val_main_v37 (F := Ideal) x3 (ix2 i j) = S x3 i j := ext_E _ i j

theorem v71_eq : val_main_v71 (F := Ideal) x3 = val_main_v35 x3 := rfl

theorem v73_eq : val_main_v73 (F := Ideal) x3 = val_main_v37 x3 := rfl

theorem v13_E (i : Fin 8192) (j : Fin 6144) : val_main_v13 (F := Ideal) x0 x1 x2 (ix2 i j) = P x0 x1 x2 i j := by
  pointwise [val_main_v13]
  simp only [v12_E, x2_E, prod]

/-- The queries (`256 n` columns before the block) turned, first and second half. -/
theorem v45_E (i : Fin 8192) (n : Fin 4) (j : Fin 128) : val_main_v45 (F := Ideal) x0 x1 x2 x3 (ix3 i n j) =
    turned (P x0 x1 x2) (C x3) (S x3) i (256 * n + j) := by
  pointwise [val_main_v45, val_main_v42, val_main_v44, val_main_v40, val_main_v41, val_main_v39, val_main_v43, val_main_v36, val_main_v38, val_main_v18, val_main_v14]
  simp only [v13_E, v35_E, v37_E]
  have hj := j.isLt
  rw [turned, if_pos (by omega)]
  congr 3 <;> omega

theorem v50_E (i : Fin 8192) (n : Fin 4) (j : Fin 128) : val_main_v50 (F := Ideal) x0 x1 x2 x3 (ix3 i n j) =
    turned (P x0 x1 x2) (C x3) (S x3) i (256 * n + (j + 128)) := by
  pointwise [val_main_v50, val_main_v47, val_main_v49, val_main_v40, val_main_v41, val_main_v39, val_main_v46, val_main_v48, val_main_v36, val_main_v38, val_main_v18, val_main_v14]
  simp only [v13_E, v35_E, v37_E]
  have hj := j.isLt
  rw [turned, if_neg (by omega)]
  congr 3 <;> omega

theorem v53_E (i : Fin 8192) (n : Fin 4) (j : Fin 256) : val_main_v53 (F := Ideal) x0 x1 x2 x3 (ix3 i n j) =
    turned (P x0 x1 x2) (C x3) (S x3) i (256 * n + j) * Ideal.ofBits .f32 0x3D800000#32 := by
  pointwise [val_main_v53, val_main_v51, val_main_v52, val_main_cst_6]
  simp only [v45_E, v50_E]
  split_ifs with h
  · rfl
  · rw [Nat.sub_add_cancel (by omega)]

theorem v88_E (i : Fin 8192) (j : Fin 1024) : val_main_v88 (F := Ideal) x0 x1 x2 x3 (ix2 i j) =
    turned (P x0 x1 x2) (C x3) (S x3) i j * Ideal.ofBits .f32 0x3D800000#32 := by
  pointwise [val_main_v88]
  simp only [v53_E, Nat.div_add_mod]

/-- The keys. -/
theorem v81_E (i : Fin 8192) (n : Fin 4) (j : Fin 128) : val_main_v81 (F := Ideal) x0 x1 x2 x3 (ix3 i n j) =
    turned (P x0 x1 x2) (C x3) (S x3) i (1024 + (256 * n + j)) := by
  pointwise [val_main_v81, val_main_v78, val_main_v80, val_main_v76, val_main_v77, val_main_v75, val_main_v79, val_main_v72, val_main_v74, v71_eq, v73_eq, val_main_v54, val_main_v15]
  simp only [v13_E, v35_E, v37_E]
  have hj := j.isLt
  rw [turned, if_pos (by omega)]
  congr 3 <;> omega

theorem v86_E (i : Fin 8192) (n : Fin 4) (j : Fin 128) : val_main_v86 (F := Ideal) x0 x1 x2 x3 (ix3 i n j) =
    turned (P x0 x1 x2) (C x3) (S x3) i (1024 + (256 * n + (j + 128))) := by
  pointwise [val_main_v86, val_main_v83, val_main_v85, val_main_v76, val_main_v77, val_main_v75, val_main_v82, val_main_v84, val_main_v72, val_main_v74, v71_eq, v73_eq, val_main_v54, val_main_v15]
  simp only [v13_E, v35_E, v37_E]
  have hj := j.isLt
  rw [turned, if_neg (by omega)]
  congr 3 <;> omega

theorem v89_E (i : Fin 8192) (j : Fin 1024) : val_main_v89 (F := Ideal) x0 x1 x2 x3 (ix2 i j) =
    turned (P x0 x1 x2) (C x3) (S x3) i (1024 + j) := by
  pointwise [val_main_v89, val_main_v87]
  simp only [v81_E, v86_E]
  split_ifs with h
  · rw [Nat.div_add_mod]
  · rw [Nat.sub_add_cancel (by omega), Nat.div_add_mod]

/-- The projected rows of the reference. -/
theorem v91_E : E2 (a := 8192) (b := 6144) (val_main_v91 (F := Ideal) x0 x1 x2 x3) (out (Ideal.ofBits .f32 0x3D800000#32) (P x0 x1 x2) (C x3) (S x3)) := by
  intro i j
  pointwise [val_main_v91, val_main_v90, val_main_v16, val_main_v17]
  simp only [v88_E, v89_E, v13_E]
  have hj := j.isLt
  unfold out
  split_ifs
  all_goals first | omega | with_reducible rfl | (refine congrArg _ ?_; omega)

end

end Cert.Proj
-- ==== Proof.Proj.lean ====
module

public import proofs.«01_k».proof.Proof.ProjRef
public import proofs.«01_k».proof.Proof.First
public import proofs.«01_k».proof.Proof.Finite
public import Idealize.ShloMosaic.Lib.Pipeline.ValueKit
public import proofs.«01_k».proof.Proof.Gen.KernelProjIdeal.Value
public import proofs.«01_k».proof.Proof.Gen.ReferenceProjIdeal.Run
public import proofs.«01_k».proof.Defs

/-!
The forward pass of the retention's normalisation and input projection: 512 rows at a time, the weights copied once, the
queries and keys turned by the angles of the positions.
-/

@[expose] public section

set_option maxRecDepth 16384

noncomputable section

namespace Cert.Proj

open Idealize.ShloMosaic Idealize.ShloMosaic.TcCoe Idealize.ShloMosaic.Tactic Idealize.SL.Sem Cert.Mlp

section

open Cert.KernelProjIdeal Cert.KernelProjIdeal.Gen

variable [Cert.KernelProjIdeal.Facts]

theorem prod_E {h : FVec Ideal S512x1024 .bf16} {v : Vec Ideal S1x1024x1536 .bf16} {H : ℕ → ℕ → EReal} {W : ℕ → ℕ → ℕ → EReal} (hh : E2 h H) (hv : E3 v W) :
    E2 (k0_pay1 h v) (prod H (W 0)) := by
  intro i q
  pointwise [k0_pay1]
  simp only [hh _ _, hv _ _ _, prod, Fin.val_zero]

theorem pieceE {a b a' b' p q : ℕ} {v : (⟨2, ![a', b']⟩ : Shape).Idx → EReal} {X : ℕ → ℕ → EReal}
    (inb : ∀ x, (![p, q] : Fin 2 → ℕ) x + (![a', b'] : Fin 2 → ℕ) x ≤ (![a, b] : Fin 2 → ℕ) x) (h : E2 v (fun i j => X (p + i) (q + j)))
    (x : (⟨2, ![a', b']⟩ : Shape).Idx) :
    v x = (fun y : (⟨2, ![a, b]⟩ : Shape).Idx => X (y 0).val (y 1).val) ((Rect.unit (s := ⟨2, ![a, b]⟩) ![p, q] ![a', b'] inb).emb x) := by
  refine (congrArg v (eq_ix2 x)).trans ((h _ _).trans ?_)
  exact congrArg₂ X (congrArg (p + ·) (Nat.one_mul _).symm) (congrArg (q + ·) (Nat.one_mul _).symm)

theorem ldE {a b c a' b' c' p q r : ℕ} {v : Vec Ideal ⟨3, ![a, b, c]⟩ .bf16} {X : ℕ → ℕ → ℕ → EReal}
    (inb : ∀ x, (![p, q, r] : Fin 3 → ℕ) x + (![a', b', c'] : Fin 3 → ℕ) x ≤ (![a, b, c] : Fin 3 → ℕ) x)
    (h : E3 v X) :
    E3 (a := a') (b := b') (c := c') (View.ld (S := ⟨3, ![a, b, c]⟩) (Val := Elt Ideal) (e' := .bf16) v (Rect.unit ![p, q, r] ![a', b', c'] inb))
      (fun i j k => X (p + i) (q + j) (r + k)) := by
  intro i j k
  have e := h ⟨p + i, lt_of_lt_of_le (Nat.add_lt_add_left i.isLt p) (inb 0)⟩ ⟨q + j, lt_of_lt_of_le (Nat.add_lt_add_left j.isLt q) (inb 1)⟩ ⟨r + k, lt_of_lt_of_le (Nat.add_lt_add_left k.isLt r) (inb 2)⟩
  refine Eq.trans ?_ e
  refine congrArg v (funext fun x => Fin.ext ?_)
  fin_cases x <;> exact congrArg (_ + ·) (Nat.one_mul _)

theorem canon_of {s : Shape} {e : EltTy} {L : List (View.Piece (Elt Ideal) s e)} (G : s.Idx → Elt Ideal e) (h : View.PiecesOf G L)
    (hc : ∀ y, ∃ p ∈ L, y ∈ p.1.set) : View.canon L = G :=
  funext fun y => (congrArg (fun l => View.canon l y) (List.append_nil L).symm).trans (View.canon_append_of_piecesOf G [] L h y (hc y))

variable (m : (ℓ : Loc nD τ sig) → Buf (Elt Ideal) ℓ) (c : Dev nD)

theorem first_scratch (t : Fin cfg0.N) (h : t.val % 16 = 0) : (outsAt0 m c t.val t.isLt).2.2 = V m c main_v18 := by
  rw [outsAt0_A m c t h]
  frame_out
  funext y
  have e := View.canon_cons_emb (Val := Elt Ideal) (Rect.whole S4x1024x1536) (ReadAs.same.apply (View.read (Elt Ideal) (View.whole main_v18) (V m c main_v18))) [] y
  rw [Rect.emb_whole_apply] at e
  exact e

/-- The point before. -/
abbrev prev (t : Fin cfg0.N) := outsAt0 m c (t.val - 1) (Nat.lt_of_le_of_lt (Nat.sub_le _ _) t.isLt)

theorem later_scratch (t : Fin cfg0.N) (h : ¬t.val % 16 = 0) : (outsAt0 m c t.val t.isLt).2.2 = (prev m c t).2.2 := by
  rw [outsAt0_B m c t h]
  rfl

theorem scratch : ∀ (n : ℕ) (hn : n < cfg0.N), (outsAt0 m c n hn).2.2 = V m c main_v18
  | 0, hn => first_scratch m c ⟨0, hn⟩ rfl
  | n + 1, hn => by
    have hlt : n + 1 < 16 := hn
    exact (later_scratch m c ⟨n + 1, hn⟩ (by show ¬(n + 1) % 16 = 0; omega)).trans (scratch n (by omega))

theorem point_h (t : Fin cfg0.N) : (outsAt0 m c t.val t.isLt).2.1 = k0_pay8 (iblk m c 0 t) (iblk m c 1 t) := by
  by_cases h : t.val % 16 = 0
  · rw [outsAt0_A m c t h]
    frame_out
  · rw [outsAt0_B m c t h]
    frame_out

theorem pay11_eq (x : Vec Ideal S512x1024 .f32) (g : Vec Ideal S1x1024 .f32) (v : Vec Ideal S1x1024x1536 .bf16) : k0_pay11 x g v = k0_pay1 (k0_pay8 x g) v := rfl

theorem pay46_eq (h : FVec Ideal S512x1024 .bf16) (v : Vec Ideal S1x1024x1536 .bf16) : k0_pay46 h v = k0_pay1 h v := rfl

theorem pay61_eq (h : FVec Ideal S512x1024 .bf16) (v : Vec Ideal S1x1024x1536 .bf16) : k0_pay61 h v = k0_pay1 h v := rfl

theorem shardE {k : ℕ} {h : FVec Ideal S512x1024 .bf16} {w : Vec Ideal S4x1024x1536 .bf16} {H W : ℕ → ℕ → EReal}
    (inb : ∀ x, (![k, 0, 0] : Fin 3 → ℕ) x + (![1, 1024, 1536] : Fin 3 → ℕ) x ≤ (![4, 1024, 1536] : Fin 3 → ℕ) x) (hh : E2 h H)
    (hw : E3 w (fun k d q => W d (1536 * k + q))) :
    E2 (k0_pay1 h (View.ld w (Rect.unit ![k, 0, 0] ![1, 1024, 1536] inb))) (fun i q => prod H W i (1536 * k + q)) := fun i q =>
  (prod_E hh (ldE inb hw) i q).trans (by simp only [prod, Nat.zero_add, Nat.add_zero])

set_option maxHeartbeats 3000000 in
theorem point_pj (t : Fin cfg0.N) {H C S : ℕ → ℕ → EReal} {W : ℕ → ℕ → EReal} (hh : E2 (k0_pay8 (iblk m c 0 t) (iblk m c 1 t)) H)
    (hc : E2 (k0_pay9 (iblk m c 2 t)) C) (hs : E2 (k0_pay10 (iblk m c 3 t)) S) (hw : E3 (a := 4) (b := 1024) (c := 1536) (V m c main_v18) (fun k d q => W d (1536 * k + q))) :
    (outsAt0 m c t.val t.isLt).1 = fun y => out (Ideal.ofBits .f32 0x3D800000#32) (prod H W) C S (y 0).val (y 1).val := by
  have p0 := shardE inb_S4x1024x1536_S1x1024x1536_0_0_0 hh hw
  have hw' : E3 (a := 4) (b := 1024) (c := 1536) (ReadAs.same.apply (View.read (Elt Ideal) (View.whole main_v18) (V m c main_v18))) (fun k d q => W d (1536 * k + q)) := hw
  have a0 := shardE inb_S4x1024x1536_S1x1024x1536_0_0_0 hh hw'
  have a1 := shardE inb_S4x1024x1536_S1x1024x1536_1_0_0 hh hw'
  have a2 := shardE inb_S4x1024x1536_S1x1024x1536_2_0_0 hh hw'
  have a3 := shardE inb_S4x1024x1536_S1x1024x1536_3_0_0 hh hw'
  have p1 := shardE inb_S4x1024x1536_S1x1024x1536_1_0_0 hh hw
  have p2 := shardE inb_S4x1024x1536_S1x1024x1536_2_0_0 hh hw
  have p3 := shardE inb_S4x1024x1536_S1x1024x1536_3_0_0 hh hw
  by_cases h : t.val % 16 = 0
  on_goal 1 => rw [outsAt0_A m c t h]; frame_out; simp only [readCov_whole, ReadAs.apply_same]
  on_goal 2 => rw [outsAt0_B m c t h]; frame_out; simp only [(Memref.isWhole_whole _).read_unread, scratch]
  all_goals
    refine canon_of (e := .bf16) (fun y : S512x6144.Idx => out (Ideal.ofBits .f32 0x3D800000#32) (prod H W) C S (y 0).val (y 1).val) ?_ (fun y => View.cover_of_tiledBy _ ![512, 128] (by sl_kernel_rfl) y)
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
    all_goals
      refine pieceE (by decide) fun i j => ?_
      pointwise [k0_pay2, k0_pay3, k0_pay4, k0_pay5, k0_pay6, k0_pay7, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, pay11_eq, pay46_eq, pay61_eq]
      simp only [p0 _ _, p1 _ _, p2 _ _, p3 _ _, a0 _ _, a1 _ _, a2 _ _, a3 _ _, hc _ _, hs _ _]
      have hj := j.isLt
      unfold out turned
      split_ifs
      all_goals first | omega | (congr 4 <;> omega) | (congr 3 <;> omega) | (congr 1; omega)

/-! The arrays the region reads. -/

theorem index : ∀ t : Fin grid0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] := by decide +kernel

/-- The angles of rows and columns. -/
def angle (p : Vec Ideal S8192 .i32) : FVec Ideal S8192x128 .f32 :=
  mulf (broadcastInDim S8192x128 ![0, 1] bcast_S8192x1_S8192x128_0_1 (shapeCast S8192x1 (sitofp (F := Ideal) .f32 p) shapeCasts_S8192_S8192x1))
    (broadcastInDim S8192x128 ![0, 1] bcast_S1x128_S8192x128_0_1 (shapeCast S1x128 (Cert.ReferenceProjIdeal.Read.val_main_v28 (F := Ideal)) shapeCasts_S128_S1x128))

theorem host_cos : V m c main_v20 = Host.cos (angle (m ⟨c, main_arg3⟩)) := rfl

theorem host_sin : V m c main_v21 = Host.sin (angle (m ⟨c, main_arg3⟩)) := rfl

/-- The weights, their columns in four shards. -/
def shards (v : FVec Ideal S1024x6144 .f32) : FVec Ideal S4x1024x1536 .bf16 :=
  truncf .bf16 (transpose S4x1024x1536 [1, 0, 2] (shapeCast S1024x4x1536 v shapeCasts_S1024x6144_S1024x4x1536) transposes_S1024x4x1536_S4x1024x1536_1_0_2) bitsLt_bf16_f32

theorem host_w : V m c main_v18 = shards (m ⟨c, main_arg2⟩) := rfl

theorem host_g : V m c main_v19 = shapeCast S1x1024 (m ⟨c, main_arg1⟩ : Vec Ideal S1024 .f32) shapeCasts_S1024_S1x1024 := rfl

open Cert.ReferenceProjIdeal.Read in
theorem angle_eq (p : Vec Ideal S8192 .i32) : angle p = val_main_v34 (F := Ideal) p := by
  funext y
  rw [eq_ix2 y]
  pointwise [angle, val_main_v34, val_main_v32, val_main_v33, val_main_v31, val_main_v30, val_main_v29]

theorem block_w : E3 (a := 4) (b := 1024) (c := 1536) (V m c main_v18) (fun k d q => ext (a := 1024) (b := 6144) (m ⟨c, main_arg2⟩) d (1536 * k + q)) := by
  intro k d q
  rw [host_w]
  pointwise [shards]
  rw [Nat.mul_comm 1536]
  exact ext_E _ _ _

theorem block_x (t : Fin cfg0.N) (i : Fin 512) (j : Fin 1024) : iblk m c 0 t (ix2 i j) =
    (m ⟨c, main_arg0⟩ : Vec Ideal S8192x1024 .f32) (ix2 ⟨512 * t.val + i, by have : t.val < 16 := t.isLt; omega⟩ j) := by
  blk_ext [iblk, V, index t]

theorem block_g (t : Fin cfg0.N) (i : Fin 1) (j : Fin 1024) : iblk m c 1 t (ix2 i j) = (m ⟨c, main_arg1⟩ : Vec Ideal S1024 .f32) (ix1 j) := by
  refine Eq.trans (b := V m c main_v19 (ix2 i j)) (by blk_ext [iblk, V, index t]) ?_
  rw [host_g]
  pointwise

open Cert.ReferenceProjIdeal.Read in
theorem block_cos (t : Fin cfg0.N) : E2 (k0_pay9 (iblk m c 2 t)) (fun i j => C (m ⟨c, main_arg3⟩) (512 * t.val + i) j) := by
  intro i j
  have ht : t.val < 16 := t.isLt
  refine Eq.trans ?_ (ext_E (val_main_v35 (F := Ideal) (m ⟨c, main_arg3⟩)) ⟨512 * t.val + i, by omega⟩ j)
  rw [show val_main_v35 (F := Ideal) (m ⟨c, main_arg3⟩) = V m c main_v20 from (congrArg Host.cos (angle_eq _)).symm]
  pointwise [k0_pay9]
  blk_ext [iblk, V, index t]

open Cert.ReferenceProjIdeal.Read in
theorem block_sin (t : Fin cfg0.N) : E2 (k0_pay10 (iblk m c 3 t)) (fun i j => S (m ⟨c, main_arg3⟩) (512 * t.val + i) j) := by
  intro i j
  have ht : t.val < 16 := t.isLt
  refine Eq.trans ?_ (ext_E (val_main_v37 (F := Ideal) (m ⟨c, main_arg3⟩)) ⟨512 * t.val + i, by omega⟩ j)
  rw [show val_main_v37 (F := Ideal) (m ⟨c, main_arg3⟩) = V m c main_v21 from (congrArg Host.sin (angle_eq _)).symm]
  pointwise [k0_pay10]
  blk_ext [iblk, V, index t]

open Cert.ReferenceProjIdeal.Read in
/-- The normalised rows of a block are the reference's. -/
theorem block_h (t : Fin cfg0.N) : E2 (k0_pay8 (iblk m c 0 t) (iblk m c 1 t))
    (fun i j => ext (a := 8192) (b := 1024) (val_main_v12 (F := Ideal) (m ⟨c, main_arg0⟩) (m ⟨c, main_arg1⟩)) (512 * t.val + i) j) := by
  intro i j
  have ht : t.val < 16 := t.isLt
  refine Eq.trans ?_ (ext_E (val_main_v12 (F := Ideal) (m ⟨c, main_arg0⟩) (m ⟨c, main_arg1⟩)) ⟨512 * t.val + i, by omega⟩ j)
  pointwise [k0_pay8, val_main_v12, val_main_v11, val_main_v10, val_main_v9, val_main_v8, val_main_v7, val_main_v6, val_main_v5, val_main_cst_1, val_main_v4, val_main_v3,
    val_main_cst_0, val_main_v2, val_main_v1, val_main_cst, val_main_v0]
  simp only [block_x, block_g, bits_zero, EReal.coe_zero, zero_add]

open Cert.ReferenceProjIdeal.Read in
theorem arr_pj : (dats m 0 c).arrAt 4 cfg0.N =
    (val_main_v91 (F := Ideal) (m ⟨c, main_arg0⟩) (m ⟨c, main_arg1⟩) (m ⟨c, main_arg2⟩) (m ⟨c, main_arg3⟩) : Vec Ideal S8192x6144 .bf16) := by
  refine (dats m 0 c).arrAt_eq_of_covers 4 _ (by decide +kernel) fun t hf y => ?_
  blk_simp
  rw [after0_4, point_pj m c t (block_h m c t) (block_cos m c t) (block_sin m c t) (block_w m c)]
  have ht : t.val < 16 := t.isLt
  have e := v91_E (m ⟨c, main_arg0⟩) (m ⟨c, main_arg1⟩) (m ⟨c, main_arg2⟩) (m ⟨c, main_arg3⟩) ⟨512 * t.val + (y 0).val, by have := (y 0).isLt; simp at this; omega⟩ (y 1)
  refine Eq.trans (Eq.trans ?_ e.symm) ?_
  · rfl
  · blk_ext [index t]

open Cert.ReferenceProjIdeal.Read in
theorem arr_h : (dats m 0 c).arrAt 5 cfg0.N =
    (val_main_v92 (F := Ideal) (m ⟨c, main_arg0⟩) (m ⟨c, main_arg1⟩) : Vec Ideal S8192x1024 .bf16) := by
  refine (dats m 0 c).arrAt_eq_of_covers 5 _ (by decide +kernel) fun t hf y => ?_
  blk_simp
  rw [after0_5, point_h m c t]
  have e := block_h m c t (y 0) (y 1)
  rw [← eq_ix2 y] at e
  refine e.trans ?_
  have ht : t.val < 16 := t.isLt
  refine (ext_E (val_main_v12 (F := Ideal) (m ⟨c, main_arg0⟩) (m ⟨c, main_arg1⟩)) ⟨512 * t.val + (y 0).val, by have := (y 0).isLt; simp at this; omega⟩ (y 1)).symm.trans ?_
  pointwise [val_main_v92]
  blk_ext [index t]

end

/-! The claims. -/

theorem frame_reference : Cert.quiescent_ReferenceProjIdeal := fun m ρ _ =>
  (θ_run Cert.ReferenceProjIdeal.defs _ _).mono
    (fun r h => ⟨fun c => (h c).2.2, sem_eq_zero_of_no_sems rfl r.2⟩) (Cert.ReferenceProjIdeal.Value.run m ρ)

open Cert.ReferenceProjIdeal.Read in
/-- The kernel and the reference return the same arrays. -/
theorem same : Cert.algebraic_KernelProjIdeal_ReferenceProjIdeal := by
  intro m ρ m' ρ' _ agree
  refine ⟨_, _, (θ_run Cert.KernelProjIdeal.defs _ _).mono
    (fun r h c => ⟨(h c).1.trans (arr_pj m c), (h c).2.1.trans (arr_h m c), (h c).2.2⟩) (Cert.KernelProjIdeal.Value.run_blocks m ρ),
    (θ_run Cert.ReferenceProjIdeal.defs _ _).mono (fun r h c => ?_) (Cert.ReferenceProjIdeal.Value.run m' ρ')⟩
  have e := h c
  rw [val_main_v91_eq, val_main_v92_eq] at e
  obtain ⟨a0, a1, a2, a3⟩ := agree c
  simp only [← a0, ← a1, ← a2, ← a3]
  exact e

end Cert.Proj
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Printed
public import proofs.«01_k».proof.Proof.Claims
public import proofs.«01_k».proof.Proof.Gen.KernelUp.Frame
public import proofs.«01_k».proof.Proof.Up
public import proofs.«01_k».proof.Proof.Gen.KernelDown.Frame
public import proofs.«01_k».proof.Proof.Down
public import proofs.«01_k».proof.Proof.Gen.KernelIn.Frame
public import proofs.«01_k».proof.Proof.In
public import proofs.«01_k».proof.Proof.Gen.KernelOut.Frame
public import proofs.«01_k».proof.Proof.Out
public import proofs.«01_k».proof.Proof.Gen.KernelRet.Frame
public import proofs.«01_k».proof.Proof.Ret
public import proofs.«01_k».proof.Proof.Gen.KernelProj.Frame
public import proofs.«01_k».proof.Proof.Proj

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.KernelUp.Gen.facts, Cert.KernelUpIdeal.Gen.facts, Cert.ReferenceUpIdeal.Gen.facts, Cert.KernelDown.Gen.facts, Cert.KernelDownIdeal.Gen.facts, Cert.ReferenceDownIdeal.Gen.facts,
    Cert.KernelIn.Gen.facts, Cert.KernelInIdeal.Gen.facts, Cert.ReferenceInIdeal.Gen.facts, Cert.KernelOut.Gen.facts, Cert.KernelOutIdeal.Gen.facts, Cert.ReferenceOutIdeal.Gen.facts,
    Cert.KernelRet.Gen.facts, Cert.KernelRetIdeal.Gen.facts, Cert.ReferenceRetIdeal.Gen.facts, Cert.KernelProj.Gen.facts, Cert.KernelProjIdeal.Gen.facts, Cert.ReferenceProjIdeal.Gen.facts,
    Cert.Mlp.preFacts, Cert.Ret.preFacts, Cert.Mlp.frame_kernel,
    Cert.Mlp.frame_ideal, fun m ρ _ => Cert.Mlp.frame_ideal m ρ trivial, Cert.Mlp.frame_reference,
    fun m ρ _ => Cert.Mlp.frame_reference m ρ trivial,
    fun m ρ _ => Cert.KernelUp.Gen.frame m ρ, fun m ρ _ => Cert.KernelUpIdeal.Gen.frame m ρ, Cert.Up.frame_reference,
    fun m ρ _ => Cert.KernelDown.Gen.frame m ρ, fun m ρ _ => Cert.KernelDownIdeal.Gen.frame m ρ, Cert.Down.frame_reference,
    fun m ρ _ => Cert.KernelIn.Gen.frame m ρ, fun m ρ _ => Cert.KernelInIdeal.Gen.frame m ρ, Cert.In.frame_reference,
    fun m ρ _ => Cert.KernelOut.Gen.frame m ρ, fun m ρ _ => Cert.KernelOutIdeal.Gen.frame m ρ, Cert.Out.frame_reference,
    fun m ρ _ => Cert.KernelRet.Gen.frame m ρ, fun m ρ _ => Cert.KernelRetIdeal.Gen.frame m ρ, fun m ρ _ => Cert.KernelRetIdeal.Gen.frame m ρ,
    Cert.Ret.frame_reference, fun m ρ _ => Cert.Ret.frame_reference m ρ trivial,
    fun m ρ _ => Cert.KernelProj.Gen.frame m ρ, fun m ρ _ => Cert.KernelProjIdeal.Gen.frame m ρ, Cert.Proj.frame_reference,
    trivial, Cert.Mlp.same, trivial, Cert.Up.same, trivial, Cert.Down.same, trivial, Cert.In.same, trivial, Cert.Out.same,
    trivial, Cert.Ret.same, trivial, Cert.Proj.same⟩

end Cert.Proof

end
